-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_hgrn_finite [hPre_hgrn_finite : Cert.Pre_hgrn_finite.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_hgrn_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_hgrn_finite [hPre_hgrn_finite : Cert.Pre_hgrn_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_hgrn_finite [hHgrnIdeal : Cert.HgrnIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_hgrn_finite m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_hgrn_finite [hHgrnRefIdeal : Cert.HgrnRefIdeal.Facts] [hPre_hgrn_finite : Cert.Pre_hgrn_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_hgrn_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v12)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v12) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v54) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Hgrn_HgrnIdeal : Prop :=
  True

def algebraic_HgrnIdeal_HgrnRefIdeal_pre_hgrn_finite [hHgrnIdeal : Cert.HgrnIdeal.Facts] [hHgrnRefIdeal : Cert.HgrnRefIdeal.Facts] [hPre_hgrn_finite : Cert.Pre_hgrn_finite.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_hgrn_finite m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v0)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v0) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v19) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)) (v5 : (c : Dev Cert.ProjIdeal.nD) → Buf (Elt Ideal) ((c.tc : Thread Cert.ProjIdeal.nD Cert.ProjIdeal.τ).loc Cert.ProjIdeal.main_v4_5)) (v6 : (c : Dev Cert.ProjIdeal.nD) → Buf (Elt Ideal) ((c.tc : Thread Cert.ProjIdeal.nD Cert.ProjIdeal.τ).loc Cert.ProjIdeal.main_v4_6)) (v7 : (c : Dev Cert.ProjIdeal.nD) → Buf (Elt Ideal) ((c.tc : Thread Cert.ProjIdeal.nD Cert.ProjIdeal.τ).loc Cert.ProjIdeal.main_v4_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_v4_5) = v5 c
          ∧ r.2.mem ((c.tc : Thread Cert.ProjIdeal.nD Cert.ProjIdeal.τ).loc Cert.ProjIdeal.main_v4_6) = v6 c
          ∧ r.2.mem ((c.tc : Thread Cert.ProjIdeal.nD Cert.ProjIdeal.τ).loc Cert.ProjIdeal.main_v4_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v50) = v0 c
          ∧ r.2.mem ((c.tc : Thread Cert.ProjRefIdeal.nD Cert.ProjRefIdeal.τ).loc Cert.ProjRefIdeal.main_v52) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v53) = v3 c
          ∧ r.2.mem ((c.tc : Thread Cert.ProjRefIdeal.nD Cert.ProjRefIdeal.τ).loc Cert.ProjRefIdeal.main_v54) = v4 c
          ∧ r.2.mem ((c.tc : Thread Cert.ProjRefIdeal.nD Cert.ProjRefIdeal.τ).loc Cert.ProjRefIdeal.main_v20) = v5 c
          ∧ r.2.mem ((c.tc : Thread Cert.ProjRefIdeal.nD Cert.ProjRefIdeal.τ).loc Cert.ProjRefIdeal.main_v60) = v6 c
          ∧ r.2.mem ((c.tc : Thread Cert.ProjRefIdeal.nD Cert.ProjRefIdeal.τ).loc Cert.ProjRefIdeal.main_v66) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v112) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hHgrn : Cert.Hgrn.Facts) (hHgrnIdeal : Cert.HgrnIdeal.Facts) (hHgrnRefIdeal : Cert.HgrnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_hgrn_finite : Cert.Pre_hgrn_finite.Facts) (hPre_merge_finite : Cert.Pre_merge_finite.Facts),
    quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Hgrn (hHgrn := hHgrn)
    ∧ quiescent_HgrnIdeal (hHgrnIdeal := hHgrnIdeal)
    ∧ quiescent_HgrnIdeal_pre_hgrn_finite (hHgrnIdeal := hHgrnIdeal) (hPre_hgrn_finite := hPre_hgrn_finite)
    ∧ quiescent_HgrnRefIdeal (hHgrnRefIdeal := hHgrnRefIdeal)
    ∧ quiescent_HgrnRefIdeal_pre_hgrn_finite (hHgrnRefIdeal := hHgrnRefIdeal) (hPre_hgrn_finite := hPre_hgrn_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Hgrn_HgrnIdeal
    ∧ algebraic_HgrnIdeal_HgrnRefIdeal_pre_hgrn_finite (hHgrnIdeal := hHgrnIdeal) (hHgrnRefIdeal := hHgrnRefIdeal) (hPre_hgrn_finite := hPre_hgrn_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal_pre_merge_finite (hMergeIdeal := hMergeIdeal) (hMergeRefIdeal := hMergeRefIdeal) (hPre_merge_finite := hPre_merge_finite)
-- ==== Pre_hgrn_finite.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) : IVec S16384x1024 1 :=
  let main_v0 : FVec F S16384x1024 .f32 := Host.absf main_arg3
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Pre_merge_finite.lean ====
abbrev S16384x1024 : Shape := ⟨2, ![16384, 1024]⟩
abbrev S16384x512 : Shape := ⟨2, ![16384, 512]⟩
abbrev S1x1024 : Shape := ⟨2, ![1, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x512x1024 : Shape := ⟨3, ![1, 512, 1024]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x1024 .f32) (main_arg2 : FVec F S16384x1024 .f32) (main_arg3 : FVec F S16384x512 .f32) (main_arg4 : FVec F S16384x1024 .f32) (main_arg5 : FVec F S16384x1024 .f32) (main_arg6 : FVec F S1x1024 .f32) (main_arg7 : FVec F S1x1024x1024 .f32) (main_arg8 : FVec F S1x4x128x128 .f32) (main_arg9 : FVec F S1x512 .f32) (main_arg10 : FVec F S1x512x1024 .f32) (main_arg11 : FVec F S1x1024x1024 .f32) : IVec S16384x512 1 :=
  let main_v0 : FVec F S16384x512 .f32 := Host.absf main_arg3
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Ffn.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Ple.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S16384x1024 : Shape := ⟨2, ![16384, 1024]⟩
abbrev S2x8192x256 : Shape := ⟨3, ![2, 8192, 256]⟩
abbrev S16384x256 : Shape := ⟨2, ![16384, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S2x8192x256, .f32⟩
  | .hbm, ⟨9, _⟩ => ⟨S16384x256, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S256x1024, .f32⟩
  | .hbm, ⟨15, _⟩ => ⟨S256x1024, .bf16⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1024 : Shape := ⟨2, ![1024, 1024]⟩
abbrev S2x8192x256 : Shape := ⟨3, ![2, 8192, 256]⟩
abbrev S256x1024 : Shape := ⟨2, ![256, 1024]⟩
abbrev S16384x1024 : Shape := ⟨2, ![16384, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S2x8192x256, .f32⟩
  | .hbm, ⟨35, _⟩ => ⟨S256x1024, .f32⟩
  | .hbm, ⟨36, _⟩ => ⟨S2x8192x1024, .f32⟩
  | .hbm, ⟨37, _⟩ => ⟨S1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S1x1x1024, .f32⟩
  | .hbm, ⟨70, _⟩ => ⟨S2x8192x1024, .f32⟩
  | .hbm, ⟨71, _⟩ => ⟨S2x8192x1024, .f32⟩
  | .hbm, ⟨72, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Hgrn.lean ====
abbrev S16384x1024 : Shape := ⟨2, ![16384, 1024]⟩
abbrev S512x192 : Shape := ⟨2, ![512, 192]⟩
abbrev S7x64x64 : Shape := ⟨3, ![7, 64, 64]⟩
abbrev S256x1024 : Shape := ⟨2, ![256, 1024]⟩
abbrev S8x128x128 : Shape := ⟨3, ![8, 128, 128]⟩
abbrev S64x1 : Shape := ⟨2, ![64, 1]⟩
abbrev S64x1024 : Shape := ⟨2, ![64, 1024]⟩
abbrev S192x1024 : Shape := ⟨2, ![192, 1024]⟩
abbrev S512x1024 : Shape := ⟨2, ![512, 1024]⟩
abbrev S1x64x64 : Shape := ⟨3, ![1, 64, 64]⟩
abbrev S64x64 : Shape := ⟨2, ![64, 64]⟩
abbrev S64x128 : Shape := ⟨2, ![64, 128]⟩
abbrev S1x1024 : Shape := ⟨2, ![1, 1024]⟩
abbrev S128x64 : Shape := ⟨2, ![128, 64]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S512x192, .bf16⟩
  | .hbm, ⟨5, _⟩ => ⟨S7x64x64, .f32⟩
  | .hbm, ⟨6, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x192, .bf16⟩
  | .local _ .vmem, ⟨9, _⟩ => ⟨S7x64x64, .f32⟩
  | .local _ .vmem, ⟨10, _⟩ => ⟨S256x1024, .f32⟩
  | .local _ .vmem, ⟨11, _⟩ => ⟨S256x1024, .f32⟩
  | .local _ .vmem, ⟨12, _⟩ => ⟨S8x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S7x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnRefIdeal.lean ====
abbrev S16384x1024 : Shape := ⟨2, ![16384, 1024]⟩
abbrev S2x8192x8x128 : Shape := ⟨4, ![2, 8192, 8, 128]⟩
abbrev S2x128x64x8x128 : Shape := ⟨5, ![2, 128, 64, 8, 128]⟩
abbrev S128x2x8x64x128 : Shape := ⟨5, ![128, 2, 8, 64, 128]⟩
abbrev S_ : Shape := ⟨0, ![]⟩
abbrev S64x64 : Shape := ⟨2, ![64, 64]⟩
abbrev S64x64x1 : Shape := ⟨3, ![64, 64, 1]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S2x8x64x1x128 : Shape := ⟨5, ![2, 8, 64, 1, 128]⟩
abbrev S2x8x1x64x128 : Shape := ⟨5, ![2, 8, 1, 64, 128]⟩
abbrev S2x8x64x64x128 : Shape := ⟨5, ![2, 8, 64, 64, 128]⟩
abbrev S2x8x64x64 : Shape := ⟨4, ![2, 8, 64, 64]⟩
abbrev S2x8x1x128 : Shape := ⟨4, ![2, 8, 1, 128]⟩
abbrev S2x8x128 : Shape := ⟨3, ![2, 8, 128]⟩
abbrev S2x8x128x1 : Shape := ⟨4, ![2, 8, 128, 1]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S2x8192x8x128, .f32⟩
  | .hbm, ⟨5, _⟩ => ⟨S2x8192x8x128, .f32⟩
  | .hbm, ⟨6, _⟩ => ⟨S2x8192x8x128, .f32⟩
  | .hbm, ⟨7, _⟩ => ⟨S2x8192x8x128, .f32⟩
  | .hbm, ⟨8, _⟩ => ⟨S2x128x64x8x128, .f32⟩
  | .hbm, ⟨9, _⟩ => ⟨S128x2x8x64x128, .f32⟩
  | .hbm, ⟨10, _⟩ => ⟨S2x128x64x8x128, .f32⟩
  | .hbm, ⟨11, _⟩ => ⟨S128x2x8x64x128, .f32⟩
  | .hbm, ⟨12, _⟩ => ⟨S2x128x64x8x128, .f32⟩
  | .hbm, ⟨13, _⟩ => ⟨S128x2x8x64x128, .f32⟩
  | .hbm, ⟨14, _⟩ => ⟨S2x128x64x8x128, .f32⟩
  | .hbm, ⟨15, _⟩ => ⟨S128x2x8x64x128, .f32⟩
  | .hbm, ⟨16, _⟩ => ⟨S_, .i1⟩
  | .hbm, ⟨17, _⟩ => ⟨S64x64, .i1⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S_, .i1⟩
  | .hbm, ⟨25, _⟩ => ⟨S64x64, .i1⟩
  | .hbm, ⟨26, _⟩ => ⟨S64x64, .i1⟩
  | .hbm, ⟨27, _⟩ => ⟨S64x64x1, .i1⟩
  | .hbm, ⟨28, _⟩ => ⟨S_, .f32⟩
  | .hbm, ⟨29, _⟩ => ⟨S2x8x128x128, .f32⟩
  | .hbm, ⟨30, _⟩ => ⟨S_, .f32⟩
  | .hbm, ⟨31, _⟩ => ⟨S128x2x8x64x128, .f32⟩
  | .hbm, ⟨32, _⟩ => ⟨S_, .i32⟩
  | .hbm, ⟨33, _⟩ => ⟨S128x2x8x64x128, .f32⟩
  | .hbm, ⟨34, _⟩ => ⟨S128x2x8x64x128, .f32⟩
  | .hbm, ⟨35, _⟩ => ⟨S128x2x8x64x128, .f32⟩
  | .hbm, ⟨36, _⟩ => ⟨S128x2x8x64x128, .f32⟩
  | .hbm, ⟨37, _⟩ => ⟨S64x64x1, .i1⟩
  | .hbm, ⟨38, _⟩ => ⟨S_, .i32⟩
  | .hbm, ⟨39, _⟩ => ⟨S2x8x128x128, .f32⟩
  | .hbm, ⟨40, _⟩ => ⟨S128x2x8x64x128, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x2x8x64x128, .f32⟩
  | .hbm, ⟨48, _⟩ => ⟨S2x8x64x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x8x64x128, .f32⟩
  | .hbm, ⟨54, _⟩ => ⟨S2x8x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x2x8x64x128, .f32⟩
  | .hbm, ⟨60, _⟩ => ⟨S2x8x64x128, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x8x64x128, .f32⟩
  | .hbm, ⟨66, _⟩ => ⟨S2x8x64x128, .f32⟩
  | .hbm, ⟨67, _⟩ => ⟨S_, .f32⟩
  | .hbm, ⟨68, _⟩ => ⟨S_, .f32⟩
  | .hbm, ⟨69, _⟩ => ⟨S2x8x64x128, .f32⟩
  | .hbm, ⟨70, _⟩ => ⟨S2x8x64x1x128, .f32⟩
  | .hbm, ⟨71, _⟩ => ⟨S2x8x1x64x128, .f32⟩
  | .hbm, ⟨72, _⟩ => ⟨S2x8x64x64x128, .f32⟩
  | .hbm, ⟨73, _⟩ => ⟨S2x8x64x64x128, .f32⟩
  | .hbm, ⟨74, _⟩ => ⟨S2x8x64x64x128, .f32⟩
  | .hbm, ⟨75, _⟩ => ⟨S_, .f32⟩
  | .hbm, ⟨76, _⟩ => ⟨S_, .f32⟩
  | .hbm, ⟨77, _⟩ => ⟨S2x8x64x64x128, .i1⟩
  | .hbm, ⟨78, _⟩ => ⟨S2x8x64x64x128, .f32⟩
  | .hbm, ⟨79, _⟩ => ⟨S2x8x64x64x128, .f32⟩
  | .hbm, ⟨80, _⟩ => ⟨S2x8x64x64x128, .f32⟩
  | .hbm, ⟨81, _⟩ => ⟨S2x8x64x1x128, .f32⟩
  | .hbm, ⟨82, _⟩ => ⟨S2x8x1x64x128, .f32⟩
  | .hbm, ⟨83, _⟩ => ⟨S2x8x64x64x128, .f32⟩
  | .hbm, ⟨84, _⟩ => ⟨S2x8x64x64x128, .f32⟩
  | .hbm, ⟨85, _⟩ => ⟨S2x8x64x64x128, .f32⟩
  | .hbm, ⟨86, _⟩ => ⟨S2x8x64x64x128, .f32⟩
  | .hbm, ⟨87, _⟩ => ⟨S_, .f32⟩
  | .hbm, ⟨88, _⟩ => ⟨S2x8x64x64, .f32⟩
  | .hbm, ⟨89, _⟩ => ⟨S2x8x64x128, .f32⟩
  | .hbm, ⟨90, _⟩ => ⟨S2x8x64x128, .f32⟩
  | .hbm, ⟨91, _⟩ => ⟨S2x8x64x128, .f32⟩
  | .hbm, ⟨92, _⟩ => ⟨S2x8x64x128, .f32⟩
  | .hbm, ⟨93, _⟩ => ⟨S2x8x1x128, .f32⟩
  | .hbm, ⟨94, _⟩ => ⟨S2x8x64x128, .f32⟩
  | .hbm, ⟨95, _⟩ => ⟨S2x8x64x128, .f32⟩
  | .hbm, ⟨96, _⟩ => ⟨S2x8x64x128, .f32⟩
  | .hbm, ⟨97, _⟩ => ⟨S2x8x64x128, .f32⟩
  | .hbm, ⟨98, _⟩ => ⟨S2x8x128, .f32⟩
  | .hbm, ⟨99, _⟩ => ⟨S2x8x128, .f32⟩
  | .hbm, ⟨100, _⟩ => ⟨S2x8x128x1, .f32⟩
  | .hbm, ⟨101, _⟩ => ⟨S2x8x128x128, .f32⟩
  | .hbm, ⟨102, _⟩ => ⟨S2x8x128x128, .f32⟩
  | .hbm, ⟨103, _⟩ => ⟨S2x8x128x128, .f32⟩
  | .hbm, ⟨104, _⟩ => ⟨S2x8x128x128, .f32⟩
  | .hbm, ⟨105, _⟩ => ⟨S2x8x64x128, .f32⟩
  | .hbm, ⟨106, _⟩ => ⟨S1x2x8x64x128, .f32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S128x2x8x64x128, .f32⟩
  | .hbm, ⟨112, _⟩ => ⟨S_, .i32⟩
  | .hbm, ⟨113, _⟩ => ⟨S_, .i32⟩
  | .hbm, ⟨114, _⟩ => ⟨S2x128x64x8x128, .f32⟩
  | .hbm, ⟨115, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_c_1 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev main_v17_6 : Ref sig .tc := ⟨.hbm, 39, rfl⟩
abbrev main_v17_7 : Ref sig .tc := ⟨.hbm, 40, rfl⟩
abbrev main_while0c_c_9 : Ref sig .tc := ⟨.hbm, 41, rfl⟩
abbrev main_while0c_v20 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v20 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v21 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v22 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v23 : Ref sig .tc := ⟨.hbm, 66, rfl⟩
abbrev main_while0b_call5_call0_cst : Ref sig .tc := ⟨.hbm, 67, rfl⟩
abbrev main_while0b_call5_call0_v0 : Ref sig .tc := ⟨.hbm, 68, rfl⟩
abbrev main_while0b_v24 : Ref sig .tc := ⟨.hbm, 69, rfl⟩
abbrev main_while0b_v25 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_cst_9 : Ref sig .tc := ⟨.hbm, 75, rfl⟩
abbrev main_while0b_call6_v0 : Ref sig .tc := ⟨.hbm, 76, rfl⟩
abbrev main_while0b_call6_v1 : Ref sig .tc := ⟨.hbm, 77, rfl⟩
abbrev main_while0b_call6_v2 : Ref sig .tc := ⟨.hbm, 78, rfl⟩
abbrev main_while0b_v30 : Ref sig .tc := ⟨.hbm, 79, rfl⟩
abbrev main_while0b_v31 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_cst_10 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_call7_v0 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_v56 : Ref sig .tc := ⟨.hbm, 111, rfl⟩
abbrev main_while0b_c_11 : Ref sig .tc := ⟨.hbm, 112, rfl⟩
abbrev main_while0b_v57 : Ref sig .tc := ⟨.hbm, 113, rfl⟩
abbrev main_v18 : Ref sig .tc := ⟨.hbm, 114, rfl⟩
abbrev main_v19 : Ref sig .tc := ⟨.hbm, 115, rfl⟩

abbrev nD : Nat := 1
abbrev τ : Topo := Topo.v7x

variable {F : FTy → Type} [FloatOps F]

abbrev main_while0_count : Scf.Loop 32 := ⟨0#32, 128#32, 1#32⟩
-- ==== Proj.lean ====
abbrev S16384x1024 : Shape := ⟨2, ![16384, 1024]⟩
abbrev S1x1024 : Shape := ⟨2, ![1, 1024]⟩
abbrev S1x1024x6656 : Shape := ⟨3, ![1, 1024, 6656]⟩
abbrev S2x1024 : Shape := ⟨2, ![2, 1024]⟩
abbrev S1024 : Shape := ⟨1, ![1024]⟩
abbrev S1024x6656 : Shape := ⟨2, ![1024, 6656]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x6656, .f32⟩
  | .hbm, ⟨3, _⟩ => ⟨S2x1024, .f32⟩
  | .hbm, ⟨4, _⟩ => ⟨S1024, .f32⟩
  | .hbm, ⟨5, _⟩ => ⟨S1x1024, .f32⟩
  | .hbm, ⟨6, _⟩ => ⟨S1024x6656, .f32⟩
  | .hbm, ⟨7, _⟩ => ⟨S1024x6656, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x512, .f32⟩
  | .hbm, ⟨14, _⟩ => ⟨S16384x1024, .f32⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S2x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .f32⟩
  | .local _ .vmem, ⟨16, _⟩ => ⟨S256x512, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v4_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S16384x1024 : Shape := ⟨2, ![16384, 1024]⟩
abbrev S1x1024 : Shape := ⟨2, ![1, 1024]⟩
abbrev S1x1024x6656 : Shape := ⟨3, ![1, 1024, 6656]⟩
abbrev S2x1024 : Shape := ⟨2, ![2, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x6656 : Shape := ⟨2, ![1024, 6656]⟩
abbrev S16384x6656 : Shape := ⟨2, ![16384, 6656]⟩
abbrev S16384x512 : Shape := ⟨2, ![16384, 512]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x6656, .f32⟩
  | .hbm, ⟨3, _⟩ => ⟨S2x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x6656, .f32⟩
  | .hbm, ⟨22, _⟩ => ⟨S16384x6656, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x512, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S2x1024, .f32⟩
  | .hbm, ⟨37, _⟩ => ⟨S2x1024, .f32⟩
  | .hbm, ⟨38, _⟩ => ⟨S2x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2x1024, .f32⟩
  | .hbm, ⟨43, _⟩ => ⟨S2x1024, .f32⟩
  | .hbm, ⟨44, _⟩ => ⟨S1x1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1x1024 : Shape := ⟨2, ![1, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x512x1024 : Shape := ⟨3, ![1, 512, 1024]⟩
abbrev S1024 : Shape := ⟨1, ![1024]⟩
abbrev S1024x1024 : Shape := ⟨2, ![1024, 1024]⟩
abbrev S4x128x128 : Shape := ⟨3, ![4, 128, 128]⟩
abbrev S512 : Shape := ⟨1, ![512]⟩
abbrev S512x1024 : Shape := ⟨2, ![512, 1024]⟩
abbrev S256x1024 : Shape := ⟨2, ![256, 1024]⟩
abbrev S256x512 : Shape := ⟨2, ![256, 512]⟩
abbrev S16x512 : Shape := ⟨2, ![16, 512]⟩
abbrev S272x512 : Shape := ⟨2, ![272, 512]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 25
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024x1024, .f32⟩
  | .hbm, ⟨8, _⟩ => ⟨S1x4x128x128, .f32⟩
  | .hbm, ⟨9, _⟩ => ⟨S1x512, .f32⟩
  | .hbm, ⟨10, _⟩ => ⟨S1x512x1024, .f32⟩
  | .hbm, ⟨11, _⟩ => ⟨S1x1024x1024, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S4x128x128, .f32⟩
  | .hbm, ⟨17, _⟩ => ⟨S4x128x128, .bf16⟩
  | .hbm, ⟨18, _⟩ => ⟨S512, .f32⟩
  | .hbm, ⟨19, _⟩ => ⟨S1x512, .f32⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x1024, .bf16⟩
  | .local _ .vmem, ⟨16, _⟩ => ⟨S4x128x128, .bf16⟩
  | .local _ .vmem, ⟨17, _⟩ => ⟨S1x512, .f32⟩
  | .local _ .vmem, ⟨18, _⟩ => ⟨S512x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | .local _ .vmem, ⟨22, _⟩ => ⟨S272x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16384x1024 : Shape := ⟨2, ![16384, 1024]⟩
abbrev S16384x512 : Shape := ⟨2, ![16384, 512]⟩
abbrev S1x1024 : Shape := ⟨2, ![1, 1024]⟩
abbrev S1x1024x1024 : Shape := ⟨3, ![1, 1024, 1024]⟩
abbrev S1x4x128x128 : Shape := ⟨4, ![1, 4, 128, 128]⟩
abbrev S1x512 : Shape := ⟨2, ![1, 512]⟩
abbrev S1x512x1024 : Shape := ⟨3, ![1, 512, 1024]⟩
abbrev S2x8192x1024 : Shape := ⟨3, ![2, 8192, 1024]⟩
abbrev S2x8192x8x128 : Shape := ⟨4, ![2, 8192, 8, 128]⟩
abbrev S_ : Shape := ⟨0, ![]⟩
abbrev S2x8192x8 : Shape := ⟨3, ![2, 8192, 8]⟩
abbrev S2x8192x8x1 : Shape := ⟨4, ![2, 8192, 8, 1]⟩
abbrev S1024 : Shape := ⟨1, ![1024]⟩
abbrev S8x128 : Shape := ⟨2, ![8, 128]⟩
abbrev S1x1x8x128 : Shape := ⟨4, ![1, 1, 8, 128]⟩
abbrev S1024x1024 : Shape := ⟨2, ![1024, 1024]⟩
abbrev S2x8192x4x128 : Shape := ⟨4, ![2, 8192, 4, 128]⟩
abbrev S2x1x4x128 : Shape := ⟨4, ![2, 1, 4, 128]⟩
abbrev S2x8193x4x128 : Shape := ⟨4, ![2, 8193, 4, 128]⟩
abbrev S8192 : Shape := ⟨1, ![8192]⟩
abbrev S2x8193x1x128 : Shape := ⟨4, ![2, 8193, 1, 128]⟩
abbrev S2x8193x128 : Shape := ⟨3, ![2, 8193, 128]⟩
abbrev S2x8192x128 : Shape := ⟨3, ![2, 8192, 128]⟩
abbrev S2x1x128 : Shape := ⟨3, ![2, 1, 128]⟩
abbrev S2x8191x128 : Shape := ⟨3, ![2, 8191, 128]⟩
abbrev S1x8192x1 : Shape := ⟨3, ![1, 8192, 1]⟩
abbrev S2x8192x1x128 : Shape := ⟨4, ![2, 8192, 1, 128]⟩
abbrev S2x3x128 : Shape := ⟨3, ![2, 3, 128]⟩
abbrev S2x8189x128 : Shape := ⟨3, ![2, 8189, 128]⟩
abbrev S2x7x128 : Shape := ⟨3, ![2, 7, 128]⟩
abbrev S2x8185x128 : Shape := ⟨3, ![2, 8185, 128]⟩
abbrev S2x15x128 : Shape := ⟨3, ![2, 15, 128]⟩
abbrev S2x8177x128 : Shape := ⟨3, ![2, 8177, 128]⟩
abbrev S4x128x128 : Shape := ⟨3, ![4, 128, 128]⟩
abbrev S4x128x2x8192 : Shape := ⟨4, ![4, 128, 2, 8192]⟩
abbrev S2x8192x512 : Shape := ⟨3, ![2, 8192, 512]⟩
abbrev S512 : Shape := ⟨1, ![512]⟩
abbrev S1x1x512 : Shape := ⟨3, ![1, 1, 512]⟩
abbrev S512x1024 : Shape := ⟨2, ![512, 1024]⟩

abbrev nBuf : Space → Nat
  | .hbm => 140
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x512, .f32⟩
  | 4 => ⟨S16384x1024, .f32⟩
  | 5 => ⟨S16384x1024, .f32⟩
  | 6 => ⟨S1x1024, .f32⟩
  | 7 => ⟨S1x1024x1024, .f32⟩
  | 8 => ⟨S1x4x128x128, .f32⟩
  | 9 => ⟨S1x512, .f32⟩
  | 10 => ⟨S1x512x1024, .f32⟩
  | 11 => ⟨S1x1024x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S2x8192x8x128, .f32⟩
  | 17 => ⟨S2x8192x8x128, .f32⟩
  | 18 => ⟨S_, .f32⟩
  | 19 => ⟨S2x8192x8, .f32⟩
  | 20 => ⟨S2x8192x8x1, .f32⟩
  | 21 => ⟨S_, .f32⟩
  | 22 => ⟨S2x8192x8x1, .f32⟩
  | 23 => ⟨S2x8192x8x1, .f32⟩
  | 24 => ⟨S_, .f32⟩
  | 25 => ⟨S2x8192x8x1, .f32⟩
  | 26 => ⟨S2x8192x8x1, .f32⟩
  | 27 => ⟨S2x8192x8x1, .f32⟩
  | 28 => ⟨S2x8192x8x128, .f32⟩
  | 29 => ⟨S2x8192x8x128, .f32⟩
  | 30 => ⟨S1024, .f32⟩
  | 31 => ⟨S8x128, .f32⟩
  | 32 => ⟨S1x1x8x128, .f32⟩
  | 33 => ⟨S2x8192x8x128, .f32⟩
  | 34 => ⟨S2x8192x8x128, .f32⟩
  | 35 => ⟨S2x8192x1024, .f32⟩
  | 36 => ⟨S2x8192x1024, .f32⟩
  | 37 => ⟨S1024x1024, .f32⟩
  | 38 => ⟨S2x8192x1024, .f32⟩
  | 39 => ⟨S2x8192x4x128, .f32⟩
  | 40 => ⟨S_, .f32⟩
  | 41 => ⟨S2x1x4x128, .f32⟩
  | 42 => ⟨S_, .f32⟩
  | 43 => ⟨S_, .f32⟩
  | 44 => ⟨S2x8192x4x128, .f32⟩
  | 45 => ⟨S2x8193x4x128, .f32⟩
  | 46 => ⟨S8192, .f32⟩
  | 47 => ⟨S_, .f32⟩
  | 48 => ⟨S8192, .f32⟩
  | 49 => ⟨S8192, .f32⟩
  | 50 => ⟨S2x8193x1x128, .f32⟩
  | 51 => ⟨S2x8193x128, .f32⟩
  | 52 => ⟨S2x8192x128, .f32⟩
  | 53 => ⟨S_, .f32⟩
  | 54 => ⟨S2x1x128, .f32⟩
  | 55 => ⟨S2x8191x128, .f32⟩
  | 56 => ⟨S2x8192x128, .f32⟩
  | 57 => ⟨S_, .f32⟩
  | 58 => ⟨S8192, .f32⟩
  | 59 => ⟨S8192, .f32⟩
  | 60 => ⟨S1x8192x1, .f32⟩
  | 61 => ⟨S2x8192x128, .f32⟩
  | 62 => ⟨S2x8192x128, .f32⟩
  | 63 => ⟨S2x8192x128, .f32⟩
  | 64 => ⟨S2x8192x1x128, .f32⟩
  | 65 => ⟨S2x8192x128, .f32⟩
  | 66 => ⟨S2x8192x128, .f32⟩
  | 67 => ⟨S2x8193x1x128, .f32⟩
  | 68 => ⟨S2x8193x128, .f32⟩
  | 69 => ⟨S2x8192x128, .f32⟩
  | 70 => ⟨S_, .f32⟩
  | 71 => ⟨S2x3x128, .f32⟩
  | 72 => ⟨S2x8189x128, .f32⟩
  | 73 => ⟨S2x8192x128, .f32⟩
  | 74 => ⟨S_, .f32⟩
  | 75 => ⟨S8192, .f32⟩
  | 76 => ⟨S8192, .f32⟩
  | 77 => ⟨S1x8192x1, .f32⟩
  | 78 => ⟨S2x8192x128, .f32⟩
  | 79 => ⟨S2x8192x128, .f32⟩
  | 80 => ⟨S2x8192x128, .f32⟩
  | 81 => ⟨S2x8192x1x128, .f32⟩
  | 82 => ⟨S2x8192x128, .f32⟩
  | 83 => ⟨S2x8192x128, .f32⟩
  | 84 => ⟨S2x8193x1x128, .f32⟩
  | 85 => ⟨S2x8193x128, .f32⟩
  | 86 => ⟨S2x8192x128, .f32⟩
  | 87 => ⟨S_, .f32⟩
  | 88 => ⟨S2x7x128, .f32⟩
  | 89 => ⟨S2x8185x128, .f32⟩
  | 90 => ⟨S2x8192x128, .f32⟩
  | 91 => ⟨S_, .f32⟩
  | 92 => ⟨S8192, .f32⟩
  | 93 => ⟨S8192, .f32⟩
  | 94 => ⟨S1x8192x1, .f32⟩
  | 95 => ⟨S2x8192x128, .f32⟩
  | 96 => ⟨S2x8192x128, .f32⟩
  | 97 => ⟨S2x8192x128, .f32⟩
  | 98 => ⟨S2x8192x1x128, .f32⟩
  | 99 => ⟨S2x8192x128, .f32⟩
  | 100 => ⟨S2x8192x128, .f32⟩
  | 101 => ⟨S2x8193x1x128, .f32⟩
  | 102 => ⟨S2x8193x128, .f32⟩
  | 103 => ⟨S2x8192x128, .f32⟩
  | 104 => ⟨S_, .f32⟩
  | 105 => ⟨S2x15x128, .f32⟩
  | 106 => ⟨S2x8177x128, .f32⟩
  | 107 => ⟨S2x8192x128, .f32⟩
  | 108 => ⟨S_, .f32⟩
  | 109 => ⟨S8192, .f32⟩
  | 110 => ⟨S8192, .f32⟩
  | 111 => ⟨S1x8192x1, .f32⟩
  | 112 => ⟨S2x8192x128, .f32⟩
  | 113 => ⟨S2x8192x128, .f32⟩
  | 114 => ⟨S2x8192x128, .f32⟩
  | 115 => ⟨S2x8192x1x128, .f32⟩
  | 116 => ⟨S2x8192x128, .f32⟩
  | 117 => ⟨S2x8192x128, .f32⟩
  | 118 => ⟨S2x8192x1x128, .f32⟩
  | 119 => ⟨S2x8192x1x128, .f32⟩
  | 120 => ⟨S2x8192x1x128, .f32⟩
  | 121 => ⟨S2x8192x1x128, .f32⟩
  | 122 => ⟨S2x8192x4x128, .f32⟩
  | 123 => ⟨S4x128x128, .f32⟩
  | 124 => ⟨S4x128x2x8192, .f32⟩
  | 125 => ⟨S2x8192x4x128, .f32⟩
  | 126 => ⟨S2x8192x512, .f32⟩
  | 127 => ⟨S512, .f32⟩
  | _ => ⟨S16384x1024, .f32⟩

abbrev hbmTy0_1 (i : Nat) : BufTy := match i % 128 with
  | 0 => ⟨S1x1x512, .f32⟩
  | 1 => ⟨S2x8192x512, .f32⟩
  | 2 => ⟨S2x8192x512, .f32⟩
  | 3 => ⟨S512x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S1024x1024, .f32⟩
  | 9 => ⟨S2x8192x1024, .f32⟩
  | 10 => ⟨S2x8192x1024, .f32⟩
  | 11 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_call0_call0_cst : Ref sig .tc := ⟨.hbm, 42, rfl⟩
abbrev main_call0_call0_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_10 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩

abbrev nD : Nat := 1
abbrev τ : Topo := Topo.v7x

variable {F : FTy → Type} [FloatOps F]
-- ==== Proof.Model.lean ====
/- The mathematics of the rows, written once for the kernels' bodies and for the references: the RMS norm, a row times a matrix,
   the gated activation, the half feed-forward step and the gated embedding. -/
module

public import Idealize.ShloMosaic.Lib.Pointwise

@[expose] public section

noncomputable section

namespace Cert.Model

open Idealize.ShloMosaic

/-- One half, as the f32 constant of the programs. -/
abbrev half : EReal := Ideal.ofBits .f32 0x3F000000#32
/-- The number of features, 1024, as the f32 constant of the programs. -/
abbrev width : EReal := Ideal.ofBits .f32 0x44800000#32
/-- The norm's small addend, as the f32 constant of the programs. -/
abbrev eps : EReal := Ideal.ofBits .f32 0x358637BD#32

/-- The RMS norm of a row `x` of 1024 features with gain `g`, at feature `k`. -/
def rms (x g : Fin 1024 → EReal) (k : Fin 1024) : EReal :=
  x k * Ideal.rsqrt (Ideal.div (∑ q : Fin 1024, x q * x q) width + eps) * g k

/-- A row `h` times a matrix `w`, at column `f`. -/
def lin {K N : ℕ} (h : Fin K → EReal) (w : Fin K → Fin N → EReal) (f : Fin N) : EReal := ∑ k : Fin K, h k * w k f

/-- The logistic. -/
def sigL (a : EReal) : EReal := Ideal.div 1 (1 + Ideal.exp (-a))
/-- The activation `a · logistic a`. -/
def siluL (a : EReal) : EReal := a * Ideal.div 1 (1 + Ideal.exp (-a))

/-- Half a SwiGLU step on a row `x`: `x + ½ · ((silu (n·w1) * (n·w3)) · w2)` with `n` the normed row. -/
def ffn (x g : Fin 1024 → EReal) (w1 w3 : Fin 1024 → Fin 2816 → EReal) (w2 : Fin 2816 → Fin 1024 → EReal) (j : Fin 1024) : EReal :=
  x j + half * lin (fun f => siluL (lin (rms x g) w1 f) * lin (rms x g) w3 f) w2 j

/-- The gated embedding added to a row, and the final norm: `rms (x + sig (rms x · wg) * rms (p · wp))`. -/
def ple (x : Fin 1024 → EReal) (p : Fin 256 → EReal) (g : Fin 1024 → EReal) (wg : Fin 1024 → Fin 1024 → EReal)
    (wp : Fin 256 → Fin 1024 → EReal) (pg fg : Fin 1024 → EReal) (j : Fin 1024) : EReal :=
  rms (fun k => x k + sigL (lin (rms x g) wg k) * rms (lin p wp) pg k) fg j

end Cert.Model
end
-- ==== Proof.FfnValue.lean ====
/- The feed-forward half step: the body, a row at a time, the result array, and the reference. -/
module

public import proofs.«01_k».proof.Proof.Model
public import proofs.«01_k».proof.Proof.Gen.FfnIdeal.Value
public import proofs.«01_k».proof.Proof.Gen.FfnRefIdeal.Read
public import Idealize.ShloMosaic.Lib.StableHlo.ReadAt

@[expose] public section

set_option maxRecDepth 16384

noncomputable section

namespace Cert.FfnIdeal.Arrays

open Cert.FfnIdeal Cert.FfnIdeal.Gen Cert.Model
open Idealize.ShloMosaic Idealize.ShloMosaic.TcCoe Idealize.SL.Sem
open Idealize.ShloMosaic.Pipeline (Dat)

/-! ## The body's block -/

theorem hz : (![0, 0] : Fin 2 → Nat) = fun _ => 0 := funext fun a => by fin_cases a <;> rfl

/-- A row of the result's block. -/
theorem out_at (x0 : Vec Ideal S512x1024 .f32) (x1 : Vec Ideal S1x1024 .f32) (x2 x3 : Vec Ideal S1024x2816 .bf16) (x4 : Vec Ideal S2816x1024 .bf16) (r : Fin 512) (j : Fin 1024) :
    out0_5 (F := Ideal) x0 x1 x2 x3 x4 (ix2 r j) = ffn (fun k => x0 (ix2 r k)) (fun k => x1 (ix2 0 k)) (fun k f => x2 (ix2 k f)) (fun k f => x3 (ix2 k f)) (fun f k => x4 (ix2 f k)) j := by
  unfold out0_5
  rw [View.canon_unit_zero hz]
  simp only [View.ld_unit_zero (S := S1024x2816) hz, View.ld_unit_zero (S := S1x1024) hz, View.ld_unit_zero (S := S2816x1024) hz, View.ld_unit_zero (S := S512x1024) hz]
  pointwise [k0_pay1, ffn, lin, rms, siluL, sigL, Ideal.logistic]

/-! ## The host's reshapes, at an index -/

variable (m : (ℓ : Loc nD τ sig) → Buf (Elt Ideal) ℓ) (ρ : Dev nD → PrngReg)

/-- The flattened rows: row `n` is position `n % 8192` of sequence `n / 8192`. -/
theorem V0 (c : Dev nD) (n : Fin 16384) (k : Fin 1024) :
    (V m c main_v0 : S16384x1024.Idx → EReal) (ix2 n k) = (m ((c : Thread nD τ).loc main_arg0) : S2x8192x1024.Idx → EReal) (ix3 ⟨n.val / 8192, by omega⟩ ⟨n.val % 8192, by omega⟩ k) := by
  unfold V
  after_reads_at

/-- The norm's gain as a row. -/
theorem V2 (c : Dev nD) (k : Fin 1024) :
    (V m c main_v2 : S1x1024.Idx → EReal) (ix2 0 k) = (m ((c : Thread nD τ).loc main_arg1) : S1x1024.Idx → EReal) (ix2 0 k) := by
  unfold V
  after_reads_at

/-- The gate's weights. -/
theorem V4 (c : Dev nD) (k : Fin 1024) (f : Fin 2816) :
    (V m c main_v4 : S1024x2816.Idx → EReal) (ix2 k f) = (m ((c : Thread nD τ).loc main_arg2) : S1x1024x2816.Idx → EReal) (ix3 0 k f) := by
  unfold V
  after_reads_at

/-- The value's weights. -/
theorem V6 (c : Dev nD) (k : Fin 1024) (f : Fin 2816) :
    (V m c main_v6 : S1024x2816.Idx → EReal) (ix2 k f) = (m ((c : Thread nD τ).loc main_arg3) : S1x1024x2816.Idx → EReal) (ix3 0 k f) := by
  unfold V
  after_reads_at

/-- The last weights. -/
theorem V8 (c : Dev nD) (f : Fin 2816) (k : Fin 1024) :
    (V m c main_v8 : S2816x1024.Idx → EReal) (ix2 f k) = (m ((c : Thread nD τ).loc main_arg4) : S1x2816x1024.Idx → EReal) (ix3 0 f k) := by
  unfold V
  after_reads_at

/-! ## The windows' blocks, at an index -/

/-- The moving windows are at block `t` at grid point `t`. -/
theorem moves : ∀ t : Fin grid0.N, (win0_0.index t 0 = t.val ∧ win0_0.index t 1 = 0) ∧ (win0_5.index t 0 = t.val ∧ win0_5.index t 1 = 0) := by
  decide +kernel

/-- The other windows stay. -/
theorem stays : ∀ t : Fin grid0.N, (∀ a, win0_1.index t a = 0) ∧ (∀ a, win0_2.index t a = 0) ∧ (∀ a, win0_3.index t a = 0) ∧ (∀ a, win0_4.index t a = 0) := by
  decide +kernel

/-- Row `r` of block `t`, of 512 rows each. -/
abbrev row (t : Fin 32) (r : Fin 512) : Fin 16384 := ⟨t.val * 512 + r.val, by omega⟩

/-- A moving window's block. -/
theorem blk0 (c : Dev nD) (t : Fin cfg0.N) (r : Fin 512) (k : Fin 1024) :
    (iblk m c 0 t : S512x1024.Idx → EReal) (ix2 r k) = (V m c main_v0 : S16384x1024.Idx → EReal) (ix2 (row t r) k) := by
  obtain ⟨h0, h1⟩ := (moves t).1
  refine congrArg (V m c main_v0 : S16384x1024.Idx → EReal) (funext fun a => Fin.ext ?_)
  match a with
  | ⟨0, _⟩ => show win0_0.index t 0 * 512 + 1 * r.val = t.val * 512 + r.val; rw [h0]; omega
  | ⟨1, _⟩ => show win0_0.index t 1 * 1024 + 1 * k.val = k.val; rw [h1]; omega

/-- A staying window's block. -/
theorem blk1 (c : Dev nD) (t : Fin cfg0.N) (r : Fin 1) (k : Fin 1024) :
    (iblk m c 1 t : S1x1024.Idx → EReal) (ix2 r k) = (V m c main_v2 : S1x1024.Idx → EReal) (ix2 r k) := by
  have h := (stays t).1
  refine congrArg (V m c main_v2 : S1x1024.Idx → EReal) (funext fun a => Fin.ext ?_)
  match a with
  | ⟨0, _⟩ => show win0_1.index t 0 * 1 + 1 * r.val = r.val; rw [h 0]; omega
  | ⟨1, _⟩ => show win0_1.index t 1 * 1024 + 1 * k.val = k.val; rw [h 1]; omega

/-- A staying window's block. -/
theorem blk2 (c : Dev nD) (t : Fin cfg0.N) (r : Fin 1024) (k : Fin 2816) :
    (iblk m c 2 t : S1024x2816.Idx → EReal) (ix2 r k) = (V m c main_v4 : S1024x2816.Idx → EReal) (ix2 r k) := by
  have h := (stays t).2.1
  refine congrArg (V m c main_v4 : S1024x2816.Idx → EReal) (funext fun a => Fin.ext ?_)
  match a with
  | ⟨0, _⟩ => show win0_2.index t 0 * 1024 + 1 * r.val = r.val; rw [h 0]; omega
  | ⟨1, _⟩ => show win0_2.index t 1 * 2816 + 1 * k.val = k.val; rw [h 1]; omega

/-- A staying window's block. -/
theorem blk3 (c : Dev nD) (t : Fin cfg0.N) (r : Fin 1024) (k : Fin 2816) :
    (iblk m c 3 t : S1024x2816.Idx → EReal) (ix2 r k) = (V m c main_v6 : S1024x2816.Idx → EReal) (ix2 r k) := by
  have h := (stays t).2.2.1
  refine congrArg (V m c main_v6 : S1024x2816.Idx → EReal) (funext fun a => Fin.ext ?_)
  match a with
  | ⟨0, _⟩ => show win0_3.index t 0 * 1024 + 1 * r.val = r.val; rw [h 0]; omega
  | ⟨1, _⟩ => show win0_3.index t 1 * 2816 + 1 * k.val = k.val; rw [h 1]; omega

/-- A staying window's block. -/
theorem blk4 (c : Dev nD) (t : Fin cfg0.N) (r : Fin 2816) (k : Fin 1024) :
    (iblk m c 4 t : S2816x1024.Idx → EReal) (ix2 r k) = (V m c main_v8 : S2816x1024.Idx → EReal) (ix2 r k) := by
  have h := (stays t).2.2.2
  refine congrArg (V m c main_v8 : S2816x1024.Idx → EReal) (funext fun a => Fin.ext ?_)
  match a with
  | ⟨0, _⟩ => show win0_4.index t 0 * 2816 + 1 * r.val = r.val; rw [h 0]; omega
  | ⟨1, _⟩ => show win0_4.index t 1 * 1024 + 1 * k.val = k.val; rw [h 1]; omega

/-! ## The result -/

/-- An index of a matrix is its two coordinates. -/
theorem ix2_self {a b : ℕ} (y : (⟨2, ![a, b]⟩ : Shape).Idx) : y = ix2 (y 0) (y 1) :=
  funext fun i => by fin_cases i <;> rfl

/-- Row `n` of the call's result. -/
def at_row (c : Dev nD) (n : Fin 16384) (j : Fin 1024) : EReal :=
  ffn (fun k => (m ((c : Thread nD τ).loc main_arg0) : S2x8192x1024.Idx → EReal) (ix3 ⟨n.val / 8192, by omega⟩ ⟨n.val % 8192, by omega⟩ k)) (fun k => (m ((c : Thread nD τ).loc main_arg1) : S1x1024.Idx → EReal) (ix2 0 k))
    (fun k f => (m ((c : Thread nD τ).loc main_arg2) : S1x1024x2816.Idx → EReal) (ix3 0 k f)) (fun k f => (m ((c : Thread nD τ).loc main_arg3) : S1x1024x2816.Idx → EReal) (ix3 0 k f)) (fun f k => (m ((c : Thread nD τ).loc main_arg4) : S1x2816x1024.Idx → EReal) (ix3 0 f k)) j

/-- The call's result. -/
def G (c : Dev nD) : S16384x1024.Idx → EReal := fun i => at_row m c (i 0) (i 1)

/-- What grid point `t` writes back is block `t` of the result. -/
theorem flushed5 (c : Dev nD) (t : Fin cfg0.N) :
    (dats m 0 c).flushed 5 t = ((cfg0.win 5).blk t).view.read (Elt Ideal) (G m c) := by
  rw [Value.flushed5]
  refine funext fun (y : S512x1024.Idx) => ?_
  obtain ⟨h0, h1⟩ := (moves t).2
  refine ((congrArg _ (ix2_self y)).trans (out_at _ _ _ _ _ (y 0) (y 1))).trans (Eq.trans ?_ (congrArg (G m c) (funext fun a => Fin.ext ?_ : ix2 (row t (y 0)) (y 1) = _)))
  · have e0 := funext fun k => (blk0 m c t (y 0) k).trans (V0 m c _ k)
    have e1 := funext fun k => (blk1 m c t 0 k).trans (V2 m c k)
    have e2 := funext fun k => funext fun f => (blk2 m c t k f).trans (V4 m c k f)
    have e3 := funext fun k => funext fun f => (blk3 m c t k f).trans (V6 m c k f)
    have e4 := funext fun f => funext fun k => (blk4 m c t f k).trans (V8 m c f k)
    rw [e0, e1, e2, e3, e4]
    rfl
  · match a with
    | ⟨0, _⟩ => show t.val * 512 + (y 0).val = win0_5.index t 0 * 512 + 1 * (y 0).val; rw [h0]; omega
    | ⟨1, _⟩ => show (y 1).val = win0_5.index t 1 * 1024 + 1 * (y 1).val; rw [h1]; omega

/-- The result after the run. -/
theorem final5 (c : Dev nD) : (dats m 0 c).arrAt 5 cfg0.N = G m c := by
  refine (dats m 0 c).arrAt_eq_of_cover 5 (G m c) (fun t _ => flushed5 m c t) fun (i : S16384x1024.Idx) => ?_
  have h0 : (i 0).val < 16384 := (i 0).isLt
  have h1 : (i 1).val < 1024 := (i 1).isLt
  let t : Fin cfg0.N := ⟨(i 0).val / 512, by rw [show cfg0.N = 32 from N_0]; omega⟩
  obtain ⟨e0, e1⟩ := (moves t).2
  refine ⟨t, flush0_5 t, ?_⟩
  show i ∈ ((View.whole main_v9).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e0]; show (i 0).val / 512 * 512 ≤ _ ∧ _ < (i 0).val / 512 * 512 + 512; omega
  | ⟨1, _⟩ =>
    show win0_5.index t 1 * 1024 ≤ (i 1).val ∧ (i 1).val < win0_5.index t 1 * 1024 + 1024
    rw [e1]; omega

/-- The call's run: its result, the arguments unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (Value.run_blocks m ρ)

end Cert.FfnIdeal.Arrays

/-! ## The reference, at an index -/

namespace Cert.FfnRefIdeal.Block
open Cert.FfnRefIdeal Cert.FfnRefIdeal.Gen Cert.FfnRefIdeal.Read Cert.Model
open Idealize.ShloMosaic

/-- A row of the reference. -/
theorem ref (x0 : S2x8192x1024.Idx → EReal) (x1 : S1x1024.Idx → EReal) (x2 x3 : S1x1024x2816.Idx → EReal) (x4 : S1x2816x1024.Idx → EReal) (n : Fin 16384) (j : Fin 1024) :
    val_main_v25 (F := Ideal) x0 x1 x2 x3 x4 (ix2 n j)
      = ffn (fun k => x0 (ix3 ⟨n.val / 8192, by omega⟩ ⟨n.val % 8192, by omega⟩ k)) (fun k => x1 (ix2 0 k)) (fun k f => x2 (ix3 0 k f)) (fun k f => x3 (ix3 0 k f)) (fun f k => x4 (ix3 0 f k)) j := by
  pointwise [val_main_v25, val_main_v24, val_main_v23, val_main_v22, val_main_cst_2, val_main_v21, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0, ffn, lin, rms, siluL]

end Cert.FfnRefIdeal.Block
end
-- ==== Proof.FfnClaim.lean ====
/- The claims of the feed-forward half step: its frames and its value against the reference. -/
module

public import proofs.«01_k».proof.Proof.FfnValue
public import proofs.«01_k».proof.Proof.Gen.FfnRefIdeal.Run
public import proofs.«01_k».proof.Proof.Gen.Ffn.Frame
public import proofs.«01_k».proof.Proof.Gen.FfnRefIdeal
public import proofs.«01_k».proof.Defs
public import Idealize.ShloMosaic.Lib.Quiescent

@[expose] public section

set_option maxRecDepth 16384

noncomputable section

open Idealize.ShloMosaic Idealize.ShloMosaic.TcCoe Idealize.SL.Sem

namespace Cert.FfnProof

open Cert.Model Cert.FfnRefIdeal.Block

/-- The call runs without a fault and leaves its arguments and semaphores. -/
theorem frame : Cert.quiescent_Ffn := fun m ρ _ => Cert.Ffn.Gen.frame m ρ
/-- The idealized call likewise. -/
theorem frame_ideal : Cert.quiescent_FfnIdeal := fun m ρ _ => Cert.FfnIdeal.Gen.frame m ρ
/-- The reference likewise. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The call's result is the reference's, at every extended real. -/
theorem algebraic : Cert.algebraic_FfnIdeal_FfnRefIdeal := by
  intro m g m' g' hpre hagree
  refine ⟨Cert.FfnIdeal.Arrays.G m, Cert.FfnIdeal.Arrays.run m g, ?_⟩
  refine (θ_run Cert.FfnRefIdeal.defs _ _).mono (fun r h c => ?_) (Cert.FfnRefIdeal.Value.run (F := Ideal) m' g')
  obtain ⟨a0, a1, a2, a3, a4⟩ := hagree c
  obtain ⟨h0, hk⟩ := h c
  refine ⟨?_, hk⟩
  rw [h0, Cert.FfnRefIdeal.Read.val_main_v25_eq, a0, a1, a2, a3, a4]
  exact funext fun i => (congrArg _ (Cert.FfnIdeal.Arrays.ix2_self i)).trans (ref _ _ _ _ _ (i 0) (i 1))

end Cert.FfnProof
end
-- ==== Proof.PleValue.lean ====
/- The gated embedding and the final norm: the body, a row at a time, the result array, and the reference. -/
module

public import proofs.«01_k».proof.Proof.Model
public import proofs.«01_k».proof.Proof.Gen.PleIdeal.Value
public import proofs.«01_k».proof.Proof.Gen.PleRefIdeal.Read
public import Idealize.ShloMosaic.Lib.StableHlo.ReadAt

@[expose] public section

set_option maxRecDepth 16384

noncomputable section

namespace Cert.PleIdeal.Arrays

open Cert.PleIdeal Cert.PleIdeal.Gen Cert.Model
open Idealize.ShloMosaic Idealize.ShloMosaic.TcCoe Idealize.SL.Sem
open Idealize.ShloMosaic.Pipeline (Dat)

/-! ## The body's block -/

theorem hz : (![0, 0] : Fin 2 → Nat) = fun _ => 0 := funext fun a => by fin_cases a <;> rfl

/-- A row of the result's block. -/
theorem out_at (x0 : Vec Ideal S512x1024 .f32) (x1 : Vec Ideal S512x256 .f32) (x2 : Vec Ideal S1x1024 .f32) (x3 : Vec Ideal S1024x1024 .bf16) (x4 : Vec Ideal S256x1024 .bf16) (x5 x6 : Vec Ideal S1x1024 .f32) (r : Fin 512) (j : Fin 1024) :
    out0_7 (F := Ideal) x0 x1 x2 x3 x4 x5 x6 (ix2 r j) = ple (fun k => x0 (ix2 r k)) (fun k => x1 (ix2 r k)) (fun k => x2 (ix2 0 k)) (fun k j => x3 (ix2 k j)) (fun k j => x4 (ix2 k j)) (fun k => x5 (ix2 0 k)) (fun k => x6 (ix2 0 k)) j := by
  unfold out0_7
  rw [View.canon_unit_zero hz]
  simp only [View.ld_unit_zero (S := S1024x1024) hz, View.ld_unit_zero (S := S1x1024) hz, View.ld_unit_zero (S := S256x1024) hz, View.ld_unit_zero (S := S512x1024) hz, View.ld_unit_zero (S := S512x256) hz]
  pointwise [k0_pay1, k0_pay2, k0_pay3, k0_pay4, k0_pay5, ple, lin, rms, siluL, sigL, Ideal.logistic]

/-! ## The host's reshapes, at an index -/

variable (m : (ℓ : Loc nD τ sig) → Buf (Elt Ideal) ℓ) (ρ : Dev nD → PrngReg)

/-- The flattened rows: row `n` is position `n % 8192` of sequence `n / 8192`. -/
theorem V0 (c : Dev nD) (n : Fin 16384) (k : Fin 1024) :
    (V m c main_v0 : S16384x1024.Idx → EReal) (ix2 n k) = (m ((c : Thread nD τ).loc main_arg0) : S2x8192x1024.Idx → EReal) (ix3 ⟨n.val / 8192, by omega⟩ ⟨n.val % 8192, by omega⟩ k) := by
  unfold V
  after_reads_at

/-- The flattened embeddings. -/
theorem V2 (c : Dev nD) (n : Fin 16384) (k : Fin 256) :
    (V m c main_v2 : S16384x256.Idx → EReal) (ix2 n k) = (m ((c : Thread nD τ).loc main_arg1) : S1x2x8192x256.Idx → EReal) (ix4 0 ⟨n.val / 8192, by omega⟩ ⟨n.val % 8192, by omega⟩ k) := by
  unfold V
  after_reads_at

/-- The gate norm's gain as a row. -/
theorem V4 (c : Dev nD) (k : Fin 1024) :
    (V m c main_v4 : S1x1024.Idx → EReal) (ix2 0 k) = (m ((c : Thread nD τ).loc main_arg2) : S1x1024.Idx → EReal) (ix2 0 k) := by
  unfold V
  after_reads_at

/-- The gate's weights. -/
theorem V6 (c : Dev nD) (k j : Fin 1024) :
    (V m c main_v6 : S1024x1024.Idx → EReal) (ix2 k j) = (m ((c : Thread nD τ).loc main_arg3) : S1x1024x1024.Idx → EReal) (ix3 0 k j) := by
  unfold V
  after_reads_at

/-- The embedding's weights. -/
theorem V8 (c : Dev nD) (k : Fin 256) (j : Fin 1024) :
    (V m c main_v8 : S256x1024.Idx → EReal) (ix2 k j) = (m ((c : Thread nD τ).loc main_arg4) : S1x256x1024.Idx → EReal) (ix3 0 k j) := by
  unfold V
  after_reads_at

/-- The embedding norm's gain as a row. -/
theorem V10 (c : Dev nD) (k : Fin 1024) :
    (V m c main_v10 : S1x1024.Idx → EReal) (ix2 0 k) = (m ((c : Thread nD τ).loc main_arg5) : S1x1024.Idx → EReal) (ix2 0 k) := by
  unfold V
  after_reads_at

/-- The final norm's gain as a row. -/
theorem V11 (c : Dev nD) (k : Fin 1024) :
    (V m c main_v11 : S1x1024.Idx → EReal) (ix2 0 k) = (m ((c : Thread nD τ).loc main_arg6) : S1024.Idx → EReal) (ix1 k) := by
  unfold V
  after_reads_at

/-! ## The windows' blocks, at an index -/

/-- The moving windows are at block `t` at grid point `t`. -/
theorem moves : ∀ t : Fin grid0.N, (win0_0.index t 0 = t.val ∧ win0_0.index t 1 = 0) ∧ (win0_1.index t 0 = t.val ∧ win0_1.index t 1 = 0) ∧ (win0_7.index t 0 = t.val ∧ win0_7.index t 1 = 0) := by
  decide +kernel

/-- The other windows stay. -/
theorem stays : ∀ t : Fin grid0.N, (∀ a, win0_2.index t a = 0) ∧ (∀ a, win0_3.index t a = 0) ∧ (∀ a, win0_4.index t a = 0) ∧ (∀ a, win0_5.index t a = 0) ∧ (∀ a, win0_6.index t a = 0) := by
  decide +kernel

/-- Row `r` of block `t`, of 512 rows each. -/
abbrev row (t : Fin 32) (r : Fin 512) : Fin 16384 := ⟨t.val * 512 + r.val, by omega⟩

/-- A moving window's block. -/
theorem blk0 (c : Dev nD) (t : Fin cfg0.N) (r : Fin 512) (k : Fin 1024) :
    (iblk m c 0 t : S512x1024.Idx → EReal) (ix2 r k) = (V m c main_v0 : S16384x1024.Idx → EReal) (ix2 (row t r) k) := by
  obtain ⟨h0, h1⟩ := (moves t).1
  refine congrArg (V m c main_v0 : S16384x1024.Idx → EReal) (funext fun a => Fin.ext ?_)
  match a with
  | ⟨0, _⟩ => show win0_0.index t 0 * 512 + 1 * r.val = t.val * 512 + r.val; rw [h0]; omega
  | ⟨1, _⟩ => show win0_0.index t 1 * 1024 + 1 * k.val = k.val; rw [h1]; omega

/-- A moving window's block. -/
theorem blk1 (c : Dev nD) (t : Fin cfg0.N) (r : Fin 512) (k : Fin 256) :
    (iblk m c 1 t : S512x256.Idx → EReal) (ix2 r k) = (V m c main_v2 : S16384x256.Idx → EReal) (ix2 (row t r) k) := by
  obtain ⟨h0, h1⟩ := (moves t).2.1
  refine congrArg (V m c main_v2 : S16384x256.Idx → EReal) (funext fun a => Fin.ext ?_)
  match a with
  | ⟨0, _⟩ => show win0_1.index t 0 * 512 + 1 * r.val = t.val * 512 + r.val; rw [h0]; omega
  | ⟨1, _⟩ => show win0_1.index t 1 * 256 + 1 * k.val = k.val; rw [h1]; omega

/-- A staying window's block. -/
theorem blk2 (c : Dev nD) (t : Fin cfg0.N) (r : Fin 1) (k : Fin 1024) :
    (iblk m c 2 t : S1x1024.Idx → EReal) (ix2 r k) = (V m c main_v4 : S1x1024.Idx → EReal) (ix2 r k) := by
  have h := (stays t).1
  refine congrArg (V m c main_v4 : S1x1024.Idx → EReal) (funext fun a => Fin.ext ?_)
  match a with
  | ⟨0, _⟩ => show win0_2.index t 0 * 1 + 1 * r.val = r.val; rw [h 0]; omega
  | ⟨1, _⟩ => show win0_2.index t 1 * 1024 + 1 * k.val = k.val; rw [h 1]; omega

/-- A staying window's block. -/
theorem blk3 (c : Dev nD) (t : Fin cfg0.N) (r : Fin 1024) (k : Fin 1024) :
    (iblk m c 3 t : S1024x1024.Idx → EReal) (ix2 r k) = (V m c main_v6 : S1024x1024.Idx → EReal) (ix2 r k) := by
  have h := (stays t).2.1
  refine congrArg (V m c main_v6 : S1024x1024.Idx → EReal) (funext fun a => Fin.ext ?_)
  match a with
  | ⟨0, _⟩ => show win0_3.index t 0 * 1024 + 1 * r.val = r.val; rw [h 0]; omega
  | ⟨1, _⟩ => show win0_3.index t 1 * 1024 + 1 * k.val = k.val; rw [h 1]; omega

/-- A staying window's block. -/
theorem blk4 (c : Dev nD) (t : Fin cfg0.N) (r : Fin 256) (k : Fin 1024) :
    (iblk m c 4 t : S256x1024.Idx → EReal) (ix2 r k) = (V m c main_v8 : S256x1024.Idx → EReal) (ix2 r k) := by
  have h := (stays t).2.2.1
  refine congrArg (V m c main_v8 : S256x1024.Idx → EReal) (funext fun a => Fin.ext ?_)
  match a with
  | ⟨0, _⟩ => show win0_4.index t 0 * 256 + 1 * r.val = r.val; rw [h 0]; omega
  | ⟨1, _⟩ => show win0_4.index t 1 * 1024 + 1 * k.val = k.val; rw [h 1]; omega

/-- A staying window's block. -/
theorem blk5 (c : Dev nD) (t : Fin cfg0.N) (r : Fin 1) (k : Fin 1024) :
    (iblk m c 5 t : S1x1024.Idx → EReal) (ix2 r k) = (V m c main_v10 : S1x1024.Idx → EReal) (ix2 r k) := by
  have h := (stays t).2.2.2.1
  refine congrArg (V m c main_v10 : S1x1024.Idx → EReal) (funext fun a => Fin.ext ?_)
  match a with
  | ⟨0, _⟩ => show win0_5.index t 0 * 1 + 1 * r.val = r.val; rw [h 0]; omega
  | ⟨1, _⟩ => show win0_5.index t 1 * 1024 + 1 * k.val = k.val; rw [h 1]; omega

/-- A staying window's block. -/
theorem blk6 (c : Dev nD) (t : Fin cfg0.N) (r : Fin 1) (k : Fin 1024) :
    (iblk m c 6 t : S1x1024.Idx → EReal) (ix2 r k) = (V m c main_v11 : S1x1024.Idx → EReal) (ix2 r k) := by
  have h := (stays t).2.2.2.2
  refine congrArg (V m c main_v11 : S1x1024.Idx → EReal) (funext fun a => Fin.ext ?_)
  match a with
  | ⟨0, _⟩ => show win0_6.index t 0 * 1 + 1 * r.val = r.val; rw [h 0]; omega
  | ⟨1, _⟩ => show win0_6.index t 1 * 1024 + 1 * k.val = k.val; rw [h 1]; omega

/-! ## The result -/

/-- An index of a matrix is its two coordinates. -/
theorem ix2_self {a b : ℕ} (y : (⟨2, ![a, b]⟩ : Shape).Idx) : y = ix2 (y 0) (y 1) :=
  funext fun i => by fin_cases i <;> rfl

/-- Row `n` of the call's result. -/
def at_row (c : Dev nD) (n : Fin 16384) (j : Fin 1024) : EReal :=
  ple (fun k => (m ((c : Thread nD τ).loc main_arg0) : S2x8192x1024.Idx → EReal) (ix3 ⟨n.val / 8192, by omega⟩ ⟨n.val % 8192, by omega⟩ k)) (fun k => (m ((c : Thread nD τ).loc main_arg1) : S1x2x8192x256.Idx → EReal) (ix4 0 ⟨n.val / 8192, by omega⟩ ⟨n.val % 8192, by omega⟩ k)) (fun k => (m ((c : Thread nD τ).loc main_arg2) : S1x1024.Idx → EReal) (ix2 0 k))
    (fun k j => (m ((c : Thread nD τ).loc main_arg3) : S1x1024x1024.Idx → EReal) (ix3 0 k j)) (fun k j => (m ((c : Thread nD τ).loc main_arg4) : S1x256x1024.Idx → EReal) (ix3 0 k j)) (fun k => (m ((c : Thread nD τ).loc main_arg5) : S1x1024.Idx → EReal) (ix2 0 k)) (fun k => (m ((c : Thread nD τ).loc main_arg6) : S1024.Idx → EReal) (ix1 k)) j

/-- The call's result. -/
def G (c : Dev nD) : S16384x1024.Idx → EReal := fun i => at_row m c (i 0) (i 1)

/-- What grid point `t` writes back is block `t` of the result. -/
theorem flushed7 (c : Dev nD) (t : Fin cfg0.N) :
    (dats m 0 c).flushed 7 t = ((cfg0.win 7).blk t).view.read (Elt Ideal) (G m c) := by
  rw [Value.flushed7]
  refine funext fun (y : S512x1024.Idx) => ?_
  obtain ⟨h0, h1⟩ := (moves t).2.2
  refine ((congrArg _ (ix2_self y)).trans (out_at _ _ _ _ _ _ _ (y 0) (y 1))).trans (Eq.trans ?_ (congrArg (G m c) (funext fun a => Fin.ext ?_ : ix2 (row t (y 0)) (y 1) = _)))
  · have e0 := funext fun k => (blk0 m c t (y 0) k).trans (V0 m c _ k)
    have e1 := funext fun k => (blk1 m c t (y 0) k).trans (V2 m c _ k)
    have e2 := funext fun k => (blk2 m c t 0 k).trans (V4 m c k)
    have e3 := funext fun k => funext fun f => (blk3 m c t k f).trans (V6 m c k f)
    have e4 := funext fun k => funext fun f => (blk4 m c t k f).trans (V8 m c k f)
    have e5 := funext fun k => (blk5 m c t 0 k).trans (V10 m c k)
    have e6 := funext fun k => (blk6 m c t 0 k).trans (V11 m c k)
    rw [e0, e1, e2, e3, e4, e5, e6]
    rfl
  · match a with
    | ⟨0, _⟩ => show t.val * 512 + (y 0).val = win0_7.index t 0 * 512 + 1 * (y 0).val; rw [h0]; omega
    | ⟨1, _⟩ => show (y 1).val = win0_7.index t 1 * 1024 + 1 * (y 1).val; rw [h1]; omega

/-- The result after the run. -/
theorem final7 (c : Dev nD) : (dats m 0 c).arrAt 7 cfg0.N = G m c := by
  refine (dats m 0 c).arrAt_eq_of_cover 7 (G m c) (fun t _ => flushed7 m c t) fun (i : S16384x1024.Idx) => ?_
  have h0 : (i 0).val < 16384 := (i 0).isLt
  have h1 : (i 1).val < 1024 := (i 1).isLt
  let t : Fin cfg0.N := ⟨(i 0).val / 512, by rw [show cfg0.N = 32 from N_0]; omega⟩
  obtain ⟨e0, e1⟩ := (moves t).2.2
  refine ⟨t, flush0_7 t, ?_⟩
  show i ∈ ((View.whole main_v12).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [e0]; show (i 0).val / 512 * 512 ≤ _ ∧ _ < (i 0).val / 512 * 512 + 512; omega
  | ⟨1, _⟩ =>
    show win0_7.index t 1 * 1024 ≤ (i 1).val ∧ (i 1).val < win0_7.index t 1 * 1024 + 1024
    rw [e1]; omega

/-- The call's run: its result, the arguments unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Value.run_blocks m ρ)

end Cert.PleIdeal.Arrays

/-! ## The reference, at an index -/

namespace Cert.PleRefIdeal.Block
open Cert.PleRefIdeal Cert.PleRefIdeal.Gen Cert.PleRefIdeal.Read Cert.Model
open Idealize.ShloMosaic

/-- A row of the reference. -/
theorem ref (x0 : S2x8192x1024.Idx → EReal) (x1 : S1x2x8192x256.Idx → EReal) (x2 : S1x1024.Idx → EReal) (x3 : S1x1024x1024.Idx → EReal) (x4 : S1x256x1024.Idx → EReal) (x5 : S1x1024.Idx → EReal) (x6 : S1024.Idx → EReal) (n : Fin 16384) (j : Fin 1024) :
    val_main_v54 (F := Ideal) x0 x1 x2 x3 x4 x5 x6 (ix2 n j)
      = ple (fun k => x0 (ix3 ⟨n.val / 8192, by omega⟩ ⟨n.val % 8192, by omega⟩ k)) (fun k => x1 (ix4 0 ⟨n.val / 8192, by omega⟩ ⟨n.val % 8192, by omega⟩ k)) (fun k => x2 (ix2 0 k)) (fun k j => x3 (ix3 0 k j)) (fun k j => x4 (ix3 0 k j)) (fun k => x5 (ix2 0 k)) (fun k => x6 (ix1 k)) j := by
  pointwise [val_main_v54, val_main_v53, val_main_v52, val_main_v51, val_main_v50, val_main_v49, val_main_v48, val_main_v47, val_main_v46, val_main_cst_9, val_main_v45, val_main_v44, val_main_cst_8, val_main_v43, val_main_v42, val_main_cst_7, val_main_v41, val_main_v40, val_main_v39, val_main_v38, val_main_v37, val_main_v36, val_main_v35, val_main_v34, val_main_v33, val_main_v32, val_main_v31, val_main_cst_6, val_main_v30, val_main_v29, val_main_cst_5, val_main_v28, val_main_v27, val_main_cst_4, val_main_v26, val_main_v25, val_main_v24, val_main_v23, val_main_v22, val_main_v21, val_main_v20, val_main_cst_3, val_main_v19, val_main_v18, val_main_cst_2, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0, ple, lin, rms, sigL]

end Cert.PleRefIdeal.Block
end
-- ==== Proof.PleClaim.lean ====
/- The claims of the gated embedding and the final norm: its frames and its value against the reference. -/
module

public import proofs.«01_k».proof.Proof.PleValue
public import proofs.«01_k».proof.Proof.Gen.PleRefIdeal.Run
public import proofs.«01_k».proof.Proof.Gen.Ple.Frame
public import proofs.«01_k».proof.Proof.Gen.PleRefIdeal
public import proofs.«01_k».proof.Defs
public import Idealize.ShloMosaic.Lib.Quiescent

@[expose] public section

set_option maxRecDepth 16384

noncomputable section

open Idealize.ShloMosaic Idealize.ShloMosaic.TcCoe Idealize.SL.Sem

namespace Cert.PleProof

open Cert.Model Cert.PleRefIdeal.Block

/-- The call runs without a fault and leaves its arguments and semaphores. -/
theorem frame : Cert.quiescent_Ple := fun m ρ _ => Cert.Ple.Gen.frame m ρ
/-- The idealized call likewise. -/
theorem frame_ideal : Cert.quiescent_PleIdeal := fun m ρ _ => Cert.PleIdeal.Gen.frame m ρ
/-- The reference likewise. -/
theorem frame_ref : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The call's result is the reference's, at every extended real. -/
theorem algebraic : Cert.algebraic_PleIdeal_PleRefIdeal := by
  intro m g m' g' hpre hagree
  refine ⟨Cert.PleIdeal.Arrays.G m, Cert.PleIdeal.Arrays.run m g, ?_⟩
  refine (θ_run Cert.PleRefIdeal.defs _ _).mono (fun r h c => ?_) (Cert.PleRefIdeal.Value.run (F := Ideal) m' g')
  obtain ⟨a0, a1, a2, a3, a4, a5, a6⟩ := hagree c
  obtain ⟨h0, hk⟩ := h c
  refine ⟨?_, hk⟩
  rw [h0, Cert.PleRefIdeal.Read.val_main_v54_eq, a0, a1, a2, a3, a4, a5, a6]
  exact funext fun i => (congrArg _ (Cert.PleIdeal.Arrays.ix2_self i)).trans (ref _ _ _ _ _ _ _ (i 0) (i 1))

end Cert.PleProof
end
-- ==== Proof.Lemmas.lean ====
/- Facts that more than one call's proof uses: sums of reals among the extended reals, windowed sums, and the test that an
   array is finite. -/
module

public import Idealize.ShloMosaic.Lib.IdealHost
public import Idealize.ShloMosaic.Lib.Pointwise

@[expose] public section

set_option maxRecDepth 16384

noncomputable section

namespace Cert.Lemmas

open Idealize.ShloMosaic Idealize.ShloMosaic.TcCoe Idealize.SL.Sem

/-- A finite sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running addition is the sum of what is added. -/
theorem foldl_add {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- A windowed sum from zero is the sum over the window's places, the padding adding nothing. -/
theorem window_sum {s t : Shape} (window strides lo hi : Fin s.rank → ℕ) (h : s.ReduceWindows window strides lo hi t) (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0 := by
  unfold Ideal.hostReduceWindowAdd Host.reduceWindow
  dsimp only
  refine (foldl_add _ _ _).trans ?_
  rw [zero_add, ← Fin.sum_univ_def]
  refine (Finset.sum_congr rfl fun n _ => ?_).trans (Equiv.sum_comp (Shape.rowMajor ⟨s.rank, window⟩).symm (fun w : (⟨s.rank, window⟩ : Shape).Idx =>
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else 0))
  congr

/-- A comparison of an absolute value with infinity that comes out true says the value is finite. -/
theorem real_of_lt {a : EReal} (h : max a (-a) < ⊤) : ∃ r : ℝ, a = (r : EReal) := by
  induction a with
  | bot => simp at h
  | top => simp at h
  | coe r => exact ⟨r, rfl⟩

/-- The precondition's test of one array, read at an index. -/
theorem real_of_test {S : Shape} {x : FVec Ideal S .f32} {h : (⟨0, ![]⟩ : Shape).BroadcastsInDim S ![]}
    (e : cmpf .olt (Host.absf x) (broadcastInDim S ![] h (constant ⟨0, ![]⟩ .f32 0x7F800000#32)) = fun _ => 1#1) (i : S.Idx) : ∃ r : ℝ, x i = (r : EReal) := by
  have e' := congrFun e i
  refine real_of_lt ?_
  simp only [cmpf, Host.absf, broadcastInDim, constant] at e'
  have top : Ideal.ofBits .f32 0x7F800000#32 = ⊤ := by simp [Ideal.ofBits, Ideal.ieee]
  change BitVec.ofBool (decide (max (x i) (-(x i)) < Ideal.ofBits .f32 0x7F800000#32)) = 1#1 at e'
  rw [top] at e'
  by_contra hc
  simp [hc] at e'

end Cert.Lemmas
end
-- ==== Proof.HgrnRef.lean ====
/- The reference at an index: the chunks it cuts, and what a trip of its loop makes of them. -/
module

public import proofs.«01_k».proof.Proof.Gen.HgrnRefIdeal.Step
public import proofs.«01_k».proof.Proof.Lemmas
public import Idealize.ShloMosaic.Lib.Pointwise

@[expose] public section

set_option maxRecDepth 16384

noncomputable section

namespace Cert.HgrnRefIdeal.Arrays

open Cert.HgrnRefIdeal Cert.HgrnRefIdeal.Gen Cert.HgrnRefIdeal.Step
open Cert.Lemmas (window_sum)
open Idealize.ShloMosaic Idealize.ShloMosaic.TcCoe Idealize.SL.Sem

/-! ## The chunks -/

section
variable (x0 x1 x2 x3 : (⟨S16384x1024, .f32⟩ : BufTy).Contents (Elt Ideal)) (n : Fin 128) (b : Fin 2) (h : Fin 8) (i : Fin 64) (d : Fin 128)

/-- The queries' chunks. -/
theorem v5_at : A_main_v5 x0 x1 x2 x3 (ix5 n b h i d) = x0 (ix2 ⟨b.val * 8192 + (64 * n.val + i.val), by omega⟩ ⟨h.val * 128 + d.val, by omega⟩) := by
  pointwise [A_main_v5, A_main_v4, A_main_v0]
  exact congrArg (fun r => x0 (ix2 r _)) (Fin.ext (by dsimp only; omega))
/-- The keys' chunks. -/
theorem v7_at : A_main_v7 x0 x1 x2 x3 (ix5 n b h i d) = x1 (ix2 ⟨b.val * 8192 + (64 * n.val + i.val), by omega⟩ ⟨h.val * 128 + d.val, by omega⟩) := by
  pointwise [A_main_v7, A_main_v6, A_main_v1]
  exact congrArg (fun r => x1 (ix2 r _)) (Fin.ext (by dsimp only; omega))
/-- The values' chunks. -/
theorem v9_at : A_main_v9 x0 x1 x2 x3 (ix5 n b h i d) = x2 (ix2 ⟨b.val * 8192 + (64 * n.val + i.val), by omega⟩ ⟨h.val * 128 + d.val, by omega⟩) := by
  pointwise [A_main_v9, A_main_v8, A_main_v2]
  exact congrArg (fun r => x2 (ix2 r _)) (Fin.ext (by dsimp only; omega))
/-- The log-decays' chunks. -/
theorem v11_at : A_main_v11 x0 x1 x2 x3 (ix5 n b h i d) = x3 (ix2 ⟨b.val * 8192 + (64 * n.val + i.val), by omega⟩ ⟨h.val * 128 + d.val, by omega⟩) := by
  pointwise [A_main_v11, A_main_v10, A_main_v3]
  exact congrArg (fun r => x3 (ix2 r _)) (Fin.ext (by dsimp only; omega))
end

/-- The result is the chunks put back together. -/
theorem v19_at (s : State Ideal) (n : Fin 128) (b : Fin 2) (h : Fin 8) (i : Fin 64) (d : Fin 128) :
    R_main_v19 s (ix2 ⟨b.val * 8192 + (64 * n.val + i.val), by omega⟩ ⟨128 * h.val + d.val, by omega⟩) = s.main_v17_7 (ix5 n b h i d) := by
  pointwise [R_main_v19]

/-! ## A trip's chunks -/

/-- A trip's number as the start of a slice. -/
theorem start_of (j : ℕ) (hj : j < 128) : (BitVec.ofNat 32 j).toInt = j := by
  rw [BitVec.toInt_ofNat']
  exact Int.bmod_eq_of_le (by omega) (by omega)

section
variable (s : State Ideal) (n : Fin 128) (b : Fin 2) (h : Fin 8) (i : Fin 64) (d : Fin 128)

/-- A slice at a trip's number is that chunk. -/
theorem slice_at (x : (⟨S128x2x8x64x128, .f32⟩ : BufTy).Contents (Elt Ideal)) (start : Fin S128x2x8x64x128.rank → Int)
    (h0 : start 0 = n.val) (h1 : start 1 = 0) (h2 : start 2 = 0) (h3 : start 3 = 0) (h4 : start 4 = 0) :
    (Host.dynamicSlice S1x2x8x64x128 x start sliceFits_S128x2x8x64x128_S1x2x8x64x128 : S1x2x8x64x128.Idx → EReal) (ix5 (0 : Fin 1) b h i d) = x (ix5 n b h i d) := by
  have hn := n.isLt
  have c0 := Host.clampedStart_of_le (s := S128x2x8x64x128) (t := S1x2x8x64x128) rfl start 0 n.val h0 (by show n.val + 1 ≤ 128; omega)
  have c1 := Host.clampedStart_of_le (s := S128x2x8x64x128) (t := S1x2x8x64x128) rfl start 1 0 h1 (by decide)
  have c2 := Host.clampedStart_of_le (s := S128x2x8x64x128) (t := S1x2x8x64x128) rfl start 2 0 h2 (by decide)
  have c3 := Host.clampedStart_of_le (s := S128x2x8x64x128) (t := S1x2x8x64x128) rfl start 3 0 h3 (by decide)
  have c4 := Host.clampedStart_of_le (s := S128x2x8x64x128) (t := S1x2x8x64x128) rfl start 4 0 h4 (by decide)
  rw [Host.dynamicSlice_apply, Shape.Idx.norm_def]
  refine congrArg x (funext fun a => Fin.ext ?_)
  match a with
  | ⟨0, _⟩ => show Host.clampedStart S128x2x8x64x128 S1x2x8x64x128 rfl start 0 + 0 = n.val; omega
  | ⟨1, _⟩ => show Host.clampedStart S128x2x8x64x128 S1x2x8x64x128 rfl start 1 + b.val = b.val; omega
  | ⟨2, _⟩ => show Host.clampedStart S128x2x8x64x128 S1x2x8x64x128 rfl start 2 + h.val = h.val; omega
  | ⟨3, _⟩ => show Host.clampedStart S128x2x8x64x128 S1x2x8x64x128 rfl start 3 + i.val = i.val; omega
  | ⟨4, _⟩ => show Host.clampedStart S128x2x8x64x128 S1x2x8x64x128 rfl start 4 + d.val = d.val; omega

/-- A chunk without its number. -/
theorem drop_at (x : (⟨S1x2x8x64x128, .f32⟩ : BufTy).Contents (Elt Ideal)) :
    (shapeCast S2x8x64x128 x shapeCasts_S1x2x8x64x128_S2x8x64x128 : S2x8x64x128.Idx → EReal) (ix4 b h i d) = x (ix5 (0 : Fin 1) b h i d) := by
  pointwise

/-- The trip's queries. -/
theorem b5_at : b5 n.val s (ix4 b h i d) = s.main_v17_0 (ix5 n b h i d) :=
  (drop_at b h i d (b4 n.val s)).trans (slice_at n b h i d s.main_v17_0 _ (start_of n.val n.isLt) rfl rfl rfl rfl)
/-- The trip's keys. -/
theorem b11_at : b11 n.val s (ix4 b h i d) = s.main_v17_1 (ix5 n b h i d) :=
  (drop_at b h i d (b10 n.val s)).trans (slice_at n b h i d s.main_v17_1 _ (start_of n.val n.isLt) rfl rfl rfl rfl)
/-- The trip's values. -/
theorem b17_at : b17 n.val s (ix4 b h i d) = s.main_v17_2 (ix5 n b h i d) :=
  (drop_at b h i d (b16 n.val s)).trans (slice_at n b h i d s.main_v17_2 _ (start_of n.val n.isLt) rfl rfl rfl rfl)
/-- The trip's log-decays. -/
theorem b23_at : b23 n.val s (ix4 b h i d) = s.main_v17_3 (ix5 n b h i d) :=
  (drop_at b h i d (b22 n.val s)).trans (slice_at n b h i d s.main_v17_3 _ (start_of n.val n.isLt) rfl rfl rfl rfl)

/-- The outputs after a trip: the trip's own, the others as they were. -/
theorem b68_at (p : Fin 128) : b68 n.val s (ix5 p b h i d) = if p = n then b62 n.val s (ix4 b h i d) else s.main_v17_7 (ix5 p b h i d) := by
  have hn := n.isLt
  have hu : ∀ (u : (⟨S1x2x8x64x128, .f32⟩ : BufTy).Contents (Elt Ideal)) (start : Fin S128x2x8x64x128.rank → Int)
      (_ : start 0 = n.val) (_ : start 1 = 0) (_ : start 2 = 0) (_ : start 3 = 0) (_ : start 4 = 0),
      (Host.dynamicUpdateSlice s.main_v17_7 u start updateFits_S128x2x8x64x128_S1x2x8x64x128 : S128x2x8x64x128.Idx → EReal) (ix5 p b h i d)
        = if p = n then u (ix5 (0 : Fin 1) b h i d) else s.main_v17_7 (ix5 p b h i d) := fun u start h0 h1 h2 h3 h4 => by
    have c0 := Host.clampedStart_of_le (s := S128x2x8x64x128) (t := S1x2x8x64x128) rfl start 0 n.val h0 (by show n.val + 1 ≤ 128; omega)
    have c1 := Host.clampedStart_of_le (s := S128x2x8x64x128) (t := S1x2x8x64x128) rfl start 1 0 h1 (by decide)
    have c2 := Host.clampedStart_of_le (s := S128x2x8x64x128) (t := S1x2x8x64x128) rfl start 2 0 h2 (by decide)
    have c3 := Host.clampedStart_of_le (s := S128x2x8x64x128) (t := S1x2x8x64x128) rfl start 3 0 h3 (by decide)
    have c4 := Host.clampedStart_of_le (s := S128x2x8x64x128) (t := S1x2x8x64x128) rfl start 4 0 h4 (by decide)
    rw [Host.dynamicUpdateSlice_apply]
    by_cases hp : p = n
    · subst hp
      rw [if_pos rfl, dif_pos (fun a => by
        match a with
        | ⟨0, _⟩ => exact ⟨c0.le, by show p.val < Host.clampedStart S128x2x8x64x128 S1x2x8x64x128 rfl start 0 + 1; omega⟩
        | ⟨1, _⟩ => exact ⟨c1.le.trans (Nat.zero_le _), by show b.val < Host.clampedStart S128x2x8x64x128 S1x2x8x64x128 rfl start 1 + 2; omega⟩
        | ⟨2, _⟩ => exact ⟨c2.le.trans (Nat.zero_le _), by show h.val < Host.clampedStart S128x2x8x64x128 S1x2x8x64x128 rfl start 2 + 8; omega⟩
        | ⟨3, _⟩ => exact ⟨c3.le.trans (Nat.zero_le _), by show i.val < Host.clampedStart S128x2x8x64x128 S1x2x8x64x128 rfl start 3 + 64; omega⟩
        | ⟨4, _⟩ => exact ⟨c4.le.trans (Nat.zero_le _), by show d.val < Host.clampedStart S128x2x8x64x128 S1x2x8x64x128 rfl start 4 + 128; omega⟩), Shape.Idx.norm_def]
      refine congrArg u (funext fun a => Fin.ext ?_)
      match a with
      | ⟨0, _⟩ => show p.val - Host.clampedStart S128x2x8x64x128 S1x2x8x64x128 rfl start 0 = 0; omega
      | ⟨1, _⟩ => show b.val - Host.clampedStart S128x2x8x64x128 S1x2x8x64x128 rfl start 1 = b.val; omega
      | ⟨2, _⟩ => show h.val - Host.clampedStart S128x2x8x64x128 S1x2x8x64x128 rfl start 2 = h.val; omega
      | ⟨3, _⟩ => show i.val - Host.clampedStart S128x2x8x64x128 S1x2x8x64x128 rfl start 3 = i.val; omega
      | ⟨4, _⟩ => show d.val - Host.clampedStart S128x2x8x64x128 S1x2x8x64x128 rfl start 4 = d.val; omega
    · rw [if_neg hp, dif_neg (fun hin => hp (Fin.ext (by
        have a0 : Host.clampedStart S128x2x8x64x128 S1x2x8x64x128 rfl start 0 ≤ p.val ∧ p.val < Host.clampedStart S128x2x8x64x128 S1x2x8x64x128 rfl start 0 + 1 := hin 0
        omega)))]
  have hb : b63 n.val s (ix5 (0 : Fin 1) b h i d) = b62 n.val s (ix4 b h i d) := by
    unfold b63
    generalize b62 n.val s = x
    pointwise
  unfold b68
  rw [hu (b63 n.val s) _ (start_of n.val n.isLt) rfl rfl rfl rfl, hb]

end

/-! ## The running sum and the causal pairs -/

/-- The window of the running sum. -/
abbrev W : Shape := ⟨S2x8x64x128.rank, ![1, 1, 64, 1]⟩

/-- A place of the window is its place along the steps. -/
def along : W.Idx ≃ Fin 64 where
  toFun w := w 2
  invFun r := ix4 (0 : Fin 1) (0 : Fin 1) r (0 : Fin 1)
  left_inv w := by
    funext a; apply Fin.ext
    match a with
    | ⟨0, _⟩ => have : (w 0).val < 1 := (w 0).isLt; show 0 = (w 0).val; omega
    | ⟨1, _⟩ => have : (w 1).val < 1 := (w 1).isLt; show 0 = (w 1).val; omega
    | ⟨2, _⟩ => rfl
    | ⟨3, _⟩ => have : (w 3).val < 1 := (w 3).isLt; show 0 = (w 3).val; omega
  right_inv r := rfl

/-- The running sum along a chunk's steps. -/
theorem b26_at (j : ℕ) (s : State Ideal) (b : Fin 2) (h : Fin 8) (t : Fin 64) (e : Fin 128) :
    b26 j s (ix4 b h t e) = ∑ r : Fin 64, if r.val ≤ t.val then b23 j s (ix4 b h r e) else 0 := by
  unfold b26
  generalize b23 j s = x
  have hv : ∀ i, b25 j s i = 0 := fun i => by pointwise [b25, b24]
  have h0 : b25 j s = fun _ => (0 : EReal) := funext hv
  rw [h0]
  simp only [Host.reduceWindowAdd, Ideal.hostReduceWindowAdd_def]
  refine (window_sum (s := S2x8x64x128) (t := S2x8x64x128) ![1, 1, 64, 1] ![1, 1, 1, 1] ![0, 0, 63, 0] ![0, 0, 0, 0]
    reduceWindows_S2x8x64x128_S2x8x64x128_w1s1p0_0_w1s1p0_0_w64s1p63_0_w1s1p0_0 x (ix4 b h t e)).trans ?_
  refine Fintype.sum_equiv (along.trans (Equiv.addRight (⟨(t.val + 1) % 64, by omega⟩ : Fin 64))) _ _ fun w => ?_
  have w0 : (w 0).val < 1 := (w 0).isLt
  have w1 : (w 1).val < 1 := (w 1).isLt
  have w2 : (w 2).val < 64 := (w 2).isLt
  have w3 : (w 3).val < 1 := (w 3).isLt
  have ht := t.isLt
  have er : ((along.trans (Equiv.addRight (⟨(t.val + 1) % 64, by omega⟩ : Fin 64))) w).val = ((w 2).val + (t.val + 1) % 64) % 64 := Fin.val_add _ _
  generalize (along.trans (Equiv.addRight (⟨(t.val + 1) % 64, by omega⟩ : Fin 64))) w = r at er ⊢
  by_cases hw : 63 ≤ t.val + (w 2).val
  · have hr : r.val = t.val + (w 2).val - 63 := by omega
    rw [dif_pos (fun a => by
      match a with
      | ⟨0, _⟩ => show 0 ≤ b.val * 1 + (w 0).val ∧ b.val * 1 + (w 0).val - 0 < 2; omega
      | ⟨1, _⟩ => show 0 ≤ h.val * 1 + (w 1).val ∧ h.val * 1 + (w 1).val - 0 < 8; omega
      | ⟨2, _⟩ => show 63 ≤ t.val * 1 + (w 2).val ∧ t.val * 1 + (w 2).val - 63 < 64; omega
      | ⟨3, _⟩ => show 0 ≤ e.val * 1 + (w 3).val ∧ e.val * 1 + (w 3).val - 0 < 128; omega), if_pos (show r.val ≤ t.val from by omega)]
    refine congrArg x (funext fun a => Fin.ext ?_)
    match a with
    | ⟨0, _⟩ => show b.val * 1 + (w 0).val - 0 = b.val; omega
    | ⟨1, _⟩ => show h.val * 1 + (w 1).val - 0 = h.val; omega
    | ⟨2, _⟩ => show t.val * 1 + (w 2).val - 63 = r.val; omega
    | ⟨3, _⟩ => show e.val * 1 + (w 3).val - 0 = e.val; omega
  · rw [dif_neg (fun hin => hw (by have h2 : 63 ≤ t.val * 1 + (w 2).val := (hin 2).1; omega)), if_neg (show ¬r.val ≤ t.val from by omega)]

/-- The causal pairs. -/
theorem v13_at (t s : Fin 64) : K_main_v13 (F := Ideal) (ix2 t s) = if s.val ≤ t.val then 1#1 else 0#1 := by
  have hs := s.isLt
  have ht := t.isLt
  pointwise [K_main_v13, K_main_v12, K_main_c, K_main_call0_v0, K_main_call0_v1, K_main_call0_v2, K_main_call0_v3, K_main_call0_v4, K_main_call0_v5, K_main_call0_c, K_main_call0_c_0]
  have e1 : (BitVec.ofNat 32 t.val + 0#32).toInt = t.val := by
    rw [BitVec.add_zero, BitVec.toInt_ofNat']
    exact Int.bmod_eq_of_le (by omega) (by omega)
  have e2 : (BitVec.ofNat 32 s.val).toInt = s.val := by
    rw [BitVec.toInt_ofNat']
    exact Int.bmod_eq_of_le (by omega) (by omega)
  show Scalar.select (BitVec.ofBool ((BitVec.ofNat 32 s.val).sle (BitVec.ofNat 32 t.val + 0#32))) 1#1 0#1 = _
  rw [BitVec.sle_eq_decide, e1, e2]
  by_cases hst : s.val ≤ t.val <;> simp [hst, Scalar.select]

/-! ## A trip -/

section
variable (j : ℕ) (s : State Ideal) (b : Fin 2) (h : Fin 8)

/-- The decay between two steps of a chunk. -/
theorem b37_at (t r : Fin 64) (e : Fin 128) : b37 j s (ix5 b h t r e) = Ideal.exp (Scalar.select (K_main_v13 (F := Ideal) (ix2 t r))
    (b26 j s (ix4 b h t e) - b26 j s (ix4 b h r e)) ⊥) := by
  unfold b37 b36 b35 b34 b33 b31 b30 b29 b28 b27 K_main_v14
  generalize b26 j s = G
  generalize K_main_v13 (F := Ideal) = U
  pointwise [b32]
  have hb : Ideal.ofBits .f32 0xFF800000#32 = ⊥ := by simp [Ideal.ofBits, Ideal.ieee]
  rw [← hb]

/-- The score of two steps. -/
theorem b45_at (t r : Fin 64) : b45 j s (ix4 b h t r) = ∑ e : Fin 128, b5 j s (ix4 b h t e) * b11 j s (ix4 b h r e) * b37 j s (ix5 b h t r e) := by
  unfold b45 b43 b42 b41 b40 b39 b38
  generalize b37 j s = D
  generalize b11 j s = K
  generalize b5 j s = Q
  pointwise [b44]

/-- The outputs from the chunk's own steps and from the state before it. -/
theorem b62_at (t : Fin 64) (d : Fin 128) : b62 j s (ix4 b h t d) = (∑ r : Fin 64, b45 j s (ix4 b h t r) * b17 j s (ix4 b h r d))
    + ∑ e : Fin 128, b5 j s (ix4 b h t e) * Ideal.exp (b26 j s (ix4 b h t e)) * s.main_v17_6 (ix4 b h e d) := by
  unfold b62 b49 b48 b47 b46
  generalize b45 j s = D
  generalize b17 j s = V
  generalize b26 j s = G
  generalize b5 j s = Q
  generalize s.main_v17_6 = S
  pointwise

/-- The state after the chunk. -/
theorem b61_at (e d : Fin 128) : b61 j s (ix4 b h e d) = Ideal.exp (b26 j s (ix4 b h (63 : Fin 64) e)) * s.main_v17_6 (ix4 b h e d)
    + ∑ r : Fin 64, b11 j s (ix4 b h r e) * Ideal.exp (b26 j s (ix4 b h (63 : Fin 64) e) - b26 j s (ix4 b h r e)) * b17 j s (ix4 b h r d) := by
  unfold b61 b60 b59 b58 b57 b56 b55 b54 b53 b52 b51 b50
  generalize b26 j s = G
  generalize b17 j s = V
  generalize b11 j s = K
  generalize s.main_v17_6 = S
  pointwise

end

/-- The state starts at zero. -/
theorem v15_at (i : S2x8x128x128.Idx) : K_main_v15 (F := Ideal) i = 0 := by pointwise [K_main_v15, K_main_cst]

end Cert.HgrnRefIdeal.Arrays
end
-- ==== Proof.HgrnUnit.lean ====
/- One chunk of the recurrence's body for one head: the operations of the body, stated once with the head's first column a
   parameter, and the writes of a whole body as lists over the four chunks and the eight heads. -/
module

public import proofs.«01_k».proof.Proof.Gen.HgrnIdeal.Value

@[expose] public section

set_option maxRecDepth 16384

noncomputable section

namespace Cert.HgrnIdeal.Unit

open Cert.HgrnIdeal Cert.HgrnIdeal.Gen
open Idealize.ShloMosaic Idealize.ShloMosaic.TcCoe Idealize.SL.Sem

variable {F : FTy → Type} [FloatOps F]

/-- The columns of head `h` lie inside the array. -/
theorem cols (h : Fin 8) : S64x1024.Slices ![0, 128 * h.val] S64x128 := by
  fin_cases h
  exacts [slices_S64x1024_o0_0_S64x128, slices_S64x1024_o0_128_S64x128, slices_S64x1024_o0_256_S64x128, slices_S64x1024_o0_384_S64x128,
    slices_S64x1024_o0_512_S64x128, slices_S64x1024_o0_640_S64x128, slices_S64x1024_o0_768_S64x128, slices_S64x1024_o0_896_S64x128]
/-- The columns of head `h` lie inside a row. -/
theorem cols1 (h : Fin 8) : S1x1024.Slices ![0, 128 * h.val] S1x128 := by
  fin_cases h
  exacts [slices_S1x1024_o0_0_S1x128, slices_S1x1024_o0_128_S1x128, slices_S1x1024_o0_256_S1x128, slices_S1x1024_o0_384_S1x128,
    slices_S1x1024_o0_512_S1x128, slices_S1x1024_o0_640_S1x128, slices_S1x1024_o0_768_S1x128, slices_S1x1024_o0_896_S1x128]

/-- Which rows of the chunk lie in the upper half of their block of `w` rows, the half being `b`. -/
def upper (w b : BitVec 32) : IVec S64x1 1 :=
  have v3 : IVec S64x1 32 := iota .tc S64x1 32 [0] iota_S64x1_d0_w32
  let v55 : BitVec 1 := Scalar.cmpi .eq w 0#32
  let v56 : BitVec 32 := Scalar.select v55 1#32 w
  have v57 : IVec S64x1 32 := broadcast S64x1 v56
  have v58 : IVec S64x1 32 := remsi v3 v57
  have v59 : IVec S64x1 32 := broadcast S64x1 0#32
  have v60 : IVec S64x1 1 := cmpi .ne v58 v59
  have v61 : IVec S64x1 32 := broadcast S64x1 0#32
  have v62 : IVec S64x1 1 := cmpi .slt v58 v61
  let v63 : BitVec 1 := Scalar.cmpi .slt v56 0#32
  have v64 : IVec S64x1 1 := broadcast S64x1 v63
  have v65 : IVec S64x1 1 := broadcastTo S64x1 v64 broadcasts_S64x1_S64x1
  have v66 : IVec S64x1 1 := xori v62 v65
  have v67 : IVec S64x1 1 := andi v66 v60
  have v68 : IVec S64x1 32 := broadcast S64x1 v56
  have v69 : IVec S64x1 32 := addi v58 v68
  have v70 : IVec S64x1 32 := select v67 v69 v58
  have v71 : IVec S64x1 32 := broadcast S64x1 b
  cmpi .sge v70 v71

/-- A level's rows: the query in the upper half and the key in the lower, times the level's decay. -/
def level (w b : BitVec 32) (q k : Vec F S64x1024 .f32) (L : FVec F S64x1024 .f32) : FVec F S64x1024 .bf16 :=
  truncf .bf16 (mulf (select (broadcastTo S64x1024 (shapeCast S64x1 (upper w b) shapeCasts_S64x1_S64x1) broadcasts_S64x1_S64x1024) q k) L) bitsLt_bf16_f32

/-- A product of head `h`'s columns, masked. -/
def scored (h : Fin 8) (m : Vec F S1x64x64 .f32) (x y : FVec F S64x1024 .bf16) : FVec F S64x64 .f32 :=
  mulf (shapeCast S64x64 m shapeCasts_S1x64x64_S64x64)
    (matmul dot_S64x128_S64x128_S64x64_1_1_0_0_n_n none (extractStridedSlice S64x128 ![0, 128 * h.val] x (cols h))
      (extractStridedSlice S64x128 ![0, 128 * h.val] y (cols h)) (constant S64x64 .f32 0x00000000#32))

/-- The scores of head `h` within the chunk: the diagonal, then the six levels. -/
def scores (h : Fin 8) (m : Fin 7 → Vec F S1x64x64 .f32) (q k : Vec F S64x1024 .f32) (D : FVec F S512x1024 .f32) : FVec F S64x64 .f32 :=
  let x0 := level 2#32 1#32 q k (extractStridedSlice S64x1024 ![0, 0] D slices_S512x1024_o0_0_S64x1024)
  let x1 := level 4#32 2#32 q k (extractStridedSlice S64x1024 ![64, 0] D slices_S512x1024_o64_0_S64x1024)
  let x2 := level 8#32 4#32 q k (extractStridedSlice S64x1024 ![128, 0] D slices_S512x1024_o128_0_S64x1024)
  let x3 := level 16#32 8#32 q k (extractStridedSlice S64x1024 ![192, 0] D slices_S512x1024_o192_0_S64x1024)
  let x4 := level 32#32 16#32 q k (extractStridedSlice S64x1024 ![256, 0] D slices_S512x1024_o256_0_S64x1024)
  let x5 := level 64#32 32#32 q k (extractStridedSlice S64x1024 ![320, 0] D slices_S512x1024_o320_0_S64x1024)
  addf (addf (addf (addf (addf (addf (scored h (m 6) (truncf .bf16 q bitsLt_bf16_f32) (truncf .bf16 k bitsLt_bf16_f32))
    (scored h (m 0) x0 x0)) (scored h (m 1) x1 x1)) (scored h (m 2) x2 x2)) (scored h (m 3) x3 x3)) (scored h (m 4) x4 x4)) (scored h (m 5) x5 x5)

/-- Head `h`'s outputs in the chunk, from its scores and the state before the chunk. -/
def outU (h : Fin 8) (m : Fin 7 → Vec F S1x64x64 .f32) (q k v : Vec F S64x1024 .f32) (D : FVec F S512x1024 .f32)
    (S : Vec F S1x128x128 .f32) : FVec F S64x128 .f32 :=
  addf (matmul dot_S64x64_S64x128_S64x128_1_0_0_1_n_n none (truncf .bf16 (scores h m q k D) bitsLt_bf16_f32)
      (truncf .bf16 (extractStridedSlice S64x128 ![0, 128 * h.val] v (cols h)) bitsLt_bf16_f32) (constant S64x128 .f32 0x00000000#32))
    (matmul dot_S64x128_S128x128_S64x128_1_1_0_0_n_n none
      (extractStridedSlice S64x128 ![0, 128 * h.val]
        (truncf .bf16 (mulf q (extractStridedSlice S64x1024 ![384, 0] D slices_S512x1024_o384_0_S64x1024)) bitsLt_bf16_f32) (cols h))
      (truncf .bf16 (shapeCast S128x128 S shapeCasts_S1x128x128_S128x128) bitsLt_bf16_f32) (constant S64x128 .f32 0x00000000#32))

/-- Head `h`'s state after the chunk. -/
def stU (h : Fin 8) (k v : Vec F S64x1024 .f32) (D : FVec F S512x1024 .f32) (S : Vec F S1x128x128 .f32) : FVec F S1x128x128 .f32 :=
  shapeCast S1x128x128
    (addf (mulf (broadcastTo S128x128 (extractStridedSlice S1x128 ![0, 128 * h.val]
            (extractStridedSlice S1x1024 ![447, 0] D slices_S512x1024_o447_0_S1x1024) (cols1 h)) broadcasts_S1x128_S128x128)
          (shapeCast S128x128 S shapeCasts_S1x128x128_S128x128))
      (matmul dot_S128x64_S64x128_S128x128_1_0_0_1_n_n none
        (truncf .bf16 (transpose S128x64 [1, 0] (extractStridedSlice S64x128 ![0, 128 * h.val] v (cols h)) transposes_S64x128_p1_0_S128x64) bitsLt_bf16_f32)
        (extractStridedSlice S64x128 ![0, 128 * h.val]
          (truncf .bf16 (mulf k (extractStridedSlice S64x1024 ![448, 0] D slices_S512x1024_o448_0_S64x1024)) bitsLt_bf16_f32) (cols h))
        (constant S128x128 .f32 0x00000000#32)))
    shapeCasts_S128x128_S1x128x128

/-! ## The writes of a body -/

/-- The rows of chunk `a`. -/
theorem inRows (a : Fin 4) : ∀ d, ![64 * a.val, 0] d + S64x1024.size d ≤ S256x1024.size d := by
  have := a.isLt
  intro d; match d with
  | ⟨0, _⟩ => show 64 * a.val + 64 ≤ 256; omega
  | ⟨1, _⟩ => show 0 + 1024 ≤ 1024; omega
/-- Head `h`'s tile of chunk `a`. -/
theorem inTile (a : Fin 4) (h : Fin 8) : ∀ d, ![64 * a.val, 128 * h.val] d + S64x128.size d ≤ S256x1024.size d := by
  have := a.isLt; have := h.isLt
  intro d; match d with
  | ⟨0, _⟩ => show 64 * a.val + 64 ≤ 256; omega
  | ⟨1, _⟩ => show 128 * h.val + 128 ≤ 1024; omega
/-- Head `h`'s slot of the scratch. -/
theorem inSlot (h : Fin 8) : ∀ d, ![h.val, 0, 0] d + S1x128x128.size d ≤ S8x128x128.size d := by
  have := h.isLt
  intro d; match d with
  | ⟨0, _⟩ => show h.val + 1 ≤ 8; omega
  | ⟨1, _⟩ => show 0 + 128 ≤ 128; omega
  | ⟨2, _⟩ => show 0 + 128 ≤ 128; omega
/-- A level's mask. -/
theorem inMask (l : Fin 7) : ∀ d, ![l.val, 0, 0] d + S1x64x64.size d ≤ S7x64x64.size d := by
  have := l.isLt
  intro d; match d with
  | ⟨0, _⟩ => show l.val + 1 ≤ 7; omega
  | ⟨1, _⟩ => show 0 + 64 ≤ 64; omega
  | ⟨2, _⟩ => show 0 + 64 ≤ 64; omega

/-- The rows of chunk `a`. -/
abbrev rowsR (a : Fin 4) : Rect S256x1024 := Rect.unit ![64 * a.val, 0] S64x1024.size (inRows a)
/-- The tile of chunk `a` and head `h`. -/
abbrev tileR (a : Fin 4) (h : Fin 8) : Rect S256x1024 := Rect.unit ![64 * a.val, 128 * h.val] S64x128.size (inTile a h)
/-- The slot of head `h`. -/
abbrev slotR (h : Fin 8) : Rect S8x128x128 := Rect.unit ![h.val, 0, 0] S1x128x128.size (inSlot h)
/-- Mask `l`. -/
abbrev maskR (l : Fin 7) : Rect S7x64x64 := Rect.unit ![l.val, 0, 0] S1x64x64.size (inMask l)
/-- The whole table. -/
abbrev tableR : Rect S512x192 := Rect.unit ![0, 0] S512x192.size inb_S512x192_S512x192_0_0

/-- The heads, last first. -/
abbrev down : List (Fin 8) := [7, 6, 5, 4, 3, 2, 1, 0]

/-- The chunk's state writes over the earlier ones. -/
def stepL (k v : Fin 4 → Vec F S64x1024 .f32) (D : Fin 4 → FVec F S512x1024 .f32) (a : Fin 4) (S : Fin 8 → Vec F S1x128x128 .f32)
    (L : List (View.Piece (Elt F) S8x128x128 .f32)) : List (View.Piece (Elt F) S8x128x128 .f32) :=
  down.map (fun h => ⟨slotR h, stU h (k a) (v a) (D a) (S h)⟩) ++ L

/-- The chunk's output writes. -/
def outL (m : Fin 7 → Vec F S1x64x64 .f32) (q k v : Fin 4 → Vec F S64x1024 .f32) (D : Fin 4 → FVec F S512x1024 .f32) (a : Fin 4)
    (S : Fin 8 → Vec F S1x128x128 .f32) : List (View.Piece (Elt F) S256x1024 .f32) :=
  down.map (fun h => ⟨tileR a h, outU h m (q a) (k a) (v a) (D a) (S h)⟩)

section
variable (g : View sig .tc .vmem S8x128x128 .f32) (k v : Fin 4 → Vec F S64x1024 .f32) (D : Fin 4 → FVec F S512x1024 .f32)
  (S0 : Fin 8 → Vec F S1x128x128 .f32) (L0 : List (View.Piece (Elt F) S8x128x128 .f32))

/-- The state writes after one to four chunks, and each slot as it is read after them. -/
def L1 := stepL k v D 0 S0 L0
/-- The states after the first chunk. -/
def S1 (h : Fin 8) : Vec F S1x128x128 .f32 := g.readCov (L1 k v D S0 L0) (slotR h).toLoadRect
/-- The writes up to the second chunk. -/
def L2 := stepL k v D 1 (S1 g k v D S0 L0) (L1 k v D S0 L0)
/-- The states after the second. -/
def S2 (h : Fin 8) : Vec F S1x128x128 .f32 := g.readCov (L2 g k v D S0 L0) (slotR h).toLoadRect
/-- The writes up to the third. -/
def L3 := stepL k v D 2 (S2 g k v D S0 L0) (L2 g k v D S0 L0)
/-- The states after the third. -/
def S3 (h : Fin 8) : Vec F S1x128x128 .f32 := g.readCov (L3 g k v D S0 L0) (slotR h).toLoadRect
/-- The writes up to the fourth. -/
def L4 := stepL k v D 3 (S3 g k v D S0 L0) (L3 g k v D S0 L0)
/-- The output writes of the four chunks. -/
def outs (m : Fin 7 → Vec F S1x64x64 .f32) (q : Fin 4 → Vec F S64x1024 .f32) : List (View.Piece (Elt F) S256x1024 .f32) :=
  outL m q k v D 3 (S3 g k v D S0 L0) ++ (outL m q k v D 2 (S2 g k v D S0 L0) ++ (outL m q k v D 1 (S1 g k v D S0 L0) ++ outL m q k v D 0 S0))
end

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x192 .bf16) (harg6 : arg6.IsWhole) (arg7 : Memref sig .tc .vmem S7x64x64 .f32) (harg7 : arg7.IsWhole) (arg8 : Memref sig .tc .vmem S256x1024 .f32) (harg8 : arg8.IsWhole) (arg9 : Memref sig .tc .vmem S8x128x128 .f32) (harg9 : arg9.IsWhole)
    (x0 : Vec F S256x1024 .f32) (x1 : Vec F S256x1024 .f32) (x2 : Vec F S256x1024 .f32) (x3 : Vec F S256x1024 .f32) (x4 : Vec F S512x192 .bf16) (x5 : Vec F S7x64x64 .f32) (xs0 : Vec F S8x128x128 .f32)

/-- A chunk's rows as the body loads them. -/
abbrev ldRows (arg : Memref sig .tc .vmem S256x1024 .f32) (harg : arg.IsWhole) (x : Vec F S256x1024 .f32) (a : Fin 4) : Vec F S64x1024 .f32 :=
  View.readAt (Elt F) arg.view (rowsR a).toLoadRect (harg.unread x)
/-- A mask as the body loads it. -/
abbrev ldMask (x : Vec F S7x64x64 .f32) (l : Fin 7) : Vec F S1x64x64 .f32 := View.readAt (Elt F) arg7.view (maskR l).toLoadRect (harg7.unread x)
/-- A chunk's decays as the body computes them. -/
abbrev ldDec (a : Fin 4) : FVec F S512x1024 .f32 :=
  k0_pay3 (ldRows arg5 harg5 x3 a) (View.readAt (Elt F) arg6.view tableR.toLoadRect (harg6.unread x4))
/-- A slot as the body first loads it, where the scratch holds `xs0`. -/
abbrev ldSlot (h : Fin 8) : Vec F S1x128x128 .f32 := View.readAt (Elt F) arg9.view (slotR h).toLoadRect (harg9.unread xs0)
/-- A slot as the body first loads it, where it has just cleared the scratch. -/
abbrev zeroL : List (View.Piece (Elt F) S8x128x128 .f32) := [⟨Rect.unit ![0, 0, 0] S8x128x128.size inb_S8x128x128_S8x128x128_0_0_0, k0_pay2⟩]

/-- The body's output writes where it does not clear the scratch. -/
theorem outs_B (hc0 : ¬cond0_0 i) :
    (kernelRun0_B c i arg2 harg2 arg3 harg3 arg4 harg4 arg5 harg5 arg6 harg6 arg7 harg7 arg8 harg8 arg9 harg9 hc0 x0 x1 x2 x3 x4 x5 xs0).1
      = outs arg9.view (ldRows arg3 harg3 x1) (ldRows arg4 harg4 x2) (ldDec arg5 harg5 arg6 harg6 x3 x4) (ldSlot arg9 harg9 xs0) []
          (ldMask arg7 harg7 x5) (ldRows arg2 harg2 x0) := by
  sl_kernel_rfl

/-- Its state writes there. -/
theorem states_B (hc0 : ¬cond0_0 i) :
    (kernelRun0_B c i arg2 harg2 arg3 harg3 arg4 harg4 arg5 harg5 arg6 harg6 arg7 harg7 arg8 harg8 arg9 harg9 hc0 x0 x1 x2 x3 x4 x5 xs0).2.1
      = L4 arg9.view (ldRows arg3 harg3 x1) (ldRows arg4 harg4 x2) (ldDec arg5 harg5 arg6 harg6 x3 x4) (ldSlot arg9 harg9 xs0) [] := by
  sl_kernel_rfl

/-- The body's output writes where it clears the scratch first. -/
theorem outs_A (hc0 : cond0_0 i) :
    (kernelRun0_A c i arg2 harg2 arg3 harg3 arg4 harg4 arg5 harg5 arg6 harg6 arg7 harg7 arg8 harg8 arg9 harg9 hc0 x0 x1 x2 x3 x4 x5).1
      = outs arg9.view (ldRows arg3 harg3 x1) (ldRows arg4 harg4 x2) (ldDec arg5 harg5 arg6 harg6 x3 x4)
          (fun h => arg9.view.readCov zeroL (slotR h).toLoadRect) zeroL (ldMask arg7 harg7 x5) (ldRows arg2 harg2 x0) := by
  sl_kernel_rfl

/-- Its state writes there. -/
theorem states_A (hc0 : cond0_0 i) :
    (kernelRun0_A c i arg2 harg2 arg3 harg3 arg4 harg4 arg5 harg5 arg6 harg6 arg7 harg7 arg8 harg8 arg9 harg9 hc0 x0 x1 x2 x3 x4 x5).2.1
      = L4 arg9.view (ldRows arg3 harg3 x1) (ldRows arg4 harg4 x2) (ldDec arg5 harg5 arg6 harg6 x3 x4)
          (fun h => arg9.view.readCov zeroL (slotR h).toLoadRect) zeroL := by
  sl_kernel_rfl
end

end Cert.HgrnIdeal.Unit
end
-- ==== Proof.HgrnPairs.lean ====
/- The pairs and the intervals of a chunk of 64 rows, cut in halves six times. -/
module

public import Mathlib.Data.Nat.Basic

@[expose] public section

namespace Cert.HgrnIdeal.Unit

/-- The last row of the lower half of row `i`'s block of `2 ^ (l + 1)` rows. -/
def pivot (l i : ℕ) : ℕ := i / 2 ^ (l + 1) * 2 ^ (l + 1) + 2 ^ l - 1

/-- Where the decay of row `i` begins: at a level between the row and its pivot, in block 6 with the chunk, in block 7 after the row. -/
def lo (l i : ℕ) : ℕ := if l < 6 then min i (pivot l i) + 1 else if l = 6 then 0 else i + 1

/-- Where it ends. -/
def hi (l i : ℕ) : ℕ := if l < 6 then max i (pivot l i) + 1 else if l = 6 then i + 1 else 64

/-- Row `i` lies in the upper half of its block of `2 ^ (l + 1)` rows. -/
abbrev isUp (l i : ℕ) : Prop := 2 ^ l ≤ i % 2 ^ (l + 1)

/-- The pairs of mask `l`. -/
abbrev paired (l i j : ℕ) : Prop := if l < 6 then isUp l i ∧ ¬isUp l j ∧ i / 2 ^ (l + 1) = j / 2 ^ (l + 1) else i = j

end Cert.HgrnIdeal.Unit
-- ==== Proof.HgrnPoint.lean ====
/- One chunk for one head, at an index. -/
module

public import proofs.«01_k».proof.Proof.HgrnUnit
public import proofs.«01_k».proof.Proof.HgrnPairs
public import Idealize.ShloMosaic.Lib.Pointwise

@[expose] public section

set_option maxRecDepth 16384

noncomputable section

namespace Cert.HgrnIdeal.Unit

open Cert.HgrnIdeal Cert.HgrnIdeal.Gen
open Idealize.ShloMosaic Idealize.ShloMosaic.TcCoe Idealize.SL.Sem

/-- Column `d` of head `h`. -/
abbrev col (h : Fin 8) (d : Fin 128) : Fin 1024 := ⟨128 * h.val + d.val, by omega⟩

/-- Row `i` of block `l` of the decays. -/
abbrev row (l : Fin 8) (i : Fin 64) : Fin 512 := ⟨64 * l.val + i.val, by omega⟩

/-- The decays: the exponential of a row of the table times the chunk, the two further copies of the chunk being differences. -/
theorem dec_at (l : Vec Ideal S64x1024 .f32) (T : Vec Ideal S512x192 .bf16) (p : Fin 512) (c : Fin 1024) :
    k0_pay3 (F := Ideal) l T (ix2 p c) = Ideal.exp (∑ x : Fin 192, T (ix2 p x) *
      if h : x.val < 64 then l (ix2 ⟨x.val, h⟩ c)
      else if h : x.val - 64 < 64 then l (ix2 ⟨x.val - 64, h⟩ c) - l (ix2 ⟨x.val - 64, h⟩ c)
      else l (ix2 ⟨x.val - 64 - 64, by omega⟩ c) - l (ix2 ⟨x.val - 64 - 64, by omega⟩ c)
        - (l (ix2 ⟨x.val - 64 - 64, by omega⟩ c) - l (ix2 ⟨x.val - 64 - 64, by omega⟩ c))) := by
  pointwise [k0_pay3]

/-- A level's row: the query where it is in the upper half, the key where it is in the lower. -/
theorem level_at (w b : BitVec 32) (q k L : Vec Ideal S64x1024 .f32) (i : Fin 64) (c : Fin 1024) :
    level (F := Ideal) w b q k L (ix2 i c) = Scalar.select (upper w b (ix2 i 0)) (q (ix2 i c)) (k (ix2 i c)) * L (ix2 i c) := by
  pointwise [level]

/-- Rows of the decays taken out as a block. -/
theorem block_at (l : Fin 8) (D : Vec Ideal S512x1024 .f32) (s : S512x1024.Slices ![64 * l.val, 0] S64x1024) (i : Fin 64) (c : Fin 1024) :
    extractStridedSlice S64x1024 ![64 * l.val, 0] D s (ix2 i c) = D (ix2 (row l i) c) := by
  pointwise []

/-- A masked product. -/
theorem scored_at (h : Fin 8) (m : Vec Ideal S1x64x64 .f32) (x y : Vec Ideal S64x1024 .bf16) (i j : Fin 64) :
    scored (F := Ideal) h m x y (ix2 i j) = m (ix3 0 i j) * ∑ d : Fin 128, x (ix2 i (col h d)) * y (ix2 j (col h d)) := by
  pointwise [scored]

/-- A head's output. -/
theorem out_at (h : Fin 8) (m : Fin 7 → Vec Ideal S1x64x64 .f32) (q k v : Vec Ideal S64x1024 .f32) (D : Vec Ideal S512x1024 .f32)
    (S : Vec Ideal S1x128x128 .f32) (i : Fin 64) (d : Fin 128) :
    outU (F := Ideal) h m q k v D S (ix2 i d) = (∑ j : Fin 64, scores h m q k D (ix2 i j) * v (ix2 j (col h d)))
      + ∑ e : Fin 128, (q (ix2 i (col h e)) * D (ix2 ⟨384 + i.val, by omega⟩ (col h e))) * S (ix3 0 d e) := by
  unfold outU
  generalize scores h m q k D = s
  pointwise []

/-- A head's next state. -/
theorem st_at (h : Fin 8) (k v : Vec Ideal S64x1024 .f32) (D : Vec Ideal S512x1024 .f32)
    (S : Vec Ideal S1x128x128 .f32) (d e : Fin 128) :
    stU (F := Ideal) h k v D S (ix3 0 d e) = D (ix2 447 (col h e)) * S (ix3 0 d e)
      + ∑ j : Fin 64, v (ix2 j (col h d)) * (k (ix2 j (col h e)) * D (ix2 ⟨448 + j.val, by omega⟩ (col h e))) := by
  pointwise [stU]

/-- The upper halves, level by level. -/
theorem upper_at : ∀ i : Fin 64, upper 2#32 1#32 (ix2 i 0) = (if isUp 0 i.val then 1#1 else 0#1)
    ∧ upper 4#32 2#32 (ix2 i 0) = (if isUp 1 i.val then 1#1 else 0#1) ∧ upper 8#32 4#32 (ix2 i 0) = (if isUp 2 i.val then 1#1 else 0#1)
    ∧ upper 16#32 8#32 (ix2 i 0) = (if isUp 3 i.val then 1#1 else 0#1) ∧ upper 32#32 16#32 (ix2 i 0) = (if isUp 4 i.val then 1#1 else 0#1)
    ∧ upper 64#32 32#32 (ix2 i 0) = (if isUp 5 i.val then 1#1 else 0#1) := by
  decide +kernel

/-- Row `i` of level `l` for head `h`. -/
def lvl (h : Fin 8) (q k : Vec Ideal S64x1024 .f32) (D : Vec Ideal S512x1024 .f32) (l : Fin 8) (i : Fin 64) (d : Fin 128) : EReal :=
  (if isUp l.val i.val then q (ix2 i (col h d)) else k (ix2 i (col h d))) * D (ix2 (row l i) (col h d))

/-- A selection by a decided word. -/
theorem select_ite (p : Prop) [Decidable p] (x y : EReal) : Scalar.select (if p then 1#1 else 0#1) x y = if p then x else y := by
  by_cases hp : p <;> simp [hp, Scalar.select]

/-- The scores of a head, level by level. -/
theorem scores_at (h : Fin 8) (m : Fin 7 → Vec Ideal S1x64x64 .f32) (q k : Vec Ideal S64x1024 .f32) (D : Vec Ideal S512x1024 .f32) (i j : Fin 64) :
    scores (F := Ideal) h m q k D (ix2 i j) = m 6 (ix3 0 i j) * (∑ d : Fin 128, q (ix2 i (col h d)) * k (ix2 j (col h d)))
      + m 0 (ix3 0 i j) * (∑ d : Fin 128, lvl h q k D 0 i d * lvl h q k D 0 j d)
      + m 1 (ix3 0 i j) * (∑ d : Fin 128, lvl h q k D 1 i d * lvl h q k D 1 j d)
      + m 2 (ix3 0 i j) * (∑ d : Fin 128, lvl h q k D 2 i d * lvl h q k D 2 j d)
      + m 3 (ix3 0 i j) * (∑ d : Fin 128, lvl h q k D 3 i d * lvl h q k D 3 j d)
      + m 4 (ix3 0 i j) * (∑ d : Fin 128, lvl h q k D 4 i d * lvl h q k D 4 j d)
      + m 5 (ix3 0 i j) * (∑ d : Fin 128, lvl h q k D 5 i d * lvl h q k D 5 j d) := by
  obtain ⟨a0, a1, a2, a3, a4, a5⟩ := upper_at i
  obtain ⟨b0, b1, b2, b3, b4, b5⟩ := upper_at j
  have e : ∀ (x y : Vec Ideal S64x64 .f32), addf (F := Ideal) (φ := .f32) x y (ix2 i j) = x (ix2 i j) + y (ix2 i j) := fun _ _ => rfl
  unfold scores
  have c0 : ∀ (i : Fin 64) (c : Fin 1024), extractStridedSlice S64x1024 ![0, 0] D slices_S512x1024_o0_0_S64x1024 (ix2 i c) = D (ix2 (row 0 i) c) :=
    fun i c => block_at 0 D _ i c
  have c1 : ∀ (i : Fin 64) (c : Fin 1024), extractStridedSlice S64x1024 ![64, 0] D slices_S512x1024_o64_0_S64x1024 (ix2 i c) = D (ix2 (row 1 i) c) :=
    fun i c => block_at 1 D _ i c
  have c2 : ∀ (i : Fin 64) (c : Fin 1024), extractStridedSlice S64x1024 ![128, 0] D slices_S512x1024_o128_0_S64x1024 (ix2 i c) = D (ix2 (row 2 i) c) :=
    fun i c => block_at 2 D _ i c
  have c3 : ∀ (i : Fin 64) (c : Fin 1024), extractStridedSlice S64x1024 ![192, 0] D slices_S512x1024_o192_0_S64x1024 (ix2 i c) = D (ix2 (row 3 i) c) :=
    fun i c => block_at 3 D _ i c
  have c4 : ∀ (i : Fin 64) (c : Fin 1024), extractStridedSlice S64x1024 ![256, 0] D slices_S512x1024_o256_0_S64x1024 (ix2 i c) = D (ix2 (row 4 i) c) :=
    fun i c => block_at 4 D _ i c
  have c5 : ∀ (i : Fin 64) (c : Fin 1024), extractStridedSlice S64x1024 ![320, 0] D slices_S512x1024_o320_0_S64x1024 (ix2 i c) = D (ix2 (row 5 i) c) :=
    fun i c => block_at 5 D _ i c
  simp only [e, scored_at, level_at, a0, a1, a2, a3, a4, a5, b0, b1, b2, b3, b4, b5, select_ite, c0, c1, c2, c3, c4, c5]
  rfl

end Cert.HgrnIdeal.Unit
end
-- ==== Proof.HgrnReal.lean ====
/- One chunk for one head, its log-decays real. -/
module

public import proofs.«01_k».proof.Proof.HgrnPoint
public import proofs.«01_k».proof.Proof.Lemmas

@[expose] public section

noncomputable section

namespace Cert.HgrnIdeal.Unit

open Cert.Lemmas (coe_sum)
open Cert.HgrnIdeal Cert.HgrnIdeal.Gen
open Idealize.ShloMosaic Idealize.ShloMosaic.TcCoe Idealize.SL.Sem

/-- The table holds the decays' intervals. -/
def Tab (T : Vec Ideal S512x192 .bf16) : Prop := ∀ (l : Fin 8) (i r : Fin 64),
  T (ix2 (row l i) ⟨r.val, by omega⟩) = if lo l.val i.val ≤ r.val ∧ r.val < hi l.val i.val then 1 else 0

/-- The masks hold the pairs. -/
def Msk (m : Fin 7 → Vec Ideal S1x64x64 .f32) : Prop := ∀ (l : Fin 7) (i j : Fin 64), m l (ix3 0 i j) = if paired l.val i.val j.val then 1 else 0

/-- A chunk's rows for head `h` are these, the log-decays being the increments of `G`. -/
structure Chunk (h : Fin 8) (q k v l : Vec Ideal S64x1024 .f32) (Q K V : ℕ → Fin 128 → EReal) (G : Fin 128 → ℕ → ℝ) : Prop where
  hq : ∀ (i : Fin 64) (d : Fin 128), q (ix2 i (col h d)) = Q i.val d
  hk : ∀ (i : Fin 64) (d : Fin 128), k (ix2 i (col h d)) = K i.val d
  hv : ∀ (i : Fin 64) (d : Fin 128), v (ix2 i (col h d)) = V i.val d
  hl : ∀ (i : Fin 64) (d : Fin 128), l (ix2 i (col h d)) = ((G d (i.val + 1) - G d i.val : ℝ) : EReal)

/-- The intervals lie inside the chunk. -/
theorem lo_le : ∀ (l : Fin 8) (i : Fin 64), lo l.val i.val ≤ hi l.val i.val ∧ hi l.val i.val ≤ 64 := by
  decide +kernel

/-- A sum of increments over an interval. -/
theorem sum_steps (g : ℕ → ℝ) (a b : ℕ) (hab : a ≤ b) (hb : b ≤ 64) :
    (∑ x : Fin 192, if x.val < 64 ∧ a ≤ x.val ∧ x.val < b then g (x.val + 1) - g x.val else 0) = g b - g a := by
  rw [Fin.sum_univ_eq_sum_range (fun x => if x < 64 ∧ a ≤ x ∧ x < b then g (x + 1) - g x else 0) 192, ← Finset.sum_filter,
    show (Finset.range 192).filter (fun x => x < 64 ∧ a ≤ x ∧ x < b) = Finset.Ico a b from by
      ext x; simp only [Finset.mem_filter, Finset.mem_range, Finset.mem_Ico]; omega,
    Finset.sum_Ico_eq_sub _ hab, Finset.sum_range_sub, Finset.sum_range_sub]
  ring

section
variable {h : Fin 8} {q k v l : Vec Ideal S64x1024 .f32} {Q K V : ℕ → Fin 128 → EReal} {G : Fin 128 → ℕ → ℝ} {T : Vec Ideal S512x192 .bf16}
  {m : Fin 7 → Vec Ideal S1x64x64 .f32}

/-- The decays of a chunk. -/
theorem dec_real (hc : Chunk h q k v l Q K V G) (hT : Tab T) (b : Fin 8) (i : Fin 64) (d : Fin 128) :
    k0_pay3 (F := Ideal) l T (ix2 (row b i) (col h d)) = ((Real.exp (G d (hi b.val i.val) - G d (lo b.val i.val)) : ℝ) : EReal) := by
  obtain ⟨h1, h2⟩ := lo_le b i
  rw [dec_at, ← sum_steps (G d) _ _ h1 h2, ← Ideal.exp_coe, coe_sum]
  refine congrArg Ideal.exp (Finset.sum_congr rfl fun x _ => ?_)
  by_cases hx : x.val < 64
  · rw [dif_pos hx, hc.hl, hT b i ⟨x.val, hx⟩]
    by_cases hy : lo b.val i.val ≤ x.val ∧ x.val < hi b.val i.val
    · rw [if_pos hy, if_pos ⟨hx, hy⟩, one_mul]
    · rw [if_neg hy, if_neg (fun z => hy z.2), zero_mul, EReal.coe_zero]
  · rw [dif_neg hx, if_neg (fun z => hx z.1), EReal.coe_zero]
    by_cases hy : x.val - 64 < 64
    · rw [dif_pos hy, hc.hl, ← EReal.coe_sub, sub_self, EReal.coe_zero, mul_zero]
    · rw [dif_neg hy, hc.hl, ← EReal.coe_sub, sub_self, EReal.coe_zero, sub_zero, mul_zero]

/-- The weight of step `j` in step `i`'s output. -/
def wt (Q K : ℕ → Fin 128 → EReal) (G : Fin 128 → ℕ → ℝ) (i j : ℕ) : EReal := ∑ d : Fin 128, Q i d * K j d * ((Real.exp (G d (i + 1) - G d (j + 1)) : ℝ) : EReal)

/-- The intervals of a pair meet, and make up the steps between its rows. -/
theorem pair_meet : ∀ (l : Fin 6) (i j : Fin 64), paired l.val i.val j.val →
    isUp l.val i.val ∧ ¬isUp l.val j.val ∧ hi l.val i.val = i.val + 1 ∧ lo l.val i.val = hi l.val j.val ∧ lo l.val j.val = j.val + 1 := by
  decide +kernel

/-- Every pair of a row and an earlier row, or of a row and itself, is in one mask. -/
theorem pair_once : ∀ i j : Fin 64, (if paired 6 i.val j.val then 1 else 0) + (if paired 0 i.val j.val then 1 else 0)
    + (if paired 1 i.val j.val then 1 else 0) + (if paired 2 i.val j.val then 1 else 0) + (if paired 3 i.val j.val then 1 else 0)
    + (if paired 4 i.val j.val then 1 else 0) + (if paired 5 i.val j.val then 1 else 0) = if j.val ≤ i.val then 1 else 0 := by
  decide +kernel

/-- A level's part of a score. -/
theorem level_real (hc : Chunk h q k v l Q K V G) (hT : Tab T) (hm : Msk m) (b : Fin 6) (i j : Fin 64) :
    m ⟨b.val, by omega⟩ (ix3 0 i j) * (∑ d : Fin 128, lvl h q k (k0_pay3 (F := Ideal) l T) ⟨b.val, by omega⟩ i d * lvl h q k (k0_pay3 (F := Ideal) l T) ⟨b.val, by omega⟩ j d)
      = (if paired b.val i.val j.val then 1 else 0 : ℕ) • wt Q K G i.val j.val := by
  rw [hm]
  by_cases hp : paired b.val i.val j.val
  · obtain ⟨u1, u2, u3, u4, u5⟩ := pair_meet b i j hp
    rw [if_pos hp, if_pos hp, one_mul, one_nsmul, wt]
    refine Finset.sum_congr rfl fun d _ => ?_
    unfold lvl
    rw [if_pos u1, if_neg u2, dec_real hc hT, dec_real hc hT, hc.hq, hc.hk, mul_mul_mul_comm, ← EReal.coe_mul, ← Real.exp_add]
    refine congrArg (fun x : ℝ => Q i.val d * K j.val d * ((Real.exp x : ℝ) : EReal)) ?_
    rw [u3, u4, u5]
    ring
  · rw [if_neg hp, if_neg hp, zero_mul, zero_nsmul]

/-- The scores of a chunk: each row's weights over the rows up to it. -/
theorem scores_real (hc : Chunk h q k v l Q K V G) (hT : Tab T) (hm : Msk m) (i j : Fin 64) :
    scores (F := Ideal) h m q k (k0_pay3 (F := Ideal) l T) (ix2 i j) = if j.val ≤ i.val then wt Q K G i.val j.val else 0 := by
  have hd : m 6 (ix3 0 i j) * (∑ d : Fin 128, q (ix2 i (col h d)) * k (ix2 j (col h d)))
      = (if paired 6 i.val j.val then 1 else 0 : ℕ) • wt Q K G i.val j.val := by
    rw [hm, show ((6 : Fin 7) : ℕ) = 6 from rfl]
    by_cases hp : paired 6 i.val j.val
    · have hij : i = j := Fin.ext hp
      subst hij
      rw [if_pos hp, if_pos hp, one_mul, one_nsmul, wt]
      refine Finset.sum_congr rfl fun d _ => ?_
      rw [hc.hq, hc.hk, sub_self, Real.exp_zero, EReal.coe_one, mul_one]
    · rw [if_neg hp, if_neg hp, zero_mul, zero_nsmul]
  rw [scores_at, hd]
  erw [level_real hc hT hm 0 i j, level_real hc hT hm 1 i j, level_real hc hT hm 2 i j, level_real hc hT hm 3 i j, level_real hc hT hm 4 i j,
    level_real hc hT hm 5 i j]
  simp only [← add_nsmul]
  refine (congrArg (fun n : ℕ => n • wt Q K G i.val j.val) (pair_once i j)).trans ?_
  by_cases hji : j.val ≤ i.val
  · rw [if_pos hji, if_pos hji, one_nsmul]
  · rw [if_neg hji, if_neg hji, zero_nsmul]

/-- The outputs of a chunk. -/
theorem out_real (hc : Chunk h q k v l Q K V G) (hT : Tab T) (hm : Msk m) (S : Vec Ideal S1x128x128 .f32) (s : Fin 128 → Fin 128 → EReal)
    (hS : ∀ d e, S (ix3 0 d e) = s d e) (i : Fin 64) (d : Fin 128) :
    outU (F := Ideal) h m q k v (k0_pay3 (F := Ideal) l T) S (ix2 i d)
      = (∑ j : Fin 64, (if j.val ≤ i.val then wt Q K G i.val j.val else 0) * V j.val d)
        + ∑ e : Fin 128, Q i.val e * ((Real.exp (G e (i.val + 1) - G e 0) : ℝ) : EReal) * s d e := by
  rw [out_at]
  refine congrArg₂ (· + ·) (Finset.sum_congr rfl fun j _ => ?_) (Finset.sum_congr rfl fun e _ => ?_)
  · rw [scores_real hc hT hm, hc.hv]
  · have e6 := dec_real hc hT 6 i e
    erw [e6]
    rw [hS, hc.hq]
    rfl

/-- The state after a chunk. -/
theorem st_real (hc : Chunk h q k v l Q K V G) (hT : Tab T) (S : Vec Ideal S1x128x128 .f32) (s : Fin 128 → Fin 128 → EReal)
    (hS : ∀ d e, S (ix3 0 d e) = s d e) (d e : Fin 128) :
    stU (F := Ideal) h k v (k0_pay3 (F := Ideal) l T) S (ix3 0 d e)
      = ((Real.exp (G e 64 - G e 0) : ℝ) : EReal) * s d e
        + ∑ j : Fin 64, V j.val d * (K j.val e * ((Real.exp (G e 64 - G e (j.val + 1)) : ℝ) : EReal)) := by
  rw [st_at]
  refine congrArg₂ (· + ·) ?_ (Finset.sum_congr rfl fun j _ => ?_)
  · have e6 := dec_real hc hT 6 63 e
    erw [e6]
    rw [hS]
    rfl
  · have e7 := dec_real hc hT 7 j e
    erw [e7]
    rw [hc.hv, hc.hk]
    rfl

end

end Cert.HgrnIdeal.Unit
end
-- ==== Proof.HgrnState.lean ====
/- The recurrence, and the writes of a body: the state after each chunk, and the outputs of its four chunks. -/
module

public import proofs.«01_k».proof.Proof.HgrnReal

@[expose] public section

noncomputable section

namespace Cert.HgrnIdeal.Unit

open Cert.HgrnIdeal Cert.HgrnIdeal.Gen
open Idealize.ShloMosaic Idealize.ShloMosaic.TcCoe Idealize.SL.Sem

/-! ## Chunk by chunk -/

section
variable (Q K V : ℕ → Fin 128 → EReal) (G : Fin 128 → ℕ → ℝ)

/-- The state after `c` chunks. -/
def stateC : ℕ → Fin 128 → Fin 128 → EReal
  | 0, _, _ => 0
  | c + 1, d, e => ((Real.exp (G e (64 * c + 64) - G e (64 * c + 0)) : ℝ) : EReal) * stateC c d e
      + ∑ j : Fin 64, V (64 * c + j.val) d * (K (64 * c + j.val) e * ((Real.exp (G e (64 * c + 64) - G e (64 * c + (j.val + 1))) : ℝ) : EReal))

/-- The state after the whole chunks of `n` steps. -/
def state (n : ℕ) (d e : Fin 128) : EReal := stateC K V G (n / 64) d e

/-- The output of step `i` of the chunk from step `n` on. -/
def outC (n i : ℕ) (d : Fin 128) : EReal :=
  (∑ j : Fin 64, (if j.val ≤ i then wt (fun t => Q (n + t)) (fun t => K (n + t)) (fun e t => G e (n + t)) i j.val else 0) * V (n + j.val) d)
    + ∑ e : Fin 128, Q (n + i) e * ((Real.exp (G e (n + (i + 1)) - G e (n + 0)) : ℝ) : EReal) * state K V G n d e

/-- The output of step `t`. -/
def outR (t : ℕ) (d : Fin 128) : EReal := outC Q K V G (64 * (t / 64)) (t % 64) d

/-- The state one chunk later. -/
theorem state_step (n : ℕ) (hn : n % 64 = 0) (d e : Fin 128) :
    ((Real.exp (G e (n + 64) - G e (n + 0)) : ℝ) : EReal) * state K V G n d e
      + ∑ j : Fin 64, V (n + j.val) d * (K (n + j.val) e * ((Real.exp (G e (n + 64) - G e (n + (j.val + 1))) : ℝ) : EReal)) = state K V G (n + 64) d e := by
  obtain ⟨c, rfl⟩ : ∃ c, n = 64 * c := ⟨n / 64, by omega⟩
  unfold state
  rw [show 64 * c / 64 = c from by omega, show (64 * c + 64) / 64 = c + 1 from by omega, stateC]

/-- The output of a step of a chunk. -/
theorem out_step (n : ℕ) (hn : n % 64 = 0) (i : Fin 64) (d : Fin 128) :
    (∑ j : Fin 64, (if j.val ≤ i.val then wt (fun t => Q (n + t)) (fun t => K (n + t)) (fun e t => G e (n + t)) i.val j.val else 0) * V (n + j.val) d)
      + ∑ e : Fin 128, Q (n + i.val) e * ((Real.exp (G e (n + (i.val + 1)) - G e (n + 0)) : ℝ) : EReal) * state K V G n d e = outR Q K V G (n + i.val) d := by
  have hi := i.isLt
  unfold outR
  rw [show 64 * ((n + i.val) / 64) = n from by omega, show (n + i.val) % 64 = i.val from by omega, outC]

end

/-! ## A slot read after the chunk's writes -/

/-- A place of a slot in the scratch. -/
theorem slot_idx (h : Fin 8) (d e : Fin 128) : (slotR h).toLoadRect.idx (ix3 0 d e) = (ix3 h d e : S8x128x128.Idx) := by
  funext a; apply Fin.ext
  match a with
  | ⟨0, _⟩ => show h.val + 1 * 0 = h.val; omega
  | ⟨1, _⟩ => show 0 + 1 * d.val = d.val; omega
  | ⟨2, _⟩ => show 0 + 1 * e.val = e.val; omega

/-- Different heads' slots are apart. -/
theorem slot_apart (h h' : Fin 8) (hne : h' ≠ h) : Disjoint (slotR h').set (slotR h).toLoadRect.set := by
  rw [Finset.disjoint_left]
  intro y h1 h2
  have e1 := Rect.mem_set_unit.mp h1
  have e2 := Rect.mem_set_unit.mp (show y ∈ (slotR h).set from h2)
  have a1 : h'.val ≤ (y 0).val ∧ (y 0).val < h'.val + 1 := e1 0
  have a2 : h.val ≤ (y 0).val ∧ (y 0).val < h.val + 1 := e2 0
  exact hne (Fin.ext (by omega))

/-- A slot read after one write a head reads its head's. -/
theorem read_slots (g : View sig .tc .vmem S8x128x128 .f32) (f : Fin 8 → Vec Ideal S1x128x128 .f32) (h : Fin 8)
    (L : List (View.Piece (Elt Ideal) S8x128x128 .f32)) (l : List (Fin 8)) (hm : h ∈ l) :
    g.readCov (l.map (fun h => (⟨slotR h, f h⟩ : View.Piece (Elt Ideal) S8x128x128 .f32)) ++ L) (slotR h).toLoadRect = f h := by
  induction l with
  | nil => exact absurd hm (List.not_mem_nil)
  | cons x l ih =>
    rw [List.map_cons, List.cons_append]
    generalize hP : l.map (fun h => (⟨slotR h, f h⟩ : View.Piece (Elt Ideal) S8x128x128 .f32)) ++ L = P at ih ⊢
    by_cases hx : x = h
    · subst hx
      exact View.readCov_cons_toLoadRect g (slotR x) (f x) P
    · have hl : h ∈ l := (List.mem_cons.mp hm).resolve_left (Ne.symm hx)
      exact (View.readCov_cons_of_disjoint g ⟨slotR x, f x⟩ P (slotR h).toLoadRect (slot_apart h x hx)).trans (ih hl)

/-- Every head is written. -/
theorem mem_down : ∀ h : Fin 8, h ∈ down := by decide

/-! ## The four chunks -/

/-- The four chunks' rows from step `n`, which starts a chunk, are these. -/
def Body (q k v l : Fin 4 → Vec Ideal S64x1024 .f32) (Q K V : Fin 8 → ℕ → Fin 128 → EReal) (G : Fin 8 → Fin 128 → ℕ → ℝ) (n : ℕ) : Prop :=
  n % 64 = 0 ∧ ∀ (a : Fin 4) (h : Fin 8), Chunk h (q a) (k a) (v a) (l a) (fun t => Q h (n + 64 * a.val + t)) (fun t => K h (n + 64 * a.val + t))
    (fun t => V h (n + 64 * a.val + t)) (fun e t => G h e (n + 64 * a.val + t))

/-- The slots hold the heads' states after `n` steps. -/
def Holds (S : Fin 8 → Vec Ideal S1x128x128 .f32) (K V : Fin 8 → ℕ → Fin 128 → EReal) (G : Fin 8 → Fin 128 → ℕ → ℝ) (n : ℕ) : Prop :=
  ∀ (h : Fin 8) (d e : Fin 128), S h (ix3 0 d e) = state (K h) (V h) (G h) n d e

/-- The outputs of the body's 256 steps, as an array. -/
def target (Q K V : Fin 8 → ℕ → Fin 128 → EReal) (G : Fin 8 → Fin 128 → ℕ → ℝ) (n : ℕ) (y : S256x1024.Idx) : EReal :=
  have hd : (y 1).val / 128 < 8 := Nat.div_lt_of_lt_mul (y 1).isLt
  outR (Q ⟨(y 1).val / 128, hd⟩) (K ⟨(y 1).val / 128, hd⟩) (V ⟨(y 1).val / 128, hd⟩) (G ⟨(y 1).val / 128, hd⟩) (n + (y 0).val)
    ⟨(y 1).val % 128, Nat.mod_lt _ (by decide)⟩

/-- The array at a place. -/
theorem target_at (Q K V : Fin 8 → ℕ → Fin 128 → EReal) (G : Fin 8 → Fin 128 → ℕ → ℝ) (n : ℕ) (y : S256x1024.Idx) (r : ℕ) (h : Fin 8) (d : Fin 128)
    (y0 : (y 0).val = r) (y1 : (y 1).val = 128 * h.val + d.val) :
    target Q K V G n y = outR (Q h) (K h) (V h) (G h) (n + r) d := by
  have hd : (y 1).val / 128 < 8 := Nat.div_lt_of_lt_mul (y 1).isLt
  have eh : (⟨(y 1).val / 128, hd⟩ : Fin 8) = h := Fin.ext (by show (y 1).val / 128 = h.val; omega)
  have ed : (⟨(y 1).val % 128, Nat.mod_lt _ (by decide)⟩ : Fin 128) = d := Fin.ext (by show (y 1).val % 128 = d.val; omega)
  unfold target
  dsimp only
  rw [eh, ed, y0]

section
variable {q k v l : Fin 4 → Vec Ideal S64x1024 .f32} {Q K V : Fin 8 → ℕ → Fin 128 → EReal} {G : Fin 8 → Fin 128 → ℕ → ℝ} {n : ℕ}
  {T : Vec Ideal S512x192 .bf16} {m : Fin 7 → Vec Ideal S1x64x64 .f32}

/-- A chunk's writes take the slots 64 steps on. -/
theorem holds_step (g : View sig .tc .vmem S8x128x128 .f32) (L : List (View.Piece (Elt Ideal) S8x128x128 .f32))
    (hb : Body q k v l Q K V G n) (hT : Tab T) (a : Fin 4) (S : Fin 8 → Vec Ideal S1x128x128 .f32) (hS : Holds S K V G (n + 64 * a.val)) :
    Holds (fun h => g.readCov (stepL (F := Ideal) k v (fun a => k0_pay3 (F := Ideal) (l a) T) a S L) (slotR h).toLoadRect) K V G (n + 64 * (a.val + 1)) := by
  intro h d e
  refine (congrFun (read_slots g (fun h => stU (F := Ideal) h (k a) (v a) (k0_pay3 (F := Ideal) (l a) T) (S h)) h L down (mem_down h)) (ix3 0 d e)).trans
    ((st_real (hb.2 a h) hT (S h) _ (hS h) d e).trans ?_)
  exact (state_step _ _ _ _ (by have := hb.1; omega) d e).trans (by rw [Nat.add_assoc, Nat.mul_succ])

variable (g : View sig .tc .vmem S8x128x128 .f32) (S0 : Fin 8 → Vec Ideal S1x128x128 .f32) (L0 : List (View.Piece (Elt Ideal) S8x128x128 .f32))

/-- The slots after one chunk. -/
theorem holds1 (hb : Body q k v l Q K V G n) (hT : Tab T) (hS : Holds S0 K V G n) :
    Holds (S1 (F := Ideal) g k v (fun a => k0_pay3 (F := Ideal) (l a) T) S0 L0) K V G (n + 64 * 1) := holds_step g L0 hb hT 0 S0 hS
/-- The slots after two. -/
theorem holds2 (hb : Body q k v l Q K V G n) (hT : Tab T) (hS : Holds S0 K V G n) :
    Holds (S2 (F := Ideal) g k v (fun a => k0_pay3 (F := Ideal) (l a) T) S0 L0) K V G (n + 64 * 2) := holds_step g _ hb hT 1 _ (holds1 g S0 L0 hb hT hS)
/-- The slots after three. -/
theorem holds3 (hb : Body q k v l Q K V G n) (hT : Tab T) (hS : Holds S0 K V G n) :
    Holds (S3 (F := Ideal) g k v (fun a => k0_pay3 (F := Ideal) (l a) T) S0 L0) K V G (n + 64 * 3) := holds_step g _ hb hT 2 _ (holds2 g S0 L0 hb hT hS)

/-- The scratch after the body. -/
theorem scratch_real (hb : Body q k v l Q K V G n) (hT : Tab T) (hS : Holds S0 K V G n) (h : Fin 8) (d e : Fin 128) :
    View.canon (L4 (F := Ideal) g k v (fun a => k0_pay3 (F := Ideal) (l a) T) S0 L0) (ix3 h d e : S8x128x128.Idx) = state (K h) (V h) (G h) (n + 256) d e := by
  have e4 := holds_step g (L3 (F := Ideal) g k v (fun a => k0_pay3 (F := Ideal) (l a) T) S0 L0) hb hT 3 _ (holds3 g S0 L0 hb hT hS) h d e
  have e5 := congrFun (View.readCov_eq_canon' g (L4 (F := Ideal) g k v (fun a => k0_pay3 (F := Ideal) (l a) T) S0 L0) (slotR h).toLoadRect) (ix3 0 d e)
  rw [slot_idx] at e5
  exact e5.symm.trans e4

/-- A chunk's output writes. -/
theorem outL_real (hb : Body q k v l Q K V G n) (hT : Tab T) (hm : Msk m) (a : Fin 4) (S : Fin 8 → Vec Ideal S1x128x128 .f32)
    (hS : Holds S K V G (n + 64 * a.val)) (p : View.Piece (Elt Ideal) S256x1024 .f32)
    (hp : p ∈ outL (F := Ideal) m q k v (fun a => k0_pay3 (F := Ideal) (l a) T) a S) (x : p.1.shape.Idx) :
    p.2 x = target Q K V G n (p.1.emb x) := by
  obtain ⟨h, _, rfl⟩ := List.mem_map.mp hp
  obtain ⟨i, d, rfl⟩ : ∃ (i : Fin 64) (d : Fin 128), x = ix2 i d := ⟨x 0, x 1, by funext b; match b with | ⟨0, _⟩ => rfl | ⟨1, _⟩ => rfl⟩
  have y0 : ((tileR a h).emb (ix2 i d) 0).val = 64 * a.val + i.val := by show 64 * a.val + 1 * i.val = _; omega
  have y1 : ((tileR a h).emb (ix2 i d) 1).val = 128 * h.val + d.val := by show 128 * h.val + 1 * d.val = _; omega
  rw [target_at Q K V G n _ (64 * a.val + i.val) h d y0 y1]
  refine (out_real (hb.2 a h) hT hm (S h) _ (hS h) i d).trans ?_
  exact (out_step _ _ _ _ _ (by have := hb.1; omega) i d).trans (by rw [Nat.add_assoc])

/-- The outputs of the body. -/
theorem outs_real (hb : Body q k v l Q K V G n) (hT : Tab T) (hm : Msk m) (hS : Holds S0 K V G n) (r : Fin 256) (h : Fin 8) (d : Fin 128) :
    View.canon (outs (F := Ideal) g k v (fun a => k0_pay3 (F := Ideal) (l a) T) S0 L0 m q) (ix2 r (col h d) : S256x1024.Idx)
      = outR (Q h) (K h) (V h) (G h) (n + r.val) d := by
  have hr := r.isLt
  refine (View.canon_apply_of_pieces (Val := Elt Ideal) (target Q K V G n) _ (fun p hp x => ?_) _ ?_).trans ?_
  · rcases List.mem_append.mp hp with hp | hp
    · exact outL_real hb hT hm 3 _ (holds3 g S0 L0 hb hT hS) p hp x
    rcases List.mem_append.mp hp with hp | hp
    · exact outL_real hb hT hm 2 _ (holds2 g S0 L0 hb hT hS) p hp x
    rcases List.mem_append.mp hp with hp | hp
    · exact outL_real hb hT hm 1 _ (holds1 g S0 L0 hb hT hS) p hp x
    · exact outL_real hb hT hm 0 _ hS p hp x
  · have key : ∀ (a : Fin 4) (S : Fin 8 → Vec Ideal S1x128x128 .f32), a.val = r.val / 64 →
        ∃ p ∈ outL (F := Ideal) m q k v (fun a => k0_pay3 (F := Ideal) (l a) T) a S, (ix2 r (col h d) : S256x1024.Idx) ∈ p.1.set := fun a S ha =>
      ⟨_, List.mem_map.mpr ⟨h, mem_down h, rfl⟩, (Rect.mem_set_unit (inb := inTile a h)).mpr fun b => by
        match b with
        | ⟨0, _⟩ => show 64 * a.val ≤ r.val ∧ r.val < 64 * a.val + 64; omega
        | ⟨1, _⟩ => show 128 * h.val ≤ 128 * h.val + d.val ∧ 128 * h.val + d.val < 128 * h.val + 128; omega⟩
    have hc : r.val / 64 = 0 ∨ r.val / 64 = 1 ∨ r.val / 64 = 2 ∨ r.val / 64 = 3 := by omega
    unfold outs
    rcases hc with hc | hc | hc | hc
    · obtain ⟨p, hp, hy⟩ := key 0 _ hc.symm
      exact ⟨p, List.mem_append_right _ (List.mem_append_right _ (List.mem_append_right _ hp)), hy⟩
    · obtain ⟨p, hp, hy⟩ := key 1 _ hc.symm
      exact ⟨p, List.mem_append_right _ (List.mem_append_right _ (List.mem_append_left _ hp)), hy⟩
    · obtain ⟨p, hp, hy⟩ := key 2 _ hc.symm
      exact ⟨p, List.mem_append_right _ (List.mem_append_left _ hp), hy⟩
    · obtain ⟨p, hp, hy⟩ := key 3 _ hc.symm
      exact ⟨p, List.mem_append_left _ hp, hy⟩
  · exact target_at Q K V G n _ r.val h d rfl rfl

end

end Cert.HgrnIdeal.Unit
end
-- ==== Proof.HgrnBody.lean ====
/- A grid point's body from its blocks: the scratch it leaves and the block it writes. -/
module

public import proofs.«01_k».proof.Proof.HgrnState

@[expose] public section

set_option maxRecDepth 16384

noncomputable section

namespace Cert.HgrnIdeal.Unit

open Cert.HgrnIdeal Cert.HgrnIdeal.Gen
open Idealize.ShloMosaic Idealize.ShloMosaic.TcCoe Idealize.SL.Sem

/-- A grid point's blocks: 256 steps of the rows, from step `n`, which starts a chunk, and the two tables. -/
structure Blk (x0 x1 x2 x3 : Vec Ideal S256x1024 .f32) (x4 : Vec Ideal S512x192 .bf16) (x5 : Vec Ideal S7x64x64 .f32)
    (Q K V : Fin 8 → ℕ → Fin 128 → EReal) (G : Fin 8 → Fin 128 → ℕ → ℝ) (n : ℕ) : Prop where
  hn : n % 64 = 0
  hq : ∀ (r : Fin 256) (h : Fin 8) (d : Fin 128), x0 (ix2 r (col h d)) = Q h (n + r.val) d
  hk : ∀ (r : Fin 256) (h : Fin 8) (d : Fin 128), x1 (ix2 r (col h d)) = K h (n + r.val) d
  hv : ∀ (r : Fin 256) (h : Fin 8) (d : Fin 128), x2 (ix2 r (col h d)) = V h (n + r.val) d
  hl : ∀ (r : Fin 256) (h : Fin 8) (d : Fin 128), x3 (ix2 r (col h d)) = ((G h d (n + r.val + 1) - G h d (n + r.val) : ℝ) : EReal)
  ht : Tab x4
  hm : ∀ (l : Fin 7) (i j : Fin 64), x5 (ix3 l i j) = if paired l.val i.val j.val then 1 else 0

/-- A chunk's rows, loaded. -/
theorem rows_at (arg : Memref sig .tc .vmem S256x1024 .f32) (harg : arg.IsWhole) (x : Vec Ideal S256x1024 .f32) (a : Fin 4) (i : Fin 64) (c : Fin 1024) :
    ldRows (F := Ideal) arg harg x a (ix2 i c) = x (ix2 ⟨64 * a.val + i.val, by omega⟩ c) := by
  unfold ldRows
  rw [View.readAt_eq_ld, harg.read_unread]
  refine congrArg x (funext fun b => Fin.ext ?_)
  match b with
  | ⟨0, _⟩ => show 64 * a.val + 1 * i.val = 64 * a.val + i.val; omega
  | ⟨1, _⟩ => show 0 + 1 * c.val = c.val; omega

/-- A mask, loaded. -/
theorem mask_at (arg7 : Memref sig .tc .vmem S7x64x64 .f32) (harg7 : arg7.IsWhole) (x : Vec Ideal S7x64x64 .f32) (l : Fin 7) (i j : Fin 64) :
    ldMask (F := Ideal) arg7 harg7 x l (ix3 0 i j) = x (ix3 l i j) := by
  unfold ldMask
  rw [View.readAt_eq_ld, harg7.read_unread]
  refine congrArg x (funext fun b => Fin.ext ?_)
  match b with
  | ⟨0, _⟩ => show l.val + 1 * 0 = l.val; omega
  | ⟨1, _⟩ => show 0 + 1 * i.val = i.val; omega
  | ⟨2, _⟩ => show 0 + 1 * j.val = j.val; omega

/-- A slot, loaded. -/
theorem slot_at (arg9 : Memref sig .tc .vmem S8x128x128 .f32) (harg9 : arg9.IsWhole) (x : Vec Ideal S8x128x128 .f32) (h : Fin 8) (d e : Fin 128) :
    ldSlot (F := Ideal) arg9 harg9 x h (ix3 0 d e) = x (ix3 h d e) := by
  unfold ldSlot
  rw [View.readAt_eq_ld, harg9.read_unread]
  exact congrArg x (slot_idx h d e)

/-- The table, loaded. -/
theorem table_at (arg6 : Memref sig .tc .vmem S512x192 .bf16) (harg6 : arg6.IsWhole) (x : Vec Ideal S512x192 .bf16) :
    View.readAt (Elt Ideal) arg6.view tableR.toLoadRect (harg6.unread x) = x := by
  rw [View.readAt_eq_ld, harg6.read_unread]
  exact View.ld_unit_zero (S := S512x192) (funext fun a => by match a with | ⟨0, _⟩ => rfl | ⟨1, _⟩ => rfl) _ _

/-- A slot after the scratch was cleared. -/
theorem zero_at (g : View sig .tc .vmem S8x128x128 .f32) (h : Fin 8) (d e : Fin 128) :
    g.readCov (zeroL (F := Ideal)) (slotR h).toLoadRect (ix3 0 d e) = 0 := by
  refine (congrFun (View.readCov_eq_canon' g (zeroL (F := Ideal)) (slotR h).toLoadRect) (ix3 0 d e)).trans ?_
  rw [View.canon_unit_zero (funext fun a => by match a with | ⟨0, _⟩ => rfl | ⟨1, _⟩ => rfl | ⟨2, _⟩ => rfl), slot_idx]
  pointwise [k0_pay2]

section
variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x192 .bf16) (harg6 : arg6.IsWhole) (arg7 : Memref sig .tc .vmem S7x64x64 .f32) (harg7 : arg7.IsWhole) (arg8 : Memref sig .tc .vmem S256x1024 .f32) (harg8 : arg8.IsWhole) (arg9 : Memref sig .tc .vmem S8x128x128 .f32) (harg9 : arg9.IsWhole)
    {x0 x1 x2 x3 : Vec Ideal S256x1024 .f32} {x4 : Vec Ideal S512x192 .bf16} {x5 : Vec Ideal S7x64x64 .f32}
    {Q K V : Fin 8 → ℕ → Fin 128 → EReal} {G : Fin 8 → Fin 128 → ℕ → ℝ} {n : ℕ}

/-- The four chunks of a block. -/
theorem body_of (hb : Blk x0 x1 x2 x3 x4 x5 Q K V G n) :
    Body (ldRows (F := Ideal) arg2 harg2 x0) (ldRows (F := Ideal) arg3 harg3 x1) (ldRows (F := Ideal) arg4 harg4 x2) (ldRows (F := Ideal) arg5 harg5 x3) Q K V G n := by
  refine ⟨hb.hn, fun a h => ⟨fun r d => ?_, fun r d => ?_, fun r d => ?_, fun r d => ?_⟩⟩
  · rw [rows_at, hb.hq, Nat.add_assoc]
  · rw [rows_at, hb.hk, Nat.add_assoc]
  · rw [rows_at, hb.hv, Nat.add_assoc]
  · rw [rows_at, hb.hl]
    simp only [Nat.add_assoc]

/-- The masks of a block. -/
theorem masks_of (hb : Blk x0 x1 x2 x3 x4 x5 Q K V G n) : Msk (ldMask (F := Ideal) arg7 harg7 x5) := fun l r s => (mask_at arg7 harg7 x5 l r s).trans (hb.hm l r s)

/-- Where the scratch is cleared first: the block written. -/
theorem caseA_out (hc0 : cond0_0 i) (hz : n = 0) (hb : Blk x0 x1 x2 x3 x4 x5 Q K V G n) (r : Fin 256) (h : Fin 8) (d : Fin 128) :
    out0_A_6 (F := Ideal) c i arg2 harg2 arg3 harg3 arg4 harg4 arg5 harg5 arg6 harg6 arg7 harg7 arg8 harg8 arg9 harg9 hc0 x0 x1 x2 x3 x4 x5 (ix2 r (col h d))
      = outR (Q h) (K h) (V h) (G h) (n + r.val) d := by
  subst hz
  unfold out0_A_6
  rw [View.read_writes_junk_eq_canon, outs_A]
  unfold ldDec
  rw [table_at]
  exact outs_real _ _ _ (body_of arg2 harg2 arg3 harg3 arg4 harg4 arg5 harg5 hb) hb.ht (masks_of arg7 harg7 hb)
    (fun h d e => (zero_at _ h d e).trans (by simp [state, stateC])) r h d

/-- … and the scratch left. -/
theorem caseA_state (hc0 : cond0_0 i) (hz : n = 0) (hb : Blk x0 x1 x2 x3 x4 x5 Q K V G n) (h : Fin 8) (d e : Fin 128) :
    sout0_A_0 (F := Ideal) c i arg2 harg2 arg3 harg3 arg4 harg4 arg5 harg5 arg6 harg6 arg7 harg7 arg8 harg8 arg9 harg9 hc0 x0 x1 x2 x3 x4 x5 (ix3 h d e)
      = state (K h) (V h) (G h) (n + 256) d e := by
  subst hz
  unfold sout0_A_0
  rw [View.read_writes_junk_eq_canon, states_A]
  unfold ldDec
  rw [table_at]
  exact scratch_real _ _ _ (body_of arg2 harg2 arg3 harg3 arg4 harg4 arg5 harg5 hb) hb.ht (fun h d e => (zero_at _ h d e).trans (by simp [state, stateC])) h d e

variable {xs0 : Vec Ideal S8x128x128 .f32}

/-- Where the scratch holds the states so far: the block written. -/
theorem caseB_out (hc0 : ¬cond0_0 i) (hb : Blk x0 x1 x2 x3 x4 x5 Q K V G n)
    (hs : ∀ (h : Fin 8) (d e : Fin 128), xs0 (ix3 h d e) = state (K h) (V h) (G h) n d e) (r : Fin 256) (h : Fin 8) (d : Fin 128) :
    out0_B_6 (F := Ideal) c i arg2 harg2 arg3 harg3 arg4 harg4 arg5 harg5 arg6 harg6 arg7 harg7 arg8 harg8 arg9 harg9 hc0 x0 x1 x2 x3 x4 x5 xs0 (ix2 r (col h d))
      = outR (Q h) (K h) (V h) (G h) (n + r.val) d := by
  unfold out0_B_6
  rw [View.read_writes_junk_eq_canon, outs_B]
  unfold ldDec
  rw [table_at]
  exact outs_real _ _ _ (body_of arg2 harg2 arg3 harg3 arg4 harg4 arg5 harg5 hb) hb.ht (masks_of arg7 harg7 hb)
    (fun h d e => (slot_at arg9 harg9 xs0 h d e).trans (hs h d e)) r h d

/-- … and the scratch left. -/
theorem caseB_state (hc0 : ¬cond0_0 i) (hb : Blk x0 x1 x2 x3 x4 x5 Q K V G n)
    (hs : ∀ (h : Fin 8) (d e : Fin 128), xs0 (ix3 h d e) = state (K h) (V h) (G h) n d e) (h : Fin 8) (d e : Fin 128) :
    sout0_B_0 (F := Ideal) c i arg2 harg2 arg3 harg3 arg4 harg4 arg5 harg5 arg6 harg6 arg7 harg7 arg8 harg8 arg9 harg9 hc0 x0 x1 x2 x3 x4 x5 xs0 (ix3 h d e)
      = state (K h) (V h) (G h) (n + 256) d e := by
  unfold sout0_B_0
  rw [View.read_writes_junk_eq_canon, states_B]
  unfold ldDec
  rw [table_at]
  exact scratch_real _ _ _ (body_of arg2 harg2 arg3 harg3 arg4 harg4 arg5 harg5 hb) hb.ht (fun h d e => (slot_at arg9 harg9 xs0 h d e).trans (hs h d e)) h d e

end

end Cert.HgrnIdeal.Unit
end
-- ==== Proof.HgrnDecays.lean ====
/- The table of decays: its row `64 l + i` is one from `lo l i` up to `hi l i` and zero elsewhere. -/
module

public import proofs.«01_k».proof.HgrnIdeal
public import proofs.«01_k».proof.Proof.HgrnPairs
public import Mathlib.Tactic.FinCases

@[expose] public section

set_option maxRecDepth 100000

namespace Cert.HgrnIdeal.Unit

open Cert.HgrnIdeal

/-- The words of block `l` of the table. -/
abbrev DecayRow (l : Fin 8) : Prop := ∀ i j : Fin 64, lit0 ⟨(64 * l.val + i.val) * 192 + j.val, by omega⟩
    = if lo l.val i.val ≤ j.val ∧ j.val < hi l.val i.val then 0x3F80#16 else 0#16

/-- Block 0. -/
theorem decay0 : DecayRow 0 := by decide +kernel
/-- Block 1. -/
theorem decay1 : DecayRow 1 := by decide +kernel
/-- Block 2. -/
theorem decay2 : DecayRow 2 := by decide +kernel
/-- Block 3. -/
theorem decay3 : DecayRow 3 := by decide +kernel
/-- Block 4. -/
theorem decay4 : DecayRow 4 := by decide +kernel
/-- Block 5. -/
theorem decay5 : DecayRow 5 := by decide +kernel
/-- Block 6. -/
theorem decay6 : DecayRow 6 := by decide +kernel
/-- Block 7. -/
theorem decay7 : DecayRow 7 := by decide +kernel

/-- The table's words. -/
theorem decay_word : ∀ l : Fin 8, DecayRow l
  | 0 => decay0
  | 1 => decay1
  | 2 => decay2
  | 3 => decay3
  | 4 => decay4
  | 5 => decay5
  | 6 => decay6
  | 7 => decay7

end Cert.HgrnIdeal.Unit
end
-- ==== Proof.HgrnMasks.lean ====
/- The table of masks: the first six are the pairs of an upper and a lower row of one block, the last is the diagonal. -/
module

public import proofs.«01_k».proof.HgrnIdeal
public import proofs.«01_k».proof.Proof.HgrnPairs
public import Mathlib.Tactic.FinCases

@[expose] public section

set_option maxRecDepth 100000

namespace Cert.HgrnIdeal.Unit

open Cert.HgrnIdeal

/-- The words of block `l` of the table. -/
abbrev MaskRow (l : Fin 7) : Prop := ∀ i j : Fin 64, lit1 ⟨(64 * l.val + i.val) * 64 + j.val, by omega⟩
    = if paired l.val i.val j.val then 0x3F800000#32 else 0#32

/-- Block 0. -/
theorem mask0 : MaskRow 0 := by decide +kernel
/-- Block 1. -/
theorem mask1 : MaskRow 1 := by decide +kernel
/-- Block 2. -/
theorem mask2 : MaskRow 2 := by decide +kernel
/-- Block 3. -/
theorem mask3 : MaskRow 3 := by decide +kernel
/-- Block 4. -/
theorem mask4 : MaskRow 4 := by decide +kernel
/-- Block 5. -/
theorem mask5 : MaskRow 5 := by decide +kernel
/-- Block 6. -/
theorem mask6 : MaskRow 6 := by decide +kernel

/-- The table's words. -/
theorem mask_word : ∀ l : Fin 7, MaskRow l
  | 0 => mask0
  | 1 => mask1
  | 2 => mask2
  | 3 => mask3
  | 4 => mask4
  | 5 => mask5
  | 6 => mask6

end Cert.HgrnIdeal.Unit
end
-- ==== Proof.HgrnValue.lean ====
/- The recurrence's result array: the states and the outputs of every grid point, and the reference's equal outputs. -/
module

public import proofs.«01_k».proof.Proof.HgrnBody
public import proofs.«01_k».proof.Proof.HgrnDecays
public import proofs.«01_k».proof.Proof.HgrnMasks
public import proofs.«01_k».proof.Proof.HgrnRef
public import Idealize.ShloMosaic.Lib.StableHlo.ReadAt
public import Idealize.ShloMosaic.Lib.IdealHost

@[expose] public section

set_option maxRecDepth 16384

noncomputable section

namespace Cert.HgrnIdeal.Arrays

open Cert.HgrnIdeal Cert.HgrnIdeal.Gen Cert.HgrnIdeal.Unit
open Idealize.ShloMosaic Idealize.ShloMosaic.TcCoe Idealize.SL.Sem
open Idealize.ShloMosaic.Pipeline (Dat)

/-- The steps of sequence `b`, head `h`. -/
def rows {α : Type} [Zero α] (X : Fin 16384 → Fin 1024 → α) (b : Fin 2) (h : Fin 8) (t : ℕ) (d : Fin 128) : α :=
  if ht : t < 8192 then X ⟨b.val * 8192 + t, by omega⟩ (col h d) else 0

/-- The sum of the steps before `t`. -/
def cum (X : Fin 16384 → Fin 1024 → ℝ) (b : Fin 2) (h : Fin 8) (d : Fin 128) (t : ℕ) : ℝ := ∑ s ∈ Finset.range t, rows X b h s d

/-- A step of a sequence is a row of the array. -/
theorem rows_of {α : Type} [Zero α] (X : Fin 16384 → Fin 1024 → α) (b : Fin 2) (h : Fin 8) (t : ℕ) (d : Fin 128) (n : Fin 16384) (ht : t < 8192) (hn : n.val = b.val * 8192 + t) :
    rows X b h t d = X n (col h d) := by
  unfold rows
  rw [dif_pos ht]
  exact congrArg (fun n => X n (col h d)) (Fin.ext hn.symm)

section
variable (m : (ℓ : Loc nD τ sig) → Buf (Elt Ideal) ℓ) (ρ : Dev nD → PrngReg)

/-! ## The windows' blocks, at an index -/

/-- The moving windows are at block `t` at grid point `t`, the tables stay. -/
theorem moves : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (∀ a, win0_4.index t a = 0) ∧ (∀ a, win0_5.index t a = 0) := by
  decide +kernel

/-- Row `r` of block `t`, of 256 rows each. -/
abbrev rowOf (t : Fin cfg0.N) (r : Fin 256) : Fin 16384 := ⟨t.val * 256 + r.val, by have h : t.val < 64 := t.isLt; omega⟩

/-- A block of the queries. -/
theorem blk0 (c : Dev nD) (t : Fin cfg0.N) (r : Fin 256) (k : Fin 1024) :
    (iblk m c 0 t : S256x1024.Idx → EReal) (ix2 r k) = (m ((c : Thread nD τ).loc main_arg0) : S16384x1024.Idx → EReal) (ix2 (rowOf t r) k) := by
  obtain ⟨h0, h1⟩ := (moves t).1
  rw [← V_main_arg0 m c]
  refine congrArg (V m c main_arg0 : S16384x1024.Idx → EReal) (funext fun a => Fin.ext ?_)
  match a with
  | ⟨0, _⟩ => show win0_0.index t 0 * 256 + 1 * r.val = t.val * 256 + r.val; rw [h0]; omega
  | ⟨1, _⟩ => show win0_0.index t 1 * 1024 + 1 * k.val = k.val; rw [h1]; omega

/-- A block of the keys. -/
theorem blk1 (c : Dev nD) (t : Fin cfg0.N) (r : Fin 256) (k : Fin 1024) :
    (iblk m c 1 t : S256x1024.Idx → EReal) (ix2 r k) = (m ((c : Thread nD τ).loc main_arg1) : S16384x1024.Idx → EReal) (ix2 (rowOf t r) k) := by
  obtain ⟨h0, h1⟩ := (moves t).2.1
  rw [← V_main_arg1 m c]
  refine congrArg (V m c main_arg1 : S16384x1024.Idx → EReal) (funext fun a => Fin.ext ?_)
  match a with
  | ⟨0, _⟩ => show win0_1.index t 0 * 256 + 1 * r.val = t.val * 256 + r.val; rw [h0]; omega
  | ⟨1, _⟩ => show win0_1.index t 1 * 1024 + 1 * k.val = k.val; rw [h1]; omega

/-- A block of the values. -/
theorem blk2 (c : Dev nD) (t : Fin cfg0.N) (r : Fin 256) (k : Fin 1024) :
    (iblk m c 2 t : S256x1024.Idx → EReal) (ix2 r k) = (m ((c : Thread nD τ).loc main_arg2) : S16384x1024.Idx → EReal) (ix2 (rowOf t r) k) := by
  obtain ⟨h0, h1⟩ := (moves t).2.2.1
  rw [← V_main_arg2 m c]
  refine congrArg (V m c main_arg2 : S16384x1024.Idx → EReal) (funext fun a => Fin.ext ?_)
  match a with
  | ⟨0, _⟩ => show win0_2.index t 0 * 256 + 1 * r.val = t.val * 256 + r.val; rw [h0]; omega
  | ⟨1, _⟩ => show win0_2.index t 1 * 1024 + 1 * k.val = k.val; rw [h1]; omega

/-- A block of the log-decays. -/
theorem blk3 (c : Dev nD) (t : Fin cfg0.N) (r : Fin 256) (k : Fin 1024) :
    (iblk m c 3 t : S256x1024.Idx → EReal) (ix2 r k) = (m ((c : Thread nD τ).loc main_arg3) : S16384x1024.Idx → EReal) (ix2 (rowOf t r) k) := by
  obtain ⟨h0, h1⟩ := (moves t).2.2.2.1
  rw [← V_main_arg3 m c]
  refine congrArg (V m c main_arg3 : S16384x1024.Idx → EReal) (funext fun a => Fin.ext ?_)
  match a with
  | ⟨0, _⟩ => show win0_3.index t 0 * 256 + 1 * r.val = t.val * 256 + r.val; rw [h0]; omega
  | ⟨1, _⟩ => show win0_3.index t 1 * 1024 + 1 * k.val = k.val; rw [h1]; omega

/-- The table of decays. -/
theorem V4 (c : Dev nD) (i : S512x192.Idx) : (V m c main_cst : S512x192.Idx → EReal) i = Ideal.ofBits .bf16 (lit0 (S512x192.rowMajor i)) := by
  unfold V
  rfl

/-- The masks. -/
theorem V5 (c : Dev nD) (i : S7x64x64.Idx) : (V m c main_cst_0 : S7x64x64.Idx → EReal) i = Ideal.ofBits .f32 (lit1 (S7x64x64.rowMajor i)) := by
  unfold V
  rfl

/-- The table as it is staged. -/
theorem tab (c : Dev nD) (t : Fin cfg0.N) : Tab (iblk m c 4 t : S512x192.Idx → EReal) := by
  intro l i r
  have h := (moves t).2.2.2.2.1
  have e : (iblk m c 4 t : S512x192.Idx → EReal) (ix2 (row l i) ⟨r.val, by omega⟩) = (V m c main_cst : S512x192.Idx → EReal) (ix2 (row l i) ⟨r.val, by omega⟩) := by
    refine congrArg (V m c main_cst : S512x192.Idx → EReal) (funext fun a => Fin.ext ?_)
    match a with
    | ⟨0, _⟩ => show win0_4.index t 0 * 512 + 1 * (64 * l.val + i.val) = 64 * l.val + i.val; rw [h 0]; omega
    | ⟨1, _⟩ => show win0_4.index t 1 * 192 + 1 * r.val = r.val; rw [h 1]; omega
  have ew : lit0 (S512x192.rowMajor (ix2 (row l i) ⟨r.val, by omega⟩)) = _ :=
    (congrArg lit0 (Fin.ext (Shape.rowMajor_val_two _))).trans (decay_word l i r)
  rw [e, V4, ew]
  by_cases hx : lo l.val i.val ≤ r.val ∧ r.val < hi l.val i.val
  · rw [if_pos hx, if_pos hx, Ideal.ofBits_one_bf16]
  · rw [if_neg hx, if_neg hx, Ideal.ofBits_zero_bf16]

/-- The masks as they are staged. -/
theorem msk (c : Dev nD) (t : Fin cfg0.N) (l : Fin 7) (i j : Fin 64) :
    (iblk m c 5 t : S7x64x64.Idx → EReal) (ix3 l i j) = if paired l.val i.val j.val then (1 : EReal) else 0 := by
  have h := (moves t).2.2.2.2.2
  have e : (iblk m c 5 t : S7x64x64.Idx → EReal) (ix3 l i j) = (V m c main_cst_0 : S7x64x64.Idx → EReal) (ix3 l i j) := by
    refine congrArg (V m c main_cst_0 : S7x64x64.Idx → EReal) (funext fun a => Fin.ext ?_)
    match a with
    | ⟨0, _⟩ => show win0_5.index t 0 * 7 + 1 * l.val = l.val; rw [h 0]; omega
    | ⟨1, _⟩ => show win0_5.index t 1 * 64 + 1 * i.val = i.val; rw [h 1]; omega
    | ⟨2, _⟩ => show win0_5.index t 2 * 64 + 1 * j.val = j.val; rw [h 2]; omega
  have ew : lit1 (S7x64x64.rowMajor (ix3 l i j)) = _ := (congrArg lit1 (Fin.ext (by
    rw [Shape.rowMajor_val_three]
    show (l.val * 64 + i.val) * 64 + j.val = (64 * l.val + i.val) * 64 + j.val
    omega))).trans (mask_word l i j)
  rw [e, V5, ew]
  by_cases hx : paired l.val i.val j.val
  · rw [if_pos hx, if_pos hx, Ideal.ofBits_one_f32]
  · rw [if_neg hx, if_neg hx, Ideal.ofBits_zero_f32]

/-! ## The grid's points -/

variable (c : Dev nD) (Xq Xk Xv : Fin 16384 → Fin 1024 → EReal) (Xl : Fin 16384 → Fin 1024 → ℝ)

/-- The four arrays are these, the log-decays real. -/
structure Reals : Prop where
  hq : ∀ n k, (m ((c : Thread nD τ).loc main_arg0) : S16384x1024.Idx → EReal) (ix2 n k) = Xq n k
  hk : ∀ n k, (m ((c : Thread nD τ).loc main_arg1) : S16384x1024.Idx → EReal) (ix2 n k) = Xk n k
  hv : ∀ n k, (m ((c : Thread nD τ).loc main_arg2) : S16384x1024.Idx → EReal) (ix2 n k) = Xv n k
  hl : ∀ n k, (m ((c : Thread nD τ).loc main_arg3) : S16384x1024.Idx → EReal) (ix2 n k) = ((Xl n k : ℝ) : EReal)

/-- The sequence of a grid point. -/
abbrev seq (t : Fin cfg0.N) : Fin 2 := ⟨t.val / 32, by have h : t.val < 64 := t.isLt; omega⟩

variable {m c Xq Xk Xv Xl}

/-- A grid point's blocks. -/
theorem blk (hX : Reals m c Xq Xk Xv Xl) (t : Fin cfg0.N) :
    Blk (iblk m c 0 t : S256x1024.Idx → EReal) (iblk m c 1 t : S256x1024.Idx → EReal) (iblk m c 2 t : S256x1024.Idx → EReal) (iblk m c 3 t : S256x1024.Idx → EReal)
      (iblk m c 4 t : S512x192.Idx → EReal) (iblk m c 5 t : S7x64x64.Idx → EReal)
      (rows Xq (seq t)) (rows Xk (seq t)) (rows Xv (seq t)) (cum Xl (seq t)) (t.val % 32 * 256) := by
  have ht : t.val < 64 := t.isLt
  have key : ∀ {α : Type} [Zero α] (X : Fin 16384 → Fin 1024 → α) (r : Fin 256) (h : Fin 8) (d : Fin 128), rows X (seq t) h (t.val % 32 * 256 + r.val) d = X (rowOf t r) (col h d) :=
    fun {_ _} X r h d => rows_of X (seq t) h _ d (rowOf t r) (by omega) (by show t.val * 256 + r.val = t.val / 32 * 8192 + (t.val % 32 * 256 + r.val); omega)
  refine ⟨by omega, fun r h d => ?_, fun r h d => ?_, fun r h d => ?_, fun r h d => ?_, tab m c t, msk m c t⟩
  · rw [blk0, hX.hq, key]
  · rw [blk1, hX.hk, key]
  · rw [blk2, hX.hv, key]
  · rw [blk3, hX.hl, ← key Xl]
    unfold cum
    rw [Finset.sum_range_succ, add_sub_cancel_left]

/-- The states after a grid point's last step. -/
def Left (m : (ℓ : Loc nD τ sig) → Buf (Elt Ideal) ℓ) (c : Dev nD) (Xk Xv : Fin 16384 → Fin 1024 → EReal) (Xl : Fin 16384 → Fin 1024 → ℝ) (n : ℕ) (hn : n < cfg0.N) : Prop :=
  ∀ (h : Fin 8) (d e : Fin 128), (outsAt0 m c n hn).2 (ix3 h d e)
    = state (rows Xk (seq ⟨n, hn⟩) h) (rows Xv (seq ⟨n, hn⟩) h) (cum Xl (seq ⟨n, hn⟩) h) (n % 32 * 256 + 256) d e

/-- The point before, where there is one in the sequence, left the states this one starts from. -/
theorem before {n : ℕ} {hn : n < cfg0.N} (hp : Left m c Xk Xv Xl n hn) (t : Fin cfg0.N) (ht : t.val = n + 1) (h0 : ¬t.val % 32 = 0) (h : Fin 8) (d e : Fin 128) :
    (outsAt0 m c (t.val - 1) (Nat.lt_of_le_of_lt (Nat.sub_le _ _) t.isLt)).2 (ix3 h d e)
      = state (rows Xk (seq t) h) (rows Xv (seq t) h) (cum Xl (seq t) h) (t.val % 32 * 256) d e := by
  have e1 : t.val - 1 = n := by omega
  have e2 : seq t = seq ⟨n, hn⟩ := Fin.ext (by show t.val / 32 = n / 32; omega)
  have e3 : t.val % 32 * 256 = n % 32 * 256 + 256 := by omega
  rw [e2, e3, ← hp h d e]
  simp only [e1]

/-- A sequence's first point. -/
theorem first (hX : Reals m c Xq Xk Xv Xl) (t : Fin cfg0.N) (h0 : t.val % 32 = 0) : Left m c Xk Xv Xl t.val t.isLt := by
  intro h d e
  have hb := blk hX t
  rw [outsAt0_A m c t h0]
  dsimp only
  exact caseA_state c (hz := by omega) (hb := hb) _ _ _ _ _ _ _ _ _ _ _ _ _ _ _ _ _ _ h d e

/-- A later point. -/
theorem later (hX : Reals m c Xq Xk Xv Xl) (t : Fin cfg0.N) (h0 : ¬t.val % 32 = 0) {n : ℕ} {hn : n < cfg0.N} (ht : t.val = n + 1) (hp : Left m c Xk Xv Xl n hn) :
    Left m c Xk Xv Xl t.val t.isLt := by
  intro h d e
  have hb := blk hX t
  rw [outsAt0_B m c t h0]
  dsimp only
  exact caseB_state c (hb := hb) (hs := before hp t ht h0) _ _ _ _ _ _ _ _ _ _ _ _ _ _ _ _ _ _ h d e

/-- Every grid point leaves the states after its last step. -/
theorem states (hX : Reals m c Xq Xk Xv Xl) (n : ℕ) (hn : n < cfg0.N) : Left m c Xk Xv Xl n hn := by
  induction n with
  | zero => exact first hX ⟨0, hn⟩ rfl
  | succ n ih =>
    by_cases h0 : (n + 1) % 32 = 0
    · exact first hX ⟨n + 1, hn⟩ h0
    · exact later hX ⟨n + 1, hn⟩ h0 rfl (ih (Nat.lt_of_succ_lt hn))

/-- A grid point writes its steps' outputs. -/
theorem outputs (hX : Reals m c Xq Xk Xv Xl) (t : Fin cfg0.N) (r : Fin 256) (h : Fin 8) (d : Fin 128) :
    (outsAt0 m c t.val t.isLt).1 (ix2 r (col h d))
      = outR (rows Xq (seq t) h) (rows Xk (seq t) h) (rows Xv (seq t) h) (cum Xl (seq t) h) (t.val % 32 * 256 + r.val) d := by
  have hb := blk hX t
  by_cases h0 : t.val % 32 = 0
  · rw [outsAt0_A m c t h0]
    dsimp only
    exact caseA_out c (hz := by omega) (hb := hb) _ _ _ _ _ _ _ _ _ _ _ _ _ _ _ _ _ _ r h d
  · rw [outsAt0_B m c t h0]
    dsimp only
    exact caseB_out c (hb := hb) (hs := before (states hX (t.val - 1) (Nat.lt_of_le_of_lt (Nat.sub_le _ _) t.isLt)) t (by omega) h0) _ _ _ _ _ _ _ _ _ _ _ _ _ _ _ _ _ _ r h d

/-- The result array. -/
theorem result (hX : Reals m c Xq Xk Xv Xl) (b : Fin 2) (t : Fin 8192) (h : Fin 8) (d : Fin 128) :
    (Value.G6 m c : S16384x1024.Idx → EReal) (ix2 ⟨b.val * 8192 + t.val, by omega⟩ (col h d))
      = outR (rows Xq b h) (rows Xk b h) (rows Xv b h) (cum Xl b h) t.val d := by
  have hp : (b.val * 8192 + t.val) / 256 < cfg0.N := lt_of_lt_of_eq (show (b.val * 8192 + t.val) / 256 < 64 from by omega) N_0.symm
  have ho := outputs hX ⟨(b.val * 8192 + t.val) / 256, hp⟩ ⟨(b.val * 8192 + t.val) % 256, by omega⟩ h d
  have es : seq ⟨(b.val * 8192 + t.val) / 256, hp⟩ = b := Fin.ext (by show (b.val * 8192 + t.val) / 256 / 32 = b.val; omega)
  have et : (b.val * 8192 + t.val) / 256 % 32 * 256 + (b.val * 8192 + t.val) % 256 = t.val := by omega
  rw [es] at ho
  dsimp only at ho
  rw [et, Value.outsAt0_sweep] at ho
  refine Eq.trans ?_ ho
  have ep : Value.pt6Of (ix2 ⟨b.val * 8192 + t.val, by omega⟩ (col h d)) = (b.val * 8192 + t.val) / 256 := by
    show 1 * ((b.val * 8192 + t.val) / 256 - 0) + 1 * ((128 * h.val + d.val) / 1024 - 0) = _
    omega
  unfold Value.G6
  rw [dif_pos (lt_of_eq_of_lt ep hp)]
  have el : Value.loc6Of (ix2 ⟨b.val * 8192 + t.val, by omega⟩ (col h d)) = ix2 ⟨(b.val * 8192 + t.val) % 256, by omega⟩ (col h d) := by
    funext a; apply Fin.ext
    match a with
    | ⟨0, _⟩ => rfl
    | ⟨1, _⟩ => show (128 * h.val + d.val) % 1024 = 128 * h.val + d.val; omega
  rw [el]
  exact congrFun (congrArg Prod.fst (Value.fold0_congr m c _ _ _ _ ep)) _

end

end Cert.HgrnIdeal.Arrays
end
-- ==== Proof.HgrnSame.lean ====
/- The reference's result, of real log-decays: the state its loop carries, and each step's output as the sum over the steps up to it. -/
module

public import proofs.«01_k».proof.Proof.HgrnRef
public import proofs.«01_k».proof.Proof.HgrnValue

@[expose] public section

set_option maxRecDepth 16384

noncomputable section

namespace Cert.HgrnRefIdeal.Arrays

open Cert.HgrnRefIdeal Cert.HgrnRefIdeal.Step
open Cert.HgrnIdeal.Arrays (rows cum rows_of)
open Cert.HgrnIdeal.Unit (col wt outR state_step out_step)
open Cert.Lemmas (coe_sum)
open Idealize.ShloMosaic Idealize.ShloMosaic.TcCoe Idealize.SL.Sem

/-- A sum over a chunk's steps up to `t`, as a sum over a range. -/
theorem upto (f : ℕ → ℝ) (t : Fin 64) : (∑ r : Fin 64, if r.val ≤ t.val then f r.val else 0) = ∑ r ∈ Finset.range (t.val + 1), f r := by
  have ht := t.isLt
  rw [Fin.sum_univ_eq_sum_range (fun r => if r ≤ t.val then f r else 0) 64, ← Finset.sum_filter]
  refine Finset.sum_congr (Finset.ext fun r => ?_) fun _ _ => rfl
  simp only [Finset.mem_filter, Finset.mem_range]
  omega

/-- The log-decays summed from a chunk's start. -/
theorem cum_chunk (X : Fin 16384 → Fin 1024 → ℝ) (b : Fin 2) (h : Fin 8) (e : Fin 128) (n t : ℕ) :
    ∑ r ∈ Finset.range t, rows X b h (n + r) e = cum X b h e (n + t) - cum X b h e (n + 0) := by
  rw [cum, cum, Finset.sum_range_add, Nat.add_zero, add_sub_cancel_left]

section
variable {x0 x1 x2 x3 : (⟨S16384x1024, .f32⟩ : BufTy).Contents (Elt Ideal)} {Xq Xk Xv : Fin 16384 → Fin 1024 → EReal} {Xl : Fin 16384 → Fin 1024 → ℝ}

/-- A head's column of an array. -/
theorem at_rows {x : (⟨S16384x1024, .f32⟩ : BufTy).Contents (Elt Ideal)} {X : Fin 16384 → Fin 1024 → EReal} (hx : ∀ n k, x (ix2 n k) = X n k)
    (b : Fin 2) (h : Fin 8) (t : ℕ) (ht : t < 8192) (e : Fin 128) (n : Fin 16384) (k : Fin 1024) (hn : n.val = b.val * 8192 + t) (hk : k.val = h.val * 128 + e.val) :
    x (ix2 n k) = rows X b h t e := by
  rw [hx, rows_of X b h t e n ht hn]
  exact congrArg (fun k => X n k) (Fin.ext (by show k.val = 128 * h.val + e.val; omega))

/-- What the loop carries before trip `k`: the arguments' chunks, the state after the first `k` chunks, and those chunks' outputs. -/
structure Carries (x0 x1 x2 x3 : (⟨S16384x1024, .f32⟩ : BufTy).Contents (Elt Ideal)) (Xq Xk Xv : Fin 16384 → Fin 1024 → EReal) (Xl : Fin 16384 → Fin 1024 → ℝ) (k : ℕ) (s : State Ideal) : Prop where
  cq : s.main_v17_0 = A_main_v5 x0 x1 x2 x3
  ck : s.main_v17_1 = A_main_v7 x0 x1 x2 x3
  cv : s.main_v17_2 = A_main_v9 x0 x1 x2 x3
  cl : s.main_v17_3 = A_main_v11 x0 x1 x2 x3
  state : ∀ (b : Fin 2) (h : Fin 8) (e d : Fin 128), s.main_v17_6 (ix4 b h e d)
    = Cert.HgrnIdeal.Unit.state (rows Xk b h) (rows Xv b h) (cum Xl b h) (64 * k) d e
  out : ∀ (n : Fin 128) (_ : n.val < k) (b : Fin 2) (h : Fin 8) (i : Fin 64) (d : Fin 128), s.main_v17_7 (ix5 n b h i d)
    = outR (rows Xq b h) (rows Xk b h) (rows Xv b h) (cum Xl b h) (64 * n.val + i.val) d

section
variable {s : State Ideal} {n : Fin 128}

/-- The trip's queries. -/
theorem trip_q (hq : ∀ n k, x0 (ix2 n k) = Xq n k) (hs : Carries x0 x1 x2 x3 Xq Xk Xv Xl n.val s) (b : Fin 2) (h : Fin 8) (i : Fin 64) (d : Fin 128) :
    b5 n.val s (ix4 b h i d) = rows Xq b h (64 * n.val + i.val) d := by
  rw [b5_at, hs.cq, v5_at]
  exact at_rows hq b h _ (by omega) d _ _ rfl rfl
/-- The trip's keys. -/
theorem trip_k (hk : ∀ n k, x1 (ix2 n k) = Xk n k) (hs : Carries x0 x1 x2 x3 Xq Xk Xv Xl n.val s) (b : Fin 2) (h : Fin 8) (i : Fin 64) (d : Fin 128) :
    b11 n.val s (ix4 b h i d) = rows Xk b h (64 * n.val + i.val) d := by
  rw [b11_at, hs.ck, v7_at]
  exact at_rows hk b h _ (by omega) d _ _ rfl rfl
/-- The trip's values. -/
theorem trip_v (hv : ∀ n k, x2 (ix2 n k) = Xv n k) (hs : Carries x0 x1 x2 x3 Xq Xk Xv Xl n.val s) (b : Fin 2) (h : Fin 8) (i : Fin 64) (d : Fin 128) :
    b17 n.val s (ix4 b h i d) = rows Xv b h (64 * n.val + i.val) d := by
  rw [b17_at, hs.cv, v9_at]
  exact at_rows hv b h _ (by omega) d _ _ rfl rfl
/-- The trip's summed log-decays. -/
theorem trip_g (hl : ∀ n k, x3 (ix2 n k) = ((Xl n k : ℝ) : EReal)) (hs : Carries x0 x1 x2 x3 Xq Xk Xv Xl n.val s) (b : Fin 2) (h : Fin 8) (i : Fin 64) (d : Fin 128) :
    b26 n.val s (ix4 b h i d) = ((cum Xl b h d (64 * n.val + (i.val + 1)) - cum Xl b h d (64 * n.val + 0) : ℝ) : EReal) := by
  rw [b26_at, ← cum_chunk, ← upto (fun r => rows Xl b h (64 * n.val + r) d), coe_sum]
  refine Finset.sum_congr rfl fun r _ => ?_
  rw [b23_at, hs.cl, v11_at, at_rows (X := fun n k => ((Xl n k : ℝ) : EReal)) hl b h (64 * n.val + r.val) (by omega) d _ _ rfl rfl,
    rows_of _ b h _ d ⟨b.val * 8192 + (64 * n.val + r.val), by omega⟩ (by omega) rfl, rows_of Xl b h _ d ⟨b.val * 8192 + (64 * n.val + r.val), by omega⟩ (by omega) rfl]
  split <;> simp

variable (hq : ∀ n k, x0 (ix2 n k) = Xq n k) (hk : ∀ n k, x1 (ix2 n k) = Xk n k) (hv : ∀ n k, x2 (ix2 n k) = Xv n k)
  (hl : ∀ n k, x3 (ix2 n k) = ((Xl n k : ℝ) : EReal))

include hl in
/-- The decay between two of the trip's steps. -/
theorem trip_decay (hs : Carries x0 x1 x2 x3 Xq Xk Xv Xl n.val s) (b : Fin 2) (h : Fin 8) (t r : Fin 64) (e : Fin 128) :
    b37 n.val s (ix5 b h t r e) = if r.val ≤ t.val
      then ((Real.exp (cum Xl b h e (64 * n.val + (t.val + 1)) - cum Xl b h e (64 * n.val + (r.val + 1))) : ℝ) : EReal) else 0 := by
  rw [b37_at, v13_at, trip_g hl hs, trip_g hl hs]
  by_cases hx : r.val ≤ t.val
  · rw [if_pos hx, if_pos hx, ← EReal.coe_sub, sub_sub_sub_cancel_right]
    exact Ideal.exp_coe _
  · rw [if_neg hx, if_neg hx]
    exact Ideal.exp_bot

include hq hk hl in
/-- The score of two of the trip's steps. -/
theorem trip_score (hs : Carries x0 x1 x2 x3 Xq Xk Xv Xl n.val s) (b : Fin 2) (h : Fin 8) (t r : Fin 64) :
    b45 n.val s (ix4 b h t r) = if r.val ≤ t.val then wt (fun t => rows Xq b h (64 * n.val + t)) (fun t => rows Xk b h (64 * n.val + t))
      (fun e t => cum Xl b h e (64 * n.val + t)) t.val r.val else 0 := by
  rw [b45_at]
  by_cases hx : r.val ≤ t.val
  · rw [if_pos hx, wt]
    refine Finset.sum_congr rfl fun e _ => ?_
    rw [trip_decay hl hs, if_pos hx, trip_q hq hs, trip_k hk hs]
  · rw [if_neg hx]
    refine Finset.sum_eq_zero fun e _ => ?_
    rw [trip_decay hl hs, if_neg hx, mul_zero]

include hq hk hv hl in
/-- The trip's outputs. -/
theorem trip_out (hs : Carries x0 x1 x2 x3 Xq Xk Xv Xl n.val s) (b : Fin 2) (h : Fin 8) (i : Fin 64) (d : Fin 128) :
    b62 n.val s (ix4 b h i d) = outR (rows Xq b h) (rows Xk b h) (rows Xv b h) (cum Xl b h) (64 * n.val + i.val) d := by
  rw [b62_at, ← out_step _ _ _ _ _ (by omega)]
  refine congrArg₂ (· + ·) (Finset.sum_congr rfl fun r _ => ?_) (Finset.sum_congr rfl fun e _ => ?_)
  · rw [trip_score hq hk hl hs, trip_v hv hs]
  · rw [trip_q hq hs, trip_g hl hs, hs.state, Ideal.exp_coe]

include hk hv hl in
/-- The state after the trip. -/
theorem trip_state (hs : Carries x0 x1 x2 x3 Xq Xk Xv Xl n.val s) (b : Fin 2) (h : Fin 8) (e d : Fin 128) :
    b61 n.val s (ix4 b h e d) = Cert.HgrnIdeal.Unit.state (rows Xk b h) (rows Xv b h) (cum Xl b h) (64 * n.val + 64) d e := by
  have h63 : ((63 : Fin 64).val + 1) = 64 := rfl
  rw [b61_at, ← state_step _ _ _ _ (by omega), trip_g hl hs, h63, hs.state, Ideal.exp_coe]
  refine congrArg₂ (· + ·) rfl (Finset.sum_congr rfl fun r _ => ?_)
  rw [trip_k hk hs, trip_g hl hs, trip_v hv hs, ← EReal.coe_sub, sub_sub_sub_cancel_right, Ideal.exp_coe, mul_comm (rows Xv b h _ d)]

include hq hk hv hl in
/-- A trip takes what the loop carries to the next. -/
theorem trip (hs : Carries x0 x1 x2 x3 Xq Xk Xv Xl n.val s) : Carries x0 x1 x2 x3 Xq Xk Xv Xl (n.val + 1) (step n.val s) where
  cq := hs.cq
  ck := hs.ck
  cv := hs.cv
  cl := hs.cl
  state b h e d := by rw [step_main_v17_6, trip_state hk hv hl hs, Nat.mul_succ]
  out p hp b h i d := by
    rw [step_main_v17_7, b68_at]
    by_cases hpn : p = n
    · subst hpn
      rw [if_pos rfl, trip_out hq hk hv hl hs]
    · rw [if_neg hpn]
      exact hs.out p (Nat.lt_of_le_of_ne (Nat.lt_succ_iff.mp hp) fun e => hpn (Fin.ext e)) b h i d

end

/-- What the loop starts from. -/
theorem start : Carries x0 x1 x2 x3 Xq Xk Xv Xl 0 (init x0 x1 x2 x3) where
  cq := rfl
  ck := rfl
  cv := rfl
  cl := rfl
  state b h e d := (v15_at (ix4 b h e d)).trans (by simp [Cert.HgrnIdeal.Unit.state, Cert.HgrnIdeal.Unit.stateC])
  out p hp := absurd hp (Nat.not_lt_zero _)

variable (hq : ∀ n k, x0 (ix2 n k) = Xq n k) (hk : ∀ n k, x1 (ix2 n k) = Xk n k) (hv : ∀ n k, x2 (ix2 n k) = Xv n k)
  (hl : ∀ n k, x3 (ix2 n k) = ((Xl n k : ℝ) : EReal))

include hq hk hv hl in
/-- What the loop carries before each trip. -/
theorem trips (it : ℕ → State Ideal) (h0 : it 0 = init x0 x1 x2 x3) (hs : ∀ n, it (n + 1) = step n (it n)) :
    ∀ k : ℕ, k ≤ 128 → Carries x0 x1 x2 x3 Xq Xk Xv Xl k (it k)
  | 0, _ => h0 ▸ start
  | k + 1, hk1 => by
    rw [hs k]
    exact trip (n := ⟨k, hk1⟩) hq hk hv hl (trips it h0 hs k (Nat.le_of_succ_le hk1))

include hq hk hv hl in
/-- The reference's result. -/
theorem result (it : ℕ → State Ideal) (h0 : it 0 = init x0 x1 x2 x3) (hs : ∀ n, it (n + 1) = step n (it n)) (b : Fin 2) (t : Fin 8192) (h : Fin 8) (d : Fin 128) :
    R_main_v19 (it 128) (ix2 ⟨b.val * 8192 + t.val, by omega⟩ (col h d))
      = outR (rows Xq b h) (rows Xk b h) (rows Xv b h) (cum Xl b h) t.val d := by
  have ht : t.val = 64 * (t.val / 64) + t.val % 64 := (Nat.div_add_mod _ _).symm
  have e1 := v19_at (it 128) ⟨t.val / 64, by omega⟩ b h ⟨t.val % 64, by omega⟩ d
  have e2 := (trips hq hk hv hl it h0 hs 128 le_rfl).out ⟨t.val / 64, by omega⟩ (by dsimp only; omega) b h ⟨t.val % 64, by omega⟩ d
  have e3 : (⟨b.val * 8192 + t.val, by omega⟩ : Fin 16384) = ⟨b.val * 8192 + (64 * (t.val / 64) + t.val % 64), by omega⟩ :=
    Fin.ext (by dsimp only; omega)
  refine (congrArg (fun r => R_main_v19 (it 128) (ix2 r (col h d))) e3).trans (e1.trans (e2.trans ?_))
  exact congrArg (fun t => outR (rows Xq b h) (rows Xk b h) (rows Xv b h) (cum Xl b h) t d) ht.symm

end

end Cert.HgrnRefIdeal.Arrays
end
-- ==== Proof.HgrnLoop.lean ====
/- The reference's run by its trips: a run's values that hold what a trip is handed hold after the trip what it hands the next, so the result is
   made of what the last trip leaves. -/
module

public import proofs.«01_k».proof.Proof.Gen.HgrnRefIdeal.Run
public import proofs.«01_k».proof.Proof.Gen.HgrnRefIdeal.Step

@[expose] public section

noncomputable section

namespace Cert.HgrnRefIdeal.Loop

open Idealize.ShloMosaic Idealize.ShloMosaic.TcCoe Idealize.SL.Sem Idealize.ShloMosaic.StableHlo
open Cert.HgrnRefIdeal Cert.HgrnRefIdeal.Gen Cert.HgrnRefIdeal.Value
open Cert.HgrnRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v17_6) = s.main_v17_6
  f_7 : V0 (Proc.devRef .tc main_v17_7) = s.main_v17_7
  f_0 : V0 (Proc.devRef .tc main_v17_0) = s.main_v17_0
  f_1 : V0 (Proc.devRef .tc main_v17_1) = s.main_v17_1
  f_2 : V0 (Proc.devRef .tc main_v17_2) = s.main_v17_2
  f_3 : V0 (Proc.devRef .tc main_v17_3) = s.main_v17_3
  n_5 : V0 (Proc.devRef .tc main_v17_5) = constantI S_ 32 (BitVec.ofNat 32 j)
  k_4 : V0 (Proc.devRef .tc main_v17_4) = Cert.HgrnRefIdeal.Step.K_main_v14 (F := F)

variable {V0 s j}

set_option maxRecDepth 8192 in
/-- Value 0 of a trip. -/
theorem al_0 (h : Holds V0 s j) : (constantI S_ 32 0#32 : (Proc.devRef .tc main_while0b_call1_c : DevRef τ sig).ty.Contents (Elt F)) = Cert.HgrnRefIdeal.Step.b0 j s := by
  unfold Cert.HgrnRefIdeal.Step.b0
  rfl
set_option maxRecDepth 8192 in
/-- Value 1 of a trip. -/
theorem al_1 (h : Holds V0 s j) : (constantI S_ 32 0#32 : (Proc.devRef .tc main_while0b_call1_c_0 : DevRef τ sig).ty.Contents (Elt F)) = Cert.HgrnRefIdeal.Step.b1 j s := by
  unfold Cert.HgrnRefIdeal.Step.b1
  rfl
set_option maxRecDepth 8192 in
/-- Value 2 of a trip. -/
theorem al_2 (h : Holds V0 s j) : (constantI S_ 32 0#32 : (Proc.devRef .tc main_while0b_call1_c_1 : DevRef τ sig).ty.Contents (Elt F)) = Cert.HgrnRefIdeal.Step.b2 j s := by
  unfold Cert.HgrnRefIdeal.Step.b2
  rfl
set_option maxRecDepth 8192 in
/-- Value 3 of a trip. -/
theorem al_3 (h : Holds V0 s j) : (constantI S_ 32 0#32 : (Proc.devRef .tc main_while0b_call1_c_2 : DevRef τ sig).ty.Contents (Elt F)) = Cert.HgrnRefIdeal.Step.b3 j s := by
  unfold Cert.HgrnRefIdeal.Step.b3
  rfl
set_option maxRecDepth 8192 in
/-- Value 4 of a trip. -/
theorem al_4 (h : Holds V0 s j) : (Host.dynamicSlice S1x2x8x64x128 (V0 (Proc.devRef .tc main_v17_0)) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x64x128_S1x2x8x64x128 : (Proc.devRef .tc main_while0b_call1_v0 : DevRef τ sig).ty.Contents (Elt F)) = Cert.HgrnRefIdeal.Step.b4 j s := by
  unfold Cert.HgrnRefIdeal.Step.b4
  rw [← al_0 h, ← al_1 h, ← al_2 h, ← al_3 h, h.f_0, h.n_5]
  try rfl
set_option maxRecDepth 8192 in
/-- Value 5 of a trip. -/
theorem al_5 (h : Holds V0 s j) : (res_main_while0b_v20 V0 : (Proc.devRef .tc main_while0b_v20 : DevRef τ sig).ty.Contents (Elt F)) = Cert.HgrnRefIdeal.Step.b5 j s := by
  unfold res_main_while0b_v20 Cert.HgrnRefIdeal.Step.b5
  rw [← al_4 h]
  try rfl
set_option maxRecDepth 8192 in
/-- Value 6 of a trip. -/
theorem al_6 (h : Holds V0 s j) : (constantI S_ 32 0#32 : (Proc.devRef .tc main_while0b_call2_c : DevRef τ sig).ty.Contents (Elt F)) = Cert.HgrnRefIdeal.Step.b6 j s := by
  unfold Cert.HgrnRefIdeal.Step.b6
  rfl
set_option maxRecDepth 8192 in
/-- Value 7 of a trip. -/
theorem al_7 (h : Holds V0 s j) : (constantI S_ 32 0#32 : (Proc.devRef .tc main_while0b_call2_c_0 : DevRef τ sig).ty.Contents (Elt F)) = Cert.HgrnRefIdeal.Step.b7 j s := by
  unfold Cert.HgrnRefIdeal.Step.b7
  rfl
set_option maxRecDepth 8192 in
/-- Value 8 of a trip. -/
theorem al_8 (h : Holds V0 s j) : (constantI S_ 32 0#32 : (Proc.devRef .tc main_while0b_call2_c_1 : DevRef τ sig).ty.Contents (Elt F)) = Cert.HgrnRefIdeal.Step.b8 j s := by
  unfold Cert.HgrnRefIdeal.Step.b8
  rfl
set_option maxRecDepth 8192 in
/-- Value 9 of a trip. -/
theorem al_9 (h : Holds V0 s j) : (constantI S_ 32 0#32 : (Proc.devRef .tc main_while0b_call2_c_2 : DevRef τ sig).ty.Contents (Elt F)) = Cert.HgrnRefIdeal.Step.b9 j s := by
  unfold Cert.HgrnRefIdeal.Step.b9
  rfl
set_option maxRecDepth 8192 in
/-- Value 10 of a trip. -/
theorem al_10 (h : Holds V0 s j) : (Host.dynamicSlice S1x2x8x64x128 (V0 (Proc.devRef .tc main_v17_1)) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x64x128_S1x2x8x64x128 : (Proc.devRef .tc main_while0b_call2_v0 : DevRef τ sig).ty.Contents (Elt F)) = Cert.HgrnRefIdeal.Step.b10 j s := by
  unfold Cert.HgrnRefIdeal.Step.b10
  rw [← al_6 h, ← al_7 h, ← al_8 h, ← al_9 h, h.f_1, h.n_5]
  try rfl
set_option maxRecDepth 8192 in
/-- Value 11 of a trip. -/
theorem al_11 (h : Holds V0 s j) : (res_main_while0b_v21 V0 : (Proc.devRef .tc main_while0b_v21 : DevRef τ sig).ty.Contents (Elt F)) = Cert.HgrnRefIdeal.Step.b11 j s := by
  unfold res_main_while0b_v21 Cert.HgrnRefIdeal.Step.b11
  rw [← al_10 h]
  try rfl
set_option maxRecDepth 8192 in
/-- Value 12 of a trip. -/
theorem al_12 (h : Holds V0 s j) : (constantI S_ 32 0#32 : (Proc.devRef .tc main_while0b_call3_c : DevRef τ sig).ty.Contents (Elt F)) = Cert.HgrnRefIdeal.Step.b12 j s := by
  unfold Cert.HgrnRefIdeal.Step.b12
  rfl
set_option maxRecDepth 8192 in
/-- Value 13 of a trip. -/
theorem al_13 (h : Holds V0 s j) : (constantI S_ 32 0#32 : (Proc.devRef .tc main_while0b_call3_c_0 : DevRef τ sig).ty.Contents (Elt F)) = Cert.HgrnRefIdeal.Step.b13 j s := by
  unfold Cert.HgrnRefIdeal.Step.b13
  rfl
set_option maxRecDepth 8192 in
/-- Value 14 of a trip. -/
theorem al_14 (h : Holds V0 s j) : (constantI S_ 32 0#32 : (Proc.devRef .tc main_while0b_call3_c_1 : DevRef τ sig).ty.Contents (Elt F)) = Cert.HgrnRefIdeal.Step.b14 j s := by
  unfold Cert.HgrnRefIdeal.Step.b14
  rfl
set_option maxRecDepth 8192 in
/-- Value 15 of a trip. -/
theorem al_15 (h : Holds V0 s j) : (constantI S_ 32 0#32 : (Proc.devRef .tc main_while0b_call3_c_2 : DevRef τ sig).ty.Contents (Elt F)) = Cert.HgrnRefIdeal.Step.b15 j s := by
  unfold Cert.HgrnRefIdeal.Step.b15
  rfl
set_option maxRecDepth 8192 in
/-- Value 16 of a trip. -/
theorem al_16 (h : Holds V0 s j) : (Host.dynamicSlice S1x2x8x64x128 (V0 (Proc.devRef .tc main_v17_2)) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x64x128_S1x2x8x64x128 : (Proc.devRef .tc main_while0b_call3_v0 : DevRef τ sig).ty.Contents (Elt F)) = Cert.HgrnRefIdeal.Step.b16 j s := by
  unfold Cert.HgrnRefIdeal.Step.b16
  rw [← al_12 h, ← al_13 h, ← al_14 h, ← al_15 h, h.f_2, h.n_5]
  try rfl
set_option maxRecDepth 8192 in
/-- Value 17 of a trip. -/
theorem al_17 (h : Holds V0 s j) : (res_main_while0b_v22 V0 : (Proc.devRef .tc main_while0b_v22 : DevRef τ sig).ty.Contents (Elt F)) = Cert.HgrnRefIdeal.Step.b17 j s := by
  unfold res_main_while0b_v22 Cert.HgrnRefIdeal.Step.b17
  rw [← al_16 h]
  try rfl
set_option maxRecDepth 8192 in
/-- Value 18 of a trip. -/
theorem al_18 (h : Holds V0 s j) : (constantI S_ 32 0#32 : (Proc.devRef .tc main_while0b_call4_c : DevRef τ sig).ty.Contents (Elt F)) = Cert.HgrnRefIdeal.Step.b18 j s := by
  unfold Cert.HgrnRefIdeal.Step.b18
  rfl
set_option maxRecDepth 8192 in
/-- Value 19 of a trip. -/
theorem al_19 (h : Holds V0 s j) : (constantI S_ 32 0#32 : (Proc.devRef .tc main_while0b_call4_c_0 : DevRef τ sig).ty.Contents (Elt F)) = Cert.HgrnRefIdeal.Step.b19 j s := by
  unfold Cert.HgrnRefIdeal.Step.b19
  rfl
set_option maxRecDepth 8192 in
/-- Value 20 of a trip. -/
theorem al_20 (h : Holds V0 s j) : (constantI S_ 32 0#32 : (Proc.devRef .tc main_while0b_call4_c_1 : DevRef τ sig).ty.Contents (Elt F)) = Cert.HgrnRefIdeal.Step.b20 j s := by
  unfold Cert.HgrnRefIdeal.Step.b20
  rfl
set_option maxRecDepth 8192 in
/-- Value 21 of a trip. -/
theorem al_21 (h : Holds V0 s j) : (constantI S_ 32 0#32 : (Proc.devRef .tc main_while0b_call4_c_2 : DevRef τ sig).ty.Contents (Elt F)) = Cert.HgrnRefIdeal.Step.b21 j s := by
  unfold Cert.HgrnRefIdeal.Step.b21
  rfl
set_option maxRecDepth 8192 in
/-- Value 22 of a trip. -/
theorem al_22 (h : Holds V0 s j) : (Host.dynamicSlice S1x2x8x64x128 (V0 (Proc.devRef .tc main_v17_3)) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x64x128_S1x2x8x64x128 : (Proc.devRef .tc main_while0b_call4_v0 : DevRef τ sig).ty.Contents (Elt F)) = Cert.HgrnRefIdeal.Step.b22 j s := by
  unfold Cert.HgrnRefIdeal.Step.b22
  rw [← al_18 h, ← al_19 h, ← al_20 h, ← al_21 h, h.f_3, h.n_5]
  try rfl
set_option maxRecDepth 8192 in
/-- Value 23 of a trip. -/
theorem al_23 (h : Holds V0 s j) : (shapeCast S2x8x64x128 (Host.dynamicSlice S1x2x8x64x128 (V0 (Proc.devRef .tc main_v17_3)) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) sliceFits_S128x2x8x64x128_S1x2x8x64x128) shapeCasts_S1x2x8x64x128_S2x8x64x128 : (Proc.devRef .tc main_while0b_v23 : DevRef τ sig).ty.Contents (Elt F)) = Cert.HgrnRefIdeal.Step.b23 j s := by
  unfold Cert.HgrnRefIdeal.Step.b23
  rw [← al_22 h]
  try rfl
set_option maxRecDepth 8192 in
/-- Value 24 of a trip. -/
theorem al_24 (h : Holds V0 s j) : (constant S_ .f32 0x00000000#32 : (Proc.devRef .tc main_while0b_call5_call0_cst : DevRef τ sig).ty.Contents (Elt F)) = Cert.HgrnRefIdeal.Step.b24 j s := by
  unfold Cert.HgrnRefIdeal.Step.b24
  rfl
set_option maxRecDepth 8192 in
/-- Value 25 of a trip. -/
theorem al_25 (h : Holds V0 s j) : (broadcastInDim S_ ![] bcast_S_S_ (constant S_ .f32 0x00000000#32) : (Proc.devRef .tc main_while0b_call5_call0_v0 : DevRef τ sig).ty.Contents (Elt F)) = Cert.HgrnRefIdeal.Step.b25 j s := by
  unfold Cert.HgrnRefIdeal.Step.b25
  rw [← al_24 h]
  try rfl
set_option maxRecDepth 8192 in
/-- Value 26 of a trip. -/
theorem al_26 (h : Holds V0 s j) : (res_main_while0b_v24 V0 : (Proc.devRef .tc main_while0b_v24 : DevRef τ sig).ty.Contents (Elt F)) = Cert.HgrnRefIdeal.Step.b26 j s := by
  unfold res_main_while0b_v24 Cert.HgrnRefIdeal.Step.b26
  rw [← al_23 h, ← al_25 h]
  try rfl
set_option maxRecDepth 8192 in
/-- Value 27 of a trip. -/
theorem al_27 (h : Holds V0 s j) : (broadcastInDim S2x8x64x1x128 ![0, 1, 2, 4] bcast_S2x8x64x128_S2x8x64x1x128_0_1_2_4 (res_main_while0b_v24 V0) : (Proc.devRef .tc main_while0b_v25 : DevRef τ sig).ty.Contents (Elt F)) = Cert.HgrnRefIdeal.Step.b27 j s := by
  unfold Cert.HgrnRefIdeal.Step.b27
  rw [← al_26 h]
  try rfl
set_option maxRecDepth 8192 in
/-- Value 28 of a trip. -/
theorem al_28 (h : Holds V0 s j) : (broadcastInDim S2x8x1x64x128 ![0, 1, 3, 4] bcast_S2x8x64x128_S2x8x1x64x128_0_1_3_4 (res_main_while0b_v24 V0) : (Proc.devRef .tc main_while0b_v26 : DevRef τ sig).ty.Contents (Elt F)) = Cert.HgrnRefIdeal.Step.b28 j s := by
  unfold Cert.HgrnRefIdeal.Step.b28
  rw [← al_26 h]
  try rfl
set_option maxRecDepth 8192 in
/-- Value 29 of a trip. -/
theorem al_29 (h : Holds V0 s j) : (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0)) : (Proc.devRef .tc main_while0b_v27 : DevRef τ sig).ty.Contents (Elt F)) = Cert.HgrnRefIdeal.Step.b29 j s := by
  unfold Cert.HgrnRefIdeal.Step.b29
  rw [← al_27 h]
  try rfl
set_option maxRecDepth 8192 in
/-- Value 30 of a trip. -/
theorem al_30 (h : Holds V0 s j) : (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)) : (Proc.devRef .tc main_while0b_v28 : DevRef τ sig).ty.Contents (Elt F)) = Cert.HgrnRefIdeal.Step.b30 j s := by
  unfold Cert.HgrnRefIdeal.Step.b30
  rw [← al_28 h]
  try rfl
set_option maxRecDepth 8192 in
/-- Value 31 of a trip. -/
theorem al_31 (h : Holds V0 s j) : (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0))) : (Proc.devRef .tc main_while0b_v29 : DevRef τ sig).ty.Contents (Elt F)) = Cert.HgrnRefIdeal.Step.b31 j s := by
  unfold Cert.HgrnRefIdeal.Step.b31
  rw [← al_29 h, ← al_30 h]
  try rfl
set_option maxRecDepth 8192 in
/-- Value 32 of a trip. -/
theorem al_32 (h : Holds V0 s j) : (constant S_ .f32 0xFF800000#32 : (Proc.devRef .tc main_while0b_cst_9 : DevRef τ sig).ty.Contents (Elt F)) = Cert.HgrnRefIdeal.Step.b32 j s := by
  unfold Cert.HgrnRefIdeal.Step.b32
  rfl
set_option maxRecDepth 8192 in
/-- Value 33 of a trip. -/
theorem al_33 (h : Holds V0 s j) : (id (constant S_ .f32 0xFF800000#32) : (Proc.devRef .tc main_while0b_call6_v0 : DevRef τ sig).ty.Contents (Elt F)) = Cert.HgrnRefIdeal.Step.b33 j s := by
  unfold Cert.HgrnRefIdeal.Step.b33
  rw [← al_32 h]
  try rfl
set_option maxRecDepth 8192 in
/-- Value 34 of a trip. -/
theorem al_34 (h : Holds V0 s j) : (broadcastInDim S2x8x64x64x128 ![2, 3, 4] bcast_S64x64x1_S2x8x64x64x128_2_3_4 (V0 (Proc.devRef .tc main_v17_4)) : (Proc.devRef .tc main_while0b_call6_v1 : DevRef τ sig).ty.Contents (Elt F)) = Cert.HgrnRefIdeal.Step.b34 j s := by
  unfold Cert.HgrnRefIdeal.Step.b34
  rw [h.k_4]
  try rfl
set_option maxRecDepth 8192 in
/-- Value 35 of a trip. -/
theorem al_35 (h : Holds V0 s j) : (broadcastInDim S2x8x64x64x128 ![] bcast_S_S2x8x64x64x128 (id (constant S_ .f32 0xFF800000#32)) : (Proc.devRef .tc main_while0b_call6_v2 : DevRef τ sig).ty.Contents (Elt F)) = Cert.HgrnRefIdeal.Step.b35 j s := by
  unfold Cert.HgrnRefIdeal.Step.b35
  rw [← al_33 h]
  try rfl
set_option maxRecDepth 8192 in
/-- Value 36 of a trip. -/
theorem al_36 (h : Holds V0 s j) : (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32))) : (Proc.devRef .tc main_while0b_v30 : DevRef τ sig).ty.Contents (Elt F)) = Cert.HgrnRefIdeal.Step.b36 j s := by
  unfold Cert.HgrnRefIdeal.Step.b36
  rw [← al_34 h, ← al_31 h, ← al_35 h]
  try rfl
set_option maxRecDepth 8192 in
/-- Value 37 of a trip. -/
theorem al_37 (h : Holds V0 s j) : (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))) : (Proc.devRef .tc main_while0b_v31 : DevRef τ sig).ty.Contents (Elt F)) = Cert.HgrnRefIdeal.Step.b37 j s := by
  unfold Cert.HgrnRefIdeal.Step.b37
  rw [← al_36 h]
  try rfl
set_option maxRecDepth 8192 in
/-- Value 38 of a trip. -/
theorem al_38 (h : Holds V0 s j) : (broadcastInDim S2x8x64x1x128 ![0, 1, 2, 4] bcast_S2x8x64x128_S2x8x64x1x128_0_1_2_4 (res_main_while0b_v20 V0) : (Proc.devRef .tc main_while0b_v32 : DevRef τ sig).ty.Contents (Elt F)) = Cert.HgrnRefIdeal.Step.b38 j s := by
  unfold Cert.HgrnRefIdeal.Step.b38
  rw [← al_5 h]
  try rfl
set_option maxRecDepth 8192 in
/-- Value 39 of a trip. -/
theorem al_39 (h : Holds V0 s j) : (broadcastInDim S2x8x1x64x128 ![0, 1, 3, 4] bcast_S2x8x64x128_S2x8x1x64x128_0_1_3_4 (res_main_while0b_v21 V0) : (Proc.devRef .tc main_while0b_v33 : DevRef τ sig).ty.Contents (Elt F)) = Cert.HgrnRefIdeal.Step.b39 j s := by
  unfold Cert.HgrnRefIdeal.Step.b39
  rw [← al_11 h]
  try rfl
set_option maxRecDepth 8192 in
/-- Value 40 of a trip. -/
theorem al_40 (h : Holds V0 s j) : (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0)) : (Proc.devRef .tc main_while0b_v34 : DevRef τ sig).ty.Contents (Elt F)) = Cert.HgrnRefIdeal.Step.b40 j s := by
  unfold Cert.HgrnRefIdeal.Step.b40
  rw [← al_38 h]
  try rfl
set_option maxRecDepth 8192 in
/-- Value 41 of a trip. -/
theorem al_41 (h : Holds V0 s j) : (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)) : (Proc.devRef .tc main_while0b_v35 : DevRef τ sig).ty.Contents (Elt F)) = Cert.HgrnRefIdeal.Step.b41 j s := by
  unfold Cert.HgrnRefIdeal.Step.b41
  rw [← al_39 h]
  try rfl
set_option maxRecDepth 8192 in
/-- Value 42 of a trip. -/
theorem al_42 (h : Holds V0 s j) : (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0))) : (Proc.devRef .tc main_while0b_v36 : DevRef τ sig).ty.Contents (Elt F)) = Cert.HgrnRefIdeal.Step.b42 j s := by
  unfold Cert.HgrnRefIdeal.Step.b42
  rw [← al_40 h, ← al_41 h]
  try rfl
set_option maxRecDepth 8192 in
/-- Value 43 of a trip. -/
theorem al_43 (h : Holds V0 s j) : (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32))))) : (Proc.devRef .tc main_while0b_v37 : DevRef τ sig).ty.Contents (Elt F)) = Cert.HgrnRefIdeal.Step.b43 j s := by
  unfold Cert.HgrnRefIdeal.Step.b43
  rw [← al_42 h, ← al_37 h]
  try rfl
set_option maxRecDepth 8192 in
/-- Value 44 of a trip. -/
theorem al_44 (h : Holds V0 s j) : (constant S_ .f32 0x00000000#32 : (Proc.devRef .tc main_while0b_cst_10 : DevRef τ sig).ty.Contents (Elt F)) = Cert.HgrnRefIdeal.Step.b44 j s := by
  unfold Cert.HgrnRefIdeal.Step.b44
  rfl
set_option maxRecDepth 8192 in
/-- Value 45 of a trip. -/
theorem al_45 (h : Holds V0 s j) : (Host.reduceAdd (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))))) (constant S_ .f32 0x00000000#32) reducesTo_S2x8x64x64x128_S2x8x64x64_d4 h_S_ : (Proc.devRef .tc main_while0b_v38 : DevRef τ sig).ty.Contents (Elt F)) = Cert.HgrnRefIdeal.Step.b45 j s := by
  unfold Cert.HgrnRefIdeal.Step.b45
  rw [← al_43 h, ← al_44 h]
  try rfl
set_option maxRecDepth 8192 in
/-- Value 46 of a trip. -/
theorem al_46 (h : Holds V0 s j) : (Host.dotGeneral dot_S2x8x64x64_S2x8x64x128_S2x8x64x128_3_2_2_3_01_01 none (Host.reduceAdd (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))))) (constant S_ .f32 0x00000000#32) reducesTo_S2x8x64x64x128_S2x8x64x64_d4 h_S_) (res_main_while0b_v22 V0) : (Proc.devRef .tc main_while0b_v39 : DevRef τ sig).ty.Contents (Elt F)) = Cert.HgrnRefIdeal.Step.b46 j s := by
  unfold Cert.HgrnRefIdeal.Step.b46
  rw [← al_45 h, ← al_17 h]
  try rfl
set_option maxRecDepth 8192 in
/-- Value 47 of a trip. -/
theorem al_47 (h : Holds V0 s j) : (Host.exp (res_main_while0b_v24 V0) : (Proc.devRef .tc main_while0b_v40 : DevRef τ sig).ty.Contents (Elt F)) = Cert.HgrnRefIdeal.Step.b47 j s := by
  unfold Cert.HgrnRefIdeal.Step.b47
  rw [← al_26 h]
  try rfl
set_option maxRecDepth 8192 in
/-- Value 48 of a trip. -/
theorem al_48 (h : Holds V0 s j) : (mulf (res_main_while0b_v20 V0) (Host.exp (res_main_while0b_v24 V0)) : (Proc.devRef .tc main_while0b_v41 : DevRef τ sig).ty.Contents (Elt F)) = Cert.HgrnRefIdeal.Step.b48 j s := by
  unfold Cert.HgrnRefIdeal.Step.b48
  rw [← al_5 h, ← al_47 h]
  try rfl
set_option maxRecDepth 8192 in
/-- Value 49 of a trip. -/
theorem al_49 (h : Holds V0 s j) : (Host.dotGeneral dot_S2x8x64x128_S2x8x128x128_S2x8x64x128_3_2_2_3_01_01 none (mulf (res_main_while0b_v20 V0) (Host.exp (res_main_while0b_v24 V0))) (V0 (Proc.devRef .tc main_v17_6)) : (Proc.devRef .tc main_while0b_v42 : DevRef τ sig).ty.Contents (Elt F)) = Cert.HgrnRefIdeal.Step.b49 j s := by
  unfold Cert.HgrnRefIdeal.Step.b49
  rw [← al_48 h, h.f_6]
  try rfl
set_option maxRecDepth 8192 in
/-- Value 50 of a trip. -/
theorem al_50 (h : Holds V0 s j) : (res_main_while0b_v43 V0 : (Proc.devRef .tc main_while0b_v43 : DevRef τ sig).ty.Contents (Elt F)) = Cert.HgrnRefIdeal.Step.b50 j s := by
  unfold res_main_while0b_v43 Cert.HgrnRefIdeal.Step.b50
  rw [← al_26 h]
  try rfl
set_option maxRecDepth 8192 in
/-- Value 51 of a trip. -/
theorem al_51 (h : Holds V0 s j) : (broadcastInDim S2x8x64x128 ![0, 1, 2, 3] bcast_S2x8x1x128_S2x8x64x128_0_1_2_3 (res_main_while0b_v43 V0) : (Proc.devRef .tc main_while0b_v44 : DevRef τ sig).ty.Contents (Elt F)) = Cert.HgrnRefIdeal.Step.b51 j s := by
  unfold Cert.HgrnRefIdeal.Step.b51
  rw [← al_50 h]
  try rfl
set_option maxRecDepth 8192 in
/-- Value 52 of a trip. -/
theorem al_52 (h : Holds V0 s j) : (subf (broadcastInDim S2x8x64x128 ![0, 1, 2, 3] bcast_S2x8x1x128_S2x8x64x128_0_1_2_3 (res_main_while0b_v43 V0)) (res_main_while0b_v24 V0) : (Proc.devRef .tc main_while0b_v45 : DevRef τ sig).ty.Contents (Elt F)) = Cert.HgrnRefIdeal.Step.b52 j s := by
  unfold Cert.HgrnRefIdeal.Step.b52
  rw [← al_51 h, ← al_26 h]
  try rfl
set_option maxRecDepth 8192 in
/-- Value 53 of a trip. -/
theorem al_53 (h : Holds V0 s j) : (Host.exp (subf (broadcastInDim S2x8x64x128 ![0, 1, 2, 3] bcast_S2x8x1x128_S2x8x64x128_0_1_2_3 (res_main_while0b_v43 V0)) (res_main_while0b_v24 V0)) : (Proc.devRef .tc main_while0b_v46 : DevRef τ sig).ty.Contents (Elt F)) = Cert.HgrnRefIdeal.Step.b53 j s := by
  unfold Cert.HgrnRefIdeal.Step.b53
  rw [← al_52 h]
  try rfl
set_option maxRecDepth 8192 in
/-- Value 54 of a trip. -/
theorem al_54 (h : Holds V0 s j) : (mulf (res_main_while0b_v21 V0) (Host.exp (subf (broadcastInDim S2x8x64x128 ![0, 1, 2, 3] bcast_S2x8x1x128_S2x8x64x128_0_1_2_3 (res_main_while0b_v43 V0)) (res_main_while0b_v24 V0))) : (Proc.devRef .tc main_while0b_v47 : DevRef τ sig).ty.Contents (Elt F)) = Cert.HgrnRefIdeal.Step.b54 j s := by
  unfold Cert.HgrnRefIdeal.Step.b54
  rw [← al_11 h, ← al_53 h]
  try rfl
set_option maxRecDepth 8192 in
/-- Value 55 of a trip. -/
theorem al_55 (h : Holds V0 s j) : (shapeCast S2x8x128 (res_main_while0b_v43 V0) shapeCasts_S2x8x1x128_S2x8x128 : (Proc.devRef .tc main_while0b_v48 : DevRef τ sig).ty.Contents (Elt F)) = Cert.HgrnRefIdeal.Step.b55 j s := by
  unfold Cert.HgrnRefIdeal.Step.b55
  rw [← al_50 h]
  try rfl
set_option maxRecDepth 8192 in
/-- Value 56 of a trip. -/
theorem al_56 (h : Holds V0 s j) : (Host.exp (shapeCast S2x8x128 (res_main_while0b_v43 V0) shapeCasts_S2x8x1x128_S2x8x128) : (Proc.devRef .tc main_while0b_v49 : DevRef τ sig).ty.Contents (Elt F)) = Cert.HgrnRefIdeal.Step.b56 j s := by
  unfold Cert.HgrnRefIdeal.Step.b56
  rw [← al_55 h]
  try rfl
set_option maxRecDepth 8192 in
/-- Value 57 of a trip. -/
theorem al_57 (h : Holds V0 s j) : (broadcastInDim S2x8x128x1 ![0, 1, 2] bcast_S2x8x128_S2x8x128x1_0_1_2 (Host.exp (shapeCast S2x8x128 (res_main_while0b_v43 V0) shapeCasts_S2x8x1x128_S2x8x128)) : (Proc.devRef .tc main_while0b_v50 : DevRef τ sig).ty.Contents (Elt F)) = Cert.HgrnRefIdeal.Step.b57 j s := by
  unfold Cert.HgrnRefIdeal.Step.b57
  rw [← al_56 h]
  try rfl
set_option maxRecDepth 8192 in
/-- Value 58 of a trip. -/
theorem al_58 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (Host.exp (shapeCast S2x8x128 (res_main_while0b_v43 V0) shapeCasts_S2x8x1x128_S2x8x128))) : (Proc.devRef .tc main_while0b_v51 : DevRef τ sig).ty.Contents (Elt F)) = Cert.HgrnRefIdeal.Step.b58 j s := by
  unfold Cert.HgrnRefIdeal.Step.b58
  rw [← al_57 h]
  try rfl
set_option maxRecDepth 8192 in
/-- Value 59 of a trip. -/
theorem al_59 (h : Holds V0 s j) : (mulf (broadcastInDim S2x8x128x128 ![0, 1, 2, 3] bcast_S2x8x128x1_S2x8x128x128_0_1_2_3 (broadcastInDim S2x8x128x1 ![0, 1, 2] bcast_S2x8x128_S2x8x128x1_0_1_2 (Host.exp (shapeCast S2x8x128 (res_main_while0b_v43 V0) shapeCasts_S2x8x1x128_S2x8x128)))) (V0 (Proc.devRef .tc main_v17_6)) : (Proc.devRef .tc main_while0b_v52 : DevRef τ sig).ty.Contents (Elt F)) = Cert.HgrnRefIdeal.Step.b59 j s := by
  unfold Cert.HgrnRefIdeal.Step.b59
  rw [← al_58 h, h.f_6]
  try rfl
set_option maxRecDepth 8192 in
/-- Value 60 of a trip. -/
theorem al_60 (h : Holds V0 s j) : (Host.dotGeneral dot_S2x8x64x128_S2x8x64x128_S2x8x128x128_2_2_3_3_01_01 none (mulf (res_main_while0b_v21 V0) (Host.exp (subf (broadcastInDim S2x8x64x128 ![0, 1, 2, 3] bcast_S2x8x1x128_S2x8x64x128_0_1_2_3 (res_main_while0b_v43 V0)) (res_main_while0b_v24 V0)))) (res_main_while0b_v22 V0) : (Proc.devRef .tc main_while0b_v53 : DevRef τ sig).ty.Contents (Elt F)) = Cert.HgrnRefIdeal.Step.b60 j s := by
  unfold Cert.HgrnRefIdeal.Step.b60
  rw [← al_54 h, ← al_17 h]
  try rfl
set_option maxRecDepth 8192 in
/-- Value 61 of a trip. -/
theorem al_61 (h : Holds V0 s j) : (addf (mulf (broadcastInDim S2x8x128x128 ![0, 1, 2, 3] bcast_S2x8x128x1_S2x8x128x128_0_1_2_3 (broadcastInDim S2x8x128x1 ![0, 1, 2] bcast_S2x8x128_S2x8x128x1_0_1_2 (Host.exp (shapeCast S2x8x128 (res_main_while0b_v43 V0) shapeCasts_S2x8x1x128_S2x8x128)))) (V0 (Proc.devRef .tc main_v17_6))) (Host.dotGeneral dot_S2x8x64x128_S2x8x64x128_S2x8x128x128_2_2_3_3_01_01 none (mulf (res_main_while0b_v21 V0) (Host.exp (subf (broadcastInDim S2x8x64x128 ![0, 1, 2, 3] bcast_S2x8x1x128_S2x8x64x128_0_1_2_3 (res_main_while0b_v43 V0)) (res_main_while0b_v24 V0)))) (res_main_while0b_v22 V0)) : (Proc.devRef .tc main_while0b_v54 : DevRef τ sig).ty.Contents (Elt F)) = Cert.HgrnRefIdeal.Step.b61 j s := by
  unfold Cert.HgrnRefIdeal.Step.b61
  rw [← al_59 h, ← al_60 h]
  try rfl
set_option maxRecDepth 8192 in
/-- Value 62 of a trip. -/
theorem al_62 (h : Holds V0 s j) : (addf (Host.dotGeneral dot_S2x8x64x64_S2x8x64x128_S2x8x64x128_3_2_2_3_01_01 none (Host.reduceAdd (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))))) (constant S_ .f32 0x00000000#32) reducesTo_S2x8x64x64x128_S2x8x64x64_d4 h_S_) (res_main_while0b_v22 V0)) (Host.dotGeneral dot_S2x8x64x128_S2x8x128x128_S2x8x64x128_3_2_2_3_01_01 none (mulf (res_main_while0b_v20 V0) (Host.exp (res_main_while0b_v24 V0))) (V0 (Proc.devRef .tc main_v17_6))) : (Proc.devRef .tc main_while0b_v55 : DevRef τ sig).ty.Contents (Elt F)) = Cert.HgrnRefIdeal.Step.b62 j s := by
  unfold Cert.HgrnRefIdeal.Step.b62
  rw [← al_46 h, ← al_49 h]
  try rfl
set_option maxRecDepth 8192 in
/-- Value 63 of a trip. -/
theorem al_63 (h : Holds V0 s j) : (broadcastInDim S1x2x8x64x128 ![1, 2, 3, 4] bcast_S2x8x64x128_S1x2x8x64x128_1_2_3_4 (addf (Host.dotGeneral dot_S2x8x64x64_S2x8x64x128_S2x8x64x128_3_2_2_3_01_01 none (Host.reduceAdd (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))))) (constant S_ .f32 0x00000000#32) reducesTo_S2x8x64x64x128_S2x8x64x64_d4 h_S_) (res_main_while0b_v22 V0)) (Host.dotGeneral dot_S2x8x64x128_S2x8x128x128_S2x8x64x128_3_2_2_3_01_01 none (mulf (res_main_while0b_v20 V0) (Host.exp (res_main_while0b_v24 V0))) (V0 (Proc.devRef .tc main_v17_6)))) : (Proc.devRef .tc main_while0b_call7_v0 : DevRef τ sig).ty.Contents (Elt F)) = Cert.HgrnRefIdeal.Step.b63 j s := by
  unfold Cert.HgrnRefIdeal.Step.b63
  rw [← al_62 h]
  try rfl
set_option maxRecDepth 8192 in
/-- Value 64 of a trip. -/
theorem al_64 (h : Holds V0 s j) : (constantI S_ 32 0#32 : (Proc.devRef .tc main_while0b_call7_c : DevRef τ sig).ty.Contents (Elt F)) = Cert.HgrnRefIdeal.Step.b64 j s := by
  unfold Cert.HgrnRefIdeal.Step.b64
  rfl
set_option maxRecDepth 8192 in
/-- Value 65 of a trip. -/
theorem al_65 (h : Holds V0 s j) : (constantI S_ 32 0#32 : (Proc.devRef .tc main_while0b_call7_c_0 : DevRef τ sig).ty.Contents (Elt F)) = Cert.HgrnRefIdeal.Step.b65 j s := by
  unfold Cert.HgrnRefIdeal.Step.b65
  rfl
set_option maxRecDepth 8192 in
/-- Value 66 of a trip. -/
theorem al_66 (h : Holds V0 s j) : (constantI S_ 32 0#32 : (Proc.devRef .tc main_while0b_call7_c_1 : DevRef τ sig).ty.Contents (Elt F)) = Cert.HgrnRefIdeal.Step.b66 j s := by
  unfold Cert.HgrnRefIdeal.Step.b66
  rfl
set_option maxRecDepth 8192 in
/-- Value 67 of a trip. -/
theorem al_67 (h : Holds V0 s j) : (constantI S_ 32 0#32 : (Proc.devRef .tc main_while0b_call7_c_2 : DevRef τ sig).ty.Contents (Elt F)) = Cert.HgrnRefIdeal.Step.b67 j s := by
  unfold Cert.HgrnRefIdeal.Step.b67
  rfl
set_option maxRecDepth 8192 in
/-- Value 68 of a trip. -/
theorem al_68 (h : Holds V0 s j) : (Host.dynamicUpdateSlice (V0 (Proc.devRef .tc main_v17_7)) (broadcastInDim S1x2x8x64x128 ![1, 2, 3, 4] bcast_S2x8x64x128_S1x2x8x64x128_1_2_3_4 (addf (Host.dotGeneral dot_S2x8x64x64_S2x8x64x128_S2x8x64x128_3_2_2_3_01_01 none (Host.reduceAdd (mulf (mulf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v20 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v21 V0)))) (Host.exp (select (broadcastInDim S2x8x64x64x128 ![2, 3, 4] bcast_S64x64x1_S2x8x64x64x128_2_3_4 (V0 (Proc.devRef .tc main_v17_4))) (subf (broadcastInDim S2x8x64x64x128 ![0, 1, 2, 3, 4] bcast_S2x8x64x1x128_S2x8x64x64x128_0_1_2_3_4 (broadcastInDim S2x8x64x1x128 ![0, 1, 2, 4] bcast_S2x8x64x128_S2x8x64x1x128_0_1_2_4 (res_main_while0b_v24 V0))) (broadcastInDim S2x8x64x64x128 ![0, 1, 2, 3, 4] bcast_S2x8x1x64x128_S2x8x64x64x128_0_1_2_3_4 (broadcastInDim S2x8x1x64x128 ![0, 1, 3, 4] bcast_S2x8x64x128_S2x8x1x64x128_0_1_3_4 (res_main_while0b_v24 V0)))) (broadcastInDim S2x8x64x64x128 ![] bcast_S_S2x8x64x64x128 (id (constant S_ .f32 0xFF800000#32)))))) (constant S_ .f32 0x00000000#32) reducesTo_S2x8x64x64x128_S2x8x64x64_d4 h_S_) (res_main_while0b_v22 V0)) (Host.dotGeneral dot_S2x8x64x128_S2x8x128x128_S2x8x64x128_3_2_2_3_01_01 none (mulf (res_main_while0b_v20 V0) (Host.exp (res_main_while0b_v24 V0))) (V0 (Proc.devRef .tc main_v17_6))))) (fun k => (((![V0 (Proc.devRef .tc main_v17_5), constantI S_ 32 0#32, constantI S_ 32 0#32, constantI S_ 32 0#32, constantI S_ 32 0#32] : Fin 5 → (⟨S_, .i32⟩ : BufTy).Contents (Elt F))) k (Shape.Idx.first h_S_)).toInt) updateFits_S128x2x8x64x128_S1x2x8x64x128 : (Proc.devRef .tc main_while0b_v56 : DevRef τ sig).ty.Contents (Elt F)) = Cert.HgrnRefIdeal.Step.b68 j s := by
  unfold Cert.HgrnRefIdeal.Step.b68
  rw [← al_63 h, ← al_64 h, ← al_65 h, ← al_66 h, ← al_67 h, h.f_7, h.n_5]
  try rfl

/-! One trip's step of the carried values is `step`, field by field; a counter steps to the next number. -/

/-- The state after the trip. -/
theorem step_6 (h : Holds V0 s j) : step_main_v17_6 V0 = (step j s).main_v17_6 := by
  unfold step_main_v17_6 Cert.HgrnRefIdeal.Step.step
  show id (addf (mulf (broadcastInDim S2x8x128x128 ![0, 1, 2, 3] bcast_S2x8x128x1_S2x8x128x128_0_1_2_3 (broadcastInDim S2x8x128x1 ![0, 1, 2] bcast_S2x8x128_S2x8x128x1_0_1_2 (Host.exp (shapeCast S2x8x128 (res_main_while0b_v43 V0) shapeCasts_S2x8x1x128_S2x8x128)))) (V0 (Proc.devRef .tc main_v17_6))) (Host.dotGeneral dot_S2x8x64x128_S2x8x64x128_S2x8x128x128_2_2_3_3_01_01 none (mulf (res_main_while0b_v21 V0) (Host.exp (subf (broadcastInDim S2x8x64x128 ![0, 1, 2, 3] bcast_S2x8x1x128_S2x8x64x128_0_1_2_3 (res_main_while0b_v43 V0)) (res_main_while0b_v24 V0)))) (res_main_while0b_v22 V0))) = _
  rw [al_61 h]
  try rfl
/-- The outputs after the trip. -/
theorem step_7 (h : Holds V0 s j) : step_main_v17_7 V0 = (step j s).main_v17_7 := al_68 h
/-- The number after the trip. -/
theorem step_5 (h : Holds V0 s j) : step_main_v17_5 V0 = constantI S_ 32 (BitVec.ofNat 32 (j + 1)) := by
  unfold step_main_v17_5
  rw [h.n_5]
  funext i
  show BitVec.ofNat 32 j + 1#32 = BitVec.ofNat 32 (j + 1)
  simp only [BitVec.ofNat_add]

set_option maxRecDepth 8192 in
/-- The result, of what the last trip leaves. -/
theorem out_main_v19_holds (h : Holds V0 s j) : out_main_v19 V0 = Cert.HgrnRefIdeal.Step.R_main_v19 s := by
  unfold out_main_v19 Cert.HgrnRefIdeal.Step.R_main_v19
  rw [h.f_7]
  try rfl

/-- One trip keeps the valuation holding: `step` of the state, the same set-up values, the next number. -/
theorem holds_step (h : Holds V0 s j) : Holds (STEP V0) (step j s) (j + 1) where
  f_6 := (STEP_main_v17_6 V0).trans (step_6 h)
  f_7 := (STEP_main_v17_7 V0).trans (step_7 h)
  n_5 := (STEP_main_v17_5 V0).trans (step_5 h)
  k_4 := (STEP_main_v17_4 V0).trans h.k_4
  f_0 := (STEP_main_v17_0 V0).trans h.f_0
  f_1 := (STEP_main_v17_1 V0).trans h.f_1
  f_2 := (STEP_main_v17_2 V0).trans h.f_2
  f_3 := (STEP_main_v17_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The run: it ends with the result made of state number 128 of any sequence of states that starts at `initState` and goes on by `step`,
    and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v19) = Cert.HgrnRefIdeal.Step.R_main_v19 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v19_holds hk), (h c).2.1, (h c).2.2.1, (h c).2.2.2.1, (h c).2.2.2.2⟩) (Value.run m ρ)

end Cert.HgrnRefIdeal.Loop

end
-- ==== Proof.HgrnClaim.lean ====
/- The claims of the recurrence. -/
module

public import proofs.«01_k».proof.Proof.HgrnSame
public import proofs.«01_k».proof.Proof.Lemmas
public import proofs.«01_k».proof.Proof.Gen.HgrnIdeal.Value
public import proofs.«01_k».proof.Proof.HgrnLoop
public import proofs.«01_k».proof.Proof.Gen.Hgrn.Frame
public import proofs.«01_k».proof.Proof.Gen.Pre_hgrn_finite
public import proofs.«01_k».proof.Defs
public import Idealize.ShloMosaic.Lib.Quiescent

@[expose] public section

set_option maxRecDepth 16384

noncomputable section

open Idealize.ShloMosaic Idealize.ShloMosaic.TcCoe Idealize.SL.Sem

namespace Cert.HgrnProof

open Cert.HgrnIdeal.Unit (col)
open Cert.Lemmas (real_of_test)

/-- A row of the result is a step of a sequence, a column one of a head's. -/
theorem ext_steps {f g : (⟨2, ![16384, 1024]⟩ : Shape).Idx → EReal}
    (h : ∀ (b : Fin 2) (t : Fin 8192) (h : Fin 8) (d : Fin 128), f (ix2 ⟨b.val * 8192 + t.val, by omega⟩ (col h d)) = g (ix2 ⟨b.val * 8192 + t.val, by omega⟩ (col h d))) : f = g := by
  funext y
  have h0 : (y 0).val < 16384 := (y 0).isLt
  have h1 : (y 1).val < 1024 := (y 1).isLt
  have hy : y = ix2 ⟨(⟨(y 0).val / 8192, by omega⟩ : Fin 2).val * 8192 + (⟨(y 0).val % 8192, by omega⟩ : Fin 8192).val, by dsimp only; omega⟩
      (col ⟨(y 1).val / 128, by omega⟩ ⟨(y 1).val % 128, by omega⟩) := by
    funext a; apply Fin.ext
    match a with
    | ⟨0, _⟩ => show (y 0).val = (y 0).val / 8192 * 8192 + (y 0).val % 8192; omega
    | ⟨1, _⟩ => show (y 1).val = 128 * ((y 1).val / 128) + (y 1).val % 128; omega
  rw [hy]
  exact h _ _ _ _

/-- The program's frame. -/
theorem frame : Cert.quiescent_Hgrn := fun m ρ _ => Cert.Hgrn.Gen.frame m ρ
/-- The ideal program's frame. -/
theorem frame_ideal : Cert.quiescent_HgrnIdeal := fun m ρ _ => Cert.HgrnIdeal.Gen.frame m ρ
/-- The ideal program's frame, of finite log-decays. -/
theorem frame_ideal_pre : Cert.quiescent_HgrnIdeal_pre_hgrn_finite := fun m ρ _ => Cert.HgrnIdeal.Gen.frame m ρ
/-- The states of the reference's loop. -/
def states (m : (ℓ : Loc Cert.HgrnRefIdeal.nD Cert.HgrnRefIdeal.τ Cert.HgrnRefIdeal.sig) → Buf (Elt Ideal) ℓ) (c : Dev Cert.HgrnRefIdeal.nD) :
    ℕ → Cert.HgrnRefIdeal.Step.State Ideal
  | 0 => Cert.HgrnRefIdeal.Loop.initState m c
  | n + 1 => Cert.HgrnRefIdeal.Step.step n (states m c n)

/-- The reference's frame. -/
theorem frame_ref : Cert.quiescent_HgrnRefIdeal := fun m ρ _ =>
  (θ_run Cert.HgrnRefIdeal.defs _ _).mono (fun r h => ⟨fun c => (h c).2, sem_eq_zero_of_no_sems (by decide) r.2⟩)
    (Cert.HgrnRefIdeal.Loop.run_iter m ρ (states m) (fun _ => rfl) fun _ _ => rfl)
/-- The reference's frame, of finite log-decays. -/
theorem frame_ref_pre : Cert.quiescent_HgrnRefIdeal_pre_hgrn_finite := fun m ρ _ => frame_ref m ρ trivial
/-- The ideal program is the program's text. -/
theorem preserves : Cert.preserves_Hgrn_HgrnIdeal := trivial

/-- The ideal program computes the reference's result, of finite log-decays. -/
theorem algebraic : Cert.algebraic_HgrnIdeal_HgrnRefIdeal_pre_hgrn_finite := by
  intro m g m' g' hpre hagree
  refine ⟨Cert.HgrnIdeal.Value.G6 m, Cert.HgrnIdeal.Value.run (F := Ideal) m g, ?_⟩
  refine (θ_run Cert.HgrnRefIdeal.defs _ _).mono (fun r h c => ?_) (Cert.HgrnRefIdeal.Loop.run_iter m' g' (states m') (fun _ => rfl) fun _ _ => rfl)
  obtain ⟨h0, hargs⟩ := h c
  obtain ⟨a0, a1, a2, a3⟩ := hagree c
  have p3 := hpre c
  refine ⟨?_, hargs⟩
  choose Xl hl using fun (n : Fin 16384) (k : Fin 1024) => real_of_test p3 (ix2 n k)
  rw [h0]
  refine ext_steps fun b t h d => ?_
  exact (Cert.HgrnRefIdeal.Arrays.result (fun _ _ => rfl) (fun _ _ => rfl) (fun _ _ => rfl) hl (states m' c) (by rw [states, Cert.HgrnRefIdeal.Loop.initState, a0, a1, a2, a3]) (fun _ => rfl) b t h d).trans (Cert.HgrnIdeal.Arrays.result ⟨fun _ _ => rfl, fun _ _ => rfl, fun _ _ => rfl, hl⟩ b t h d).symm

end Cert.HgrnProof
end
-- ==== Proof.ProjBlock.lean ====
/- The input projection, at an index: what the call's body computes of a row of its block, and the reference of a row,
   both as one function of the row, the norm's gain, the projection's weights and the gate's lower-bound logits. -/
module

public import proofs.«01_k».proof.Proof.Model
public import proofs.«01_k».proof.Proof.Gen.ProjIdeal.Value
public import proofs.«01_k».proof.Proof.Gen.ProjRefIdeal.Read

@[expose] public section

set_option maxRecDepth 16384

noncomputable section

open Idealize.ShloMosaic

namespace Cert.Model

/-- The lower bound of the forget gate at a feature: the first entry of the softmax of the two logits. -/
def bound (a : Fin 2 → EReal) : EReal :=
  Ideal.div (Ideal.exp (a 0 - Finset.univ.fold max (Ideal.ofBits .f32 0xFF800000#32) a))
    (∑ s : Fin 2, Ideal.exp (a s - Finset.univ.fold max (Ideal.ofBits .f32 0xFF800000#32) a))

theorem bottom_eq : Ideal.ofBits .f32 0xFF800000#32 = ⊥ := by
  simp [Ideal.ofBits, Ideal.ieee]

section
variable (x g : Fin 1024 → EReal) (w : Fin 1024 → Fin 6656 → EReal) (a : Fin 2 → Fin 1024 → EReal)

/-- The forget gate at a feature. -/
def forget (j : Fin 1024) : EReal :=
  bound (fun s => a s j) + (1 - bound (fun s => a s j)) * sigL (lin (rms x g) w ⟨1024 + j.val, by omega⟩)
/-- The queries. -/
def out4 (j : Fin 1024) : EReal := siluL (lin (rms x g) w ⟨j.val, by omega⟩)
/-- The keys: one less the forget gate. -/
def out5 (j : Fin 1024) : EReal := 1 - forget x g w a j
/-- The values. -/
def out6 (j : Fin 1024) : EReal := lin (rms x g) w ⟨2048 + j.val, by omega⟩
/-- The log of the forget gate. -/
def out7 (j : Fin 1024) : EReal := Ideal.log (forget x g w a j)
/-- The output gate. -/
def out8 (j : Fin 1024) : EReal := siluL (lin (rms x g) w ⟨3072 + j.val, by omega⟩)
/-- The pooling branch's input. -/
def out9 (j : Fin 512) : EReal := lin (rms x g) w ⟨4096 + j.val, by omega⟩
/-- The first branch's gate. -/
def out10 (j : Fin 1024) : EReal := sigL (lin (rms x g) w ⟨4608 + j.val, by omega⟩)
/-- The second branch's gate. -/
def out11 (j : Fin 1024) : EReal := sigL (lin (rms x g) w ⟨5632 + j.val, by omega⟩)

end

end Cert.Model

namespace Cert.ProjIdeal.Block
open Cert.ProjIdeal Cert.ProjIdeal.Gen Cert.Model

theorem lower (h : Vec Ideal S2x1024 .f32) (j : Fin 1024) :
    k0_pay4 (F := Ideal) h (ix2 0 j) = bound (fun s => h (ix2 s j)) := by
  pointwise [k0_pay4, bound]

theorem upper (h : Vec Ideal S2x1024 .f32) (j : Fin 1024) :
    k0_pay5 (F := Ideal) h (ix2 0 j) = 1 - bound (fun s => h (ix2 s j)) := by
  rw [← lower]
  unfold k0_pay5
  generalize k0_pay4 (F := Ideal) h = y
  pointwise

theorem norm (x : Vec Ideal S256x1024 .f32) (g : Vec Ideal S1x1024 .f32) (r : Fin 256) (k : Fin 1024) :
    k0_pay2 (F := Ideal) x g (ix2 r k) = rms (fun k => x (ix2 r k)) (fun k => g (ix2 0 k)) k := by
  pointwise [k0_pay2, rms]

theorem pay3 (x : Vec Ideal S256x1024 .f32) (g : Vec Ideal S1x1024 .f32) (w : Vec Ideal S1024x1024 .bf16) (r : Fin 256) (j : Fin 1024) :
    k0_pay3 (F := Ideal) x g w (ix2 r j) = siluL (lin (rms (fun k => x (ix2 r k)) (fun k => g (ix2 0 k))) (fun k j => w (ix2 k j)) j) := by
  pointwise [k0_pay3, k0_pay2, siluL, Ideal.logistic, lin, rms]

theorem pay6 (x : Vec Ideal S256x1024 .f32) (g : Vec Ideal S1x1024 .f32) (w : Vec Ideal S1024x1024 .bf16) (r : Fin 256) (j : Fin 1024) :
    k0_pay6 (F := Ideal) x g w (ix2 r j) = sigL (lin (rms (fun k => x (ix2 r k)) (fun k => g (ix2 0 k))) (fun k j => w (ix2 k j)) j) := by
  pointwise [k0_pay6, k0_pay2, sigL, Ideal.logistic, lin, rms]

theorem pay7 (a b : FVec Ideal S1x1024 .f32) (s : FVec Ideal S256x1024 .f32) (r : Fin 256) (j : Fin 1024) :
    k0_pay7 (F := Ideal) a b s (ix2 r j) = a (ix2 0 j) + b (ix2 0 j) * s (ix2 r j) := by
  pointwise [k0_pay7]

theorem pay8 (a b : FVec Ideal S1x1024 .f32) (s : FVec Ideal S256x1024 .f32) (r : Fin 256) (j : Fin 1024) :
    k0_pay8 (F := Ideal) a b s (ix2 r j) = Ideal.log (a (ix2 0 j) + b (ix2 0 j) * s (ix2 r j)) := by
  pointwise [k0_pay8, k0_pay7]

theorem pay9 (a b : FVec Ideal S1x1024 .f32) (s : FVec Ideal S256x1024 .f32) (r : Fin 256) (j : Fin 1024) :
    k0_pay9 (F := Ideal) a b s (ix2 r j) = 1 - (a (ix2 0 j) + b (ix2 0 j) * s (ix2 r j)) := by
  pointwise [k0_pay9, k0_pay7]

theorem pay10 (n : FVec Ideal S256x1024 .bf16) (w : Vec Ideal S1024x1024 .bf16) (r : Fin 256) (j : Fin 1024) :
    k0_pay10 (F := Ideal) n w (ix2 r j) = lin (fun k => n (ix2 r k)) (fun k j => w (ix2 k j)) j := by
  pointwise [k0_pay10, lin]

theorem pay11 (n : FVec Ideal S256x1024 .bf16) (w : Vec Ideal S1024x1024 .bf16) (r : Fin 256) (j : Fin 1024) :
    k0_pay11 (F := Ideal) n w (ix2 r j) = siluL (lin (fun k => n (ix2 r k)) (fun k j => w (ix2 k j)) j) := by
  pointwise [k0_pay11, siluL, Ideal.logistic, lin]

theorem pay12 (n : FVec Ideal S256x1024 .bf16) (w : Vec Ideal S1024x512 .bf16) (r : Fin 256) (j : Fin 512) :
    k0_pay12 (F := Ideal) n w (ix2 r j) = lin (fun k => n (ix2 r k)) (fun k j => w (ix2 k j)) j := by
  pointwise [k0_pay12, lin]

theorem pay13 (n : FVec Ideal S256x1024 .bf16) (w : Vec Ideal S1024x1024 .bf16) (r : Fin 256) (j : Fin 1024) :
    k0_pay13 (F := Ideal) n w (ix2 r j) = sigL (lin (fun k => n (ix2 r k)) (fun k j => w (ix2 k j)) j) := by
  pointwise [k0_pay13, sigL, Ideal.logistic, lin]

theorem pay1 (n : FVec Ideal S256x1024 .bf16) (w : Vec Ideal S1024x1024 .bf16) (r : Fin 256) (j : Fin 1024) :
    k0_pay1 (F := Ideal) n w (ix2 r j) = sigL (lin (fun k => n (ix2 r k)) (fun k j => w (ix2 k j)) j) := by
  pointwise [k0_pay1, sigL, Ideal.logistic, lin]

/-! ## What the body leaves in each result's block -/

theorem hz : (![0, 0] : Fin 2 → Nat) = fun _ => 0 := funext fun a => by fin_cases a <;> rfl

/-- An index of a matrix is its two coordinates. -/
theorem ix2_self {a b : ℕ} (y : (⟨2, ![a, b]⟩ : Shape).Idx) : y = ix2 (y 0) (y 1) :=
  funext fun i => by fin_cases i <;> rfl

/-- A column block of the weights, at an index. -/
theorem cols {n : ℕ} (x2 : Vec Ideal S1024x6656 .bf16) (o : ℕ) (inb : ∀ a, (![0, o] : Fin 2 → ℕ) a + (![1024, n] : Fin 2 → ℕ) a ≤ S1024x6656.size a)
    (k : Fin 1024) (j : Fin n) (h : o + j.val < 6656) :
    View.ld x2 (Rect.unit (s := S1024x6656) ![0, o] ![1024, n] inb) (ix2 k j) = x2 (ix2 k ⟨o + j.val, h⟩) := by
  refine congrArg x2 (funext fun a => Fin.ext ?_)
  match a with
  | ⟨0, _⟩ => show 0 + 1 * k.val = k.val; omega
  | ⟨1, _⟩ => show o + 1 * j.val = o + j.val; omega

section
variable (x0 : Vec Ideal S256x1024 .f32) (x1 : Vec Ideal S1x1024 .f32) (x2 : Vec Ideal S1024x6656 .bf16) (x3 : Vec Ideal S2x1024 .f32)

/-- Result 0. -/
theorem out4_at (r : Fin 256) (j : Fin 1024) :
    out0_4 (F := Ideal) x0 x1 x2 x3 (ix2 r j) = out4 (fun k => x0 (ix2 r k)) (fun k => x1 (ix2 0 k)) (fun k j => x2 (ix2 k j)) j := by
  unfold_out out0_4
  rw [View.canon_unit_zero hz]
  simp only [View.ld_unit_zero (S := S256x1024) hz, View.ld_unit_zero (S := S1x1024) hz, View.ld_unit_zero (S := S2x1024) hz]
  refine (pay3 _ _ _ r j).trans (congrArg siluL (Finset.sum_congr rfl fun k _ => congrArg _ ((cols x2 0 _ k j (by omega)).trans ?_)))
  exact congrArg (fun q => x2 (ix2 k q)) (Fin.ext (Nat.zero_add _))

/-- Result 1. -/
theorem out5_at (r : Fin 256) (j : Fin 1024) :
    out0_5 (F := Ideal) x0 x1 x2 x3 (ix2 r j) = out5 (fun k => x0 (ix2 r k)) (fun k => x1 (ix2 0 k)) (fun k j => x2 (ix2 k j)) (fun s j => x3 (ix2 s j)) j := by
  unfold_out out0_5
  rw [View.canon_unit_zero hz]
  simp only [View.ld_unit_zero (S := S256x1024) hz, View.ld_unit_zero (S := S1x1024) hz, View.ld_unit_zero (S := S2x1024) hz]
  refine (pay9 _ _ _ r j).trans ?_
  rw [lower, upper, pay6]
  unfold out5 forget
  rw [show lin (rms (fun k => x0 (ix2 r k)) (fun k => x1 (ix2 0 k))) (fun k j => View.ld x2 r0_4 (ix2 k j)) j
      = lin (rms (fun k => x0 (ix2 r k)) (fun k => x1 (ix2 0 k))) (fun k j => x2 (ix2 k j)) ⟨1024 + j.val, by omega⟩ from
    Finset.sum_congr rfl fun k _ => congrArg _ (cols x2 1024 _ k j _)]

/-- Result 2. -/
theorem out6_at (r : Fin 256) (j : Fin 1024) :
    out0_6 (F := Ideal) x0 x1 x2 x3 (ix2 r j) = out6 (fun k => x0 (ix2 r k)) (fun k => x1 (ix2 0 k)) (fun k j => x2 (ix2 k j)) j := by
  unfold_out out0_6
  rw [View.canon_unit_zero hz]
  simp only [View.ld_unit_zero (S := S256x1024) hz, View.ld_unit_zero (S := S1x1024) hz, View.ld_unit_zero (S := S2x1024) hz]
  refine (pay10 _ _ r j).trans ((Finset.sum_congr rfl fun k _ => congrArg₂ _ (norm x0 x1 r k) (cols x2 2048 _ k j _)))

/-- Result 3. -/
theorem out7_at (r : Fin 256) (j : Fin 1024) :
    out0_7 (F := Ideal) x0 x1 x2 x3 (ix2 r j) = out7 (fun k => x0 (ix2 r k)) (fun k => x1 (ix2 0 k)) (fun k j => x2 (ix2 k j)) (fun s j => x3 (ix2 s j)) j := by
  unfold_out out0_7
  rw [View.canon_unit_zero hz]
  simp only [View.ld_unit_zero (S := S256x1024) hz, View.ld_unit_zero (S := S1x1024) hz, View.ld_unit_zero (S := S2x1024) hz]
  refine (pay8 _ _ _ r j).trans ?_
  rw [lower, upper, pay6]
  unfold out7 forget
  rw [show lin (rms (fun k => x0 (ix2 r k)) (fun k => x1 (ix2 0 k))) (fun k j => View.ld x2 r0_4 (ix2 k j)) j
      = lin (rms (fun k => x0 (ix2 r k)) (fun k => x1 (ix2 0 k))) (fun k j => x2 (ix2 k j)) ⟨1024 + j.val, by omega⟩ from
    Finset.sum_congr rfl fun k _ => congrArg _ (cols x2 1024 _ k j _)]

/-- Result 4. -/
theorem out8_at (r : Fin 256) (j : Fin 1024) :
    out0_8 (F := Ideal) x0 x1 x2 x3 (ix2 r j) = out8 (fun k => x0 (ix2 r k)) (fun k => x1 (ix2 0 k)) (fun k j => x2 (ix2 k j)) j := by
  unfold_out out0_8
  rw [View.canon_unit_zero hz]
  simp only [View.ld_unit_zero (S := S256x1024) hz, View.ld_unit_zero (S := S1x1024) hz, View.ld_unit_zero (S := S2x1024) hz]
  refine (pay11 _ _ r j).trans (congrArg siluL (Finset.sum_congr rfl fun k _ => congrArg₂ _ (norm x0 x1 r k) (cols x2 3072 _ k j _)))

/-- Result 5. -/
theorem out9_at (r : Fin 256) (j : Fin 512) :
    out0_9 (F := Ideal) x0 x1 x2 x3 (ix2 r j) = out9 (fun k => x0 (ix2 r k)) (fun k => x1 (ix2 0 k)) (fun k j => x2 (ix2 k j)) j := by
  unfold_out out0_9
  rw [View.canon_unit_zero hz]
  simp only [View.ld_unit_zero (S := S256x1024) hz, View.ld_unit_zero (S := S1x1024) hz, View.ld_unit_zero (S := S2x1024) hz]
  refine (pay12 _ _ r j).trans ((Finset.sum_congr rfl fun k _ => congrArg₂ _ (norm x0 x1 r k) (cols x2 4096 _ k j _)))

/-- Result 6. -/
theorem out10_at (r : Fin 256) (j : Fin 1024) :
    out0_10 (F := Ideal) x0 x1 x2 x3 (ix2 r j) = out10 (fun k => x0 (ix2 r k)) (fun k => x1 (ix2 0 k)) (fun k j => x2 (ix2 k j)) j := by
  unfold_out out0_10
  rw [View.canon_unit_zero hz]
  simp only [View.ld_unit_zero (S := S256x1024) hz, View.ld_unit_zero (S := S1x1024) hz, View.ld_unit_zero (S := S2x1024) hz]
  refine (pay13 _ _ r j).trans (congrArg sigL (Finset.sum_congr rfl fun k _ => congrArg₂ _ (norm x0 x1 r k) (cols x2 4608 _ k j _)))

/-- Result 7. -/
theorem out11_at (r : Fin 256) (j : Fin 1024) :
    out0_11 (F := Ideal) x0 x1 x2 x3 (ix2 r j) = out11 (fun k => x0 (ix2 r k)) (fun k => x1 (ix2 0 k)) (fun k j => x2 (ix2 k j)) j := by
  unfold_out out0_11
  rw [View.canon_unit_zero hz]
  simp only [View.ld_unit_zero (S := S256x1024) hz, View.ld_unit_zero (S := S1x1024) hz, View.ld_unit_zero (S := S2x1024) hz]
  refine (pay1 _ _ r j).trans (congrArg sigL (Finset.sum_congr rfl fun k _ => congrArg₂ _ (norm x0 x1 r k) (cols x2 5632 _ k j _)))

end

end Cert.ProjIdeal.Block

namespace Cert.ProjRefIdeal.Block
open Cert.ProjRefIdeal Cert.ProjRefIdeal.Read Cert.Model

section
variable (x0 : (⟨S16384x1024, .f32⟩ : BufTy).Contents (Elt Ideal)) (x1 : (⟨S1x1024, .f32⟩ : BufTy).Contents (Elt Ideal)) (x2 : (⟨S1x1024x6656, .f32⟩ : BufTy).Contents (Elt Ideal)) (x3 : (⟨S2x1024, .f32⟩ : BufTy).Contents (Elt Ideal))

/-- The projection of a normed row, at a column. -/
theorem ref15 (n : Fin 16384) (j : Fin 6656) :
    val_main_v15 (F := Ideal) x0 x1 x2 (ix2 n j) = lin (rms (fun k => x0 (ix2 n k)) (fun k => x1 (ix2 0 k))) (fun k j => x2 (ix3 0 k j)) j := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, lin, rms]

/-- The gate's lower bound. -/
theorem ref35 (j : Fin 1024) : val_main_v35 (F := Ideal) x3 (ix1 j) = bound (fun s => x3 (ix2 s j)) := by
  pointwise [val_main_v35, val_main_v34, val_main_v33, val_main_v32, val_main_v31, val_main_v30, val_main_cst_4, val_main_v29, val_main_v28, val_main_v27, val_main_v26, val_main_v25, val_main_v24, val_main_cst_3, val_main_v23, val_main_cst_2, bound]
  simp only [bottom_eq, bot_le, max_eq_right]

/-- Result 0. -/
theorem ref4 (n : Fin 16384) (j : Fin 1024) :
    val_main_v50 (F := Ideal) x0 x1 x2 (ix2 n j) = out4 (fun k => x0 (ix2 n k)) (fun k => x1 (ix2 0 k)) (fun k j => x2 (ix3 0 k j)) j := by
  unfold out4
  rw [← ref15 x0 x1 x2 n]
  unfold val_main_v50 val_main_call0_v5 val_main_call0_v4 val_main_call0_cst_0 val_main_call0_v3 val_main_call0_v2 val_main_call0_cst val_main_call0_v1 val_main_call0_v0 val_main_v16
  generalize val_main_v15 (F := Ideal) x0 x1 x2 = p
  pointwise [siluL]

/-- Result 1. -/
theorem ref5 (n : Fin 16384) (j : Fin 1024) :
    val_main_v52 (F := Ideal) x0 x1 x2 x3 (ix2 n j) = out5 (fun k => x0 (ix2 n k)) (fun k => x1 (ix2 0 k)) (fun k j => x2 (ix3 0 k j)) (fun s j => x3 (ix2 s j)) j := by
  unfold out5 forget
  beta_reduce
  rw [← ref15 x0 x1 x2 n, ← ref35 x3]
  unfold val_main_v52 val_main_v51 val_main_cst_8 val_main_v49 val_main_v48 val_main_v47 val_main_v46 val_main_v45 val_main_v44 val_main_v43 val_main_v42 val_main_cst_7 val_main_v41 val_main_v40 val_main_cst_6 val_main_v39 val_main_v38 val_main_v37 val_main_v36 val_main_cst_5 val_main_v17
  generalize val_main_v15 (F := Ideal) x0 x1 x2 = p
  generalize val_main_v35 (F := Ideal) x3 = b
  pointwise [sigL]

/-- Result 2. -/
theorem ref6 (n : Fin 16384) (j : Fin 1024) :
    val_main_v18 (F := Ideal) x0 x1 x2 (ix2 n j) = out6 (fun k => x0 (ix2 n k)) (fun k => x1 (ix2 0 k)) (fun k j => x2 (ix3 0 k j)) j := by
  unfold out6
  rw [← ref15 x0 x1 x2 n]
  unfold val_main_v18
  generalize val_main_v15 (F := Ideal) x0 x1 x2 = p
  pointwise

/-- Result 3. -/
theorem ref7 (n : Fin 16384) (j : Fin 1024) :
    val_main_v53 (F := Ideal) x0 x1 x2 x3 (ix2 n j) = out7 (fun k => x0 (ix2 n k)) (fun k => x1 (ix2 0 k)) (fun k j => x2 (ix3 0 k j)) (fun s j => x3 (ix2 s j)) j := by
  unfold out7 forget
  beta_reduce
  rw [← ref15 x0 x1 x2 n, ← ref35 x3]
  unfold val_main_v53 val_main_v49 val_main_v48 val_main_v47 val_main_v46 val_main_v45 val_main_v44 val_main_v43 val_main_v42 val_main_cst_7 val_main_v41 val_main_v40 val_main_cst_6 val_main_v39 val_main_v38 val_main_v37 val_main_v36 val_main_cst_5 val_main_v17
  generalize val_main_v15 (F := Ideal) x0 x1 x2 = p
  generalize val_main_v35 (F := Ideal) x3 = b
  pointwise [sigL]

/-- Result 4. -/
theorem ref8 (n : Fin 16384) (j : Fin 1024) :
    val_main_v54 (F := Ideal) x0 x1 x2 (ix2 n j) = out8 (fun k => x0 (ix2 n k)) (fun k => x1 (ix2 0 k)) (fun k j => x2 (ix3 0 k j)) j := by
  unfold out8
  rw [← ref15 x0 x1 x2 n]
  unfold val_main_v54 val_main_call1_v5 val_main_call1_v4 val_main_call1_cst_0 val_main_call1_v3 val_main_call1_v2 val_main_call1_cst val_main_call1_v1 val_main_call1_v0 val_main_v19
  generalize val_main_v15 (F := Ideal) x0 x1 x2 = p
  pointwise [siluL]

/-- Result 5. -/
theorem ref9 (n : Fin 16384) (j : Fin 512) :
    val_main_v20 (F := Ideal) x0 x1 x2 (ix2 n j) = out9 (fun k => x0 (ix2 n k)) (fun k => x1 (ix2 0 k)) (fun k j => x2 (ix3 0 k j)) j := by
  unfold out9
  rw [← ref15 x0 x1 x2 n]
  unfold val_main_v20
  generalize val_main_v15 (F := Ideal) x0 x1 x2 = p
  pointwise

/-- Result 6. -/
theorem ref10 (n : Fin 16384) (j : Fin 1024) :
    val_main_v60 (F := Ideal) x0 x1 x2 (ix2 n j) = out10 (fun k => x0 (ix2 n k)) (fun k => x1 (ix2 0 k)) (fun k j => x2 (ix3 0 k j)) j := by
  unfold out10
  rw [← ref15 x0 x1 x2 n]
  unfold val_main_v60 val_main_v59 val_main_cst_10 val_main_v58 val_main_v57 val_main_cst_9 val_main_v56 val_main_v55 val_main_v21
  generalize val_main_v15 (F := Ideal) x0 x1 x2 = p
  pointwise [sigL]

/-- Result 7. -/
theorem ref11 (n : Fin 16384) (j : Fin 1024) :
    val_main_v66 (F := Ideal) x0 x1 x2 (ix2 n j) = out11 (fun k => x0 (ix2 n k)) (fun k => x1 (ix2 0 k)) (fun k j => x2 (ix3 0 k j)) j := by
  unfold out11
  rw [← ref15 x0 x1 x2 n]
  unfold val_main_v66 val_main_v65 val_main_cst_12 val_main_v64 val_main_v63 val_main_cst_11 val_main_v62 val_main_v61 val_main_v22
  generalize val_main_v15 (F := Ideal) x0 x1 x2 = p
  pointwise [sigL]

end

end Cert.ProjRefIdeal.Block
end
-- ==== Proof.ProjValue.lean ====
/- The input projection's result arrays: what the call's run leaves in each is, row by row, the functions of ProjBlock.lean. -/
module

public import proofs.«01_k».proof.Proof.ProjBlock
public import Idealize.ShloMosaic.Lib.StableHlo.ReadAt

@[expose] public section

set_option maxRecDepth 16384

noncomputable section

namespace Cert.ProjIdeal.Arrays

open Cert.ProjIdeal Cert.ProjIdeal.Gen Cert.ProjIdeal.Block Cert.Model
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The host's reshapes, at an index -/

/-- The norm's gain as a row. -/
theorem V1 (c : Dev nD) (k : Fin 1024) :
    (V m c main_v1 : S1x1024.Idx → EReal) (ix2 0 k) = (m ((c : Thread nD τ).loc main_arg1) : S1x1024.Idx → EReal) (ix2 0 k) := by
  unfold V
  after_reads_at

/-- The projection's weights. -/
theorem V3 (c : Dev nD) (k : Fin 1024) (j : Fin 6656) :
    (V m c main_v3 : S1024x6656.Idx → EReal) (ix2 k j) = (m ((c : Thread nD τ).loc main_arg2) : S1x1024x6656.Idx → EReal) (ix3 0 k j) := by
  unfold V
  after_reads_at

/-! ## The windows' blocks, at an index -/

/-- The windows of the rows and of the results are at block `t` at grid point `t`. -/
theorem moves : ∀ t : Fin grid0.N,
    (win0_0.index t 0 = t.val ∧ win0_0.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) := by
  decide +kernel

/-- The windows of the gain, of the weights and of the logits stay. -/
theorem stays : ∀ t : Fin grid0.N, ∀ a, win0_1.index t a = 0 ∧ win0_2.index t a = 0 ∧ win0_3.index t a = 0 := by
  decide +kernel

/-- Row `r` of block `t`, of 256 rows each. -/
abbrev row (t : Fin 64) (r : Fin 256) : Fin 16384 := ⟨t.val * 256 + r.val, by omega⟩

/-- The rows' block. -/
theorem blk0 (c : Dev nD) (t : Fin cfg0.N) (r : Fin 256) (k : Fin 1024) :
    (iblk m c 0 t : S256x1024.Idx → EReal) (ix2 r k) = (V m c main_arg0 : S16384x1024.Idx → EReal) (ix2 (row t r) k) := by
  obtain ⟨h0, h1⟩ := (moves t).1
  refine congrArg (V m c main_arg0 : S16384x1024.Idx → EReal) (funext fun a => Fin.ext ?_)
  match a with
  | ⟨0, _⟩ => show win0_0.index t 0 * 256 + 1 * r.val = t.val * 256 + r.val; rw [h0]; omega
  | ⟨1, _⟩ => show win0_0.index t 1 * 1024 + 1 * k.val = k.val; rw [h1]; omega

/-- The gain's block. -/
theorem blk1 (c : Dev nD) (t : Fin cfg0.N) (r : Fin 1) (k : Fin 1024) :
    (iblk m c 1 t : S1x1024.Idx → EReal) (ix2 r k) = (V m c main_v1 : S1x1024.Idx → EReal) (ix2 r k) := by
  have h0 := (stays t 0).1
  have h1 := (stays t 1).1
  refine congrArg (V m c main_v1 : S1x1024.Idx → EReal) (funext fun a => Fin.ext ?_)
  match a with
  | ⟨0, _⟩ => show win0_1.index t 0 * 1 + 1 * r.val = r.val; rw [h0]; omega
  | ⟨1, _⟩ => show win0_1.index t 1 * 1024 + 1 * k.val = k.val; rw [h1]; omega

/-- The weights' block. -/
theorem blk2 (c : Dev nD) (t : Fin cfg0.N) (r : Fin 1024) (k : Fin 6656) :
    (iblk m c 2 t : S1024x6656.Idx → EReal) (ix2 r k) = (V m c main_v3 : S1024x6656.Idx → EReal) (ix2 r k) := by
  have h0 := (stays t 0).2.1
  have h1 := (stays t 1).2.1
  refine congrArg (V m c main_v3 : S1024x6656.Idx → EReal) (funext fun a => Fin.ext ?_)
  match a with
  | ⟨0, _⟩ => show win0_2.index t 0 * 1024 + 1 * r.val = r.val; rw [h0]; omega
  | ⟨1, _⟩ => show win0_2.index t 1 * 6656 + 1 * k.val = k.val; rw [h1]; omega

/-- The logits' block. -/
theorem blk3 (c : Dev nD) (t : Fin cfg0.N) (r : Fin 2) (k : Fin 1024) :
    (iblk m c 3 t : S2x1024.Idx → EReal) (ix2 r k) = (V m c main_arg3 : S2x1024.Idx → EReal) (ix2 r k) := by
  have h0 := (stays t 0).2.2
  have h1 := (stays t 1).2.2
  refine congrArg (V m c main_arg3 : S2x1024.Idx → EReal) (funext fun a => Fin.ext ?_)
  match a with
  | ⟨0, _⟩ => show win0_3.index t 0 * 2 + 1 * r.val = r.val; rw [h0]; omega
  | ⟨1, _⟩ => show win0_3.index t 1 * 1024 + 1 * k.val = k.val; rw [h1]; omega

/-! ## The results -/

/-- Result 0 of the call. -/
def G4 (c : Dev nD) : S16384x1024.Idx → EReal := fun i =>
  out4 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 0. -/
theorem flushed4 (c : Dev nD) (t : Fin cfg0.N) :
    (dats m 0 c).flushed 4 t = ((cfg0.win 4).blk t).view.read (Elt Ideal) (G4 m c) := by
  rw [Value.flushed4]
  refine funext fun (y : S256x1024.Idx) => ?_
  obtain ⟨h0, h1⟩ := (moves t).2.1
  refine ((congrArg _ (ix2_self y)).trans (out4_at _ _ _ _  (y 0) (y 1))).trans (Eq.trans ?_ (congrArg (G4 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_4.index t 0 * 256 + 1 * (y 0).val; rw [h0]; omega
    | ⟨1, _⟩ => show (y 1).val = win0_4.index t 1 * 1024 + 1 * (y 1).val; rw [h1]; omega

/-- Result 0 after the run. -/
theorem final4 (c : Dev nD) : (dats m 0 c).arrAt 4 cfg0.N = G4 m c := by
  refine (dats m 0 c).arrAt_eq_of_cover 4 (G4 m c) (fun t _ => flushed4 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.1
  refine ⟨t, flush0_4 t, ?_⟩
  show i ∈ ((View.whole main_v4_0).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [e0]; show (i 0).val / 256 * 256 ≤ _ ∧ _ < (i 0).val / 256 * 256 + 256; omega
  | ⟨1, _⟩ =>
    show win0_4.index t 1 * 1024 ≤ (i 1).val ∧ (i 1).val < win0_4.index t 1 * 1024 + 1024
    rw [e1]; omega

/-- Result 1 of the call. -/
def G5 (c : Dev nD) : S16384x1024.Idx → EReal := fun i =>
  out5 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (fun s j => (m ((c : Thread nD τ).loc main_arg3) : S2x1024.Idx → EReal) (ix2 s j)) (i 1)

/-- What grid point `t` writes back is block `t` of result 1. -/
theorem flushed5 (c : Dev nD) (t : Fin cfg0.N) :
    (dats m 0 c).flushed 5 t = ((cfg0.win 5).blk t).view.read (Elt Ideal) (G5 m c) := by
  rw [Value.flushed5]
  refine funext fun (y : S256x1024.Idx) => ?_
  obtain ⟨h0, h1⟩ := (moves t).2.2.1
  refine ((congrArg _ (ix2_self y)).trans (out5_at _ _ _ _  (y 0) (y 1))).trans (Eq.trans ?_ (congrArg (G5 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    have e3 := funext fun s => funext fun j => (blk3 m c t s j).trans (congrFun (V_main_arg3 m c) _)
    rw [e0, e1, e2, e3]
    rfl
  · match a with
    | ⟨0, _⟩ => show t.val * 256 + (y 0).val = win0_5.index t 0 * 256 + 1 * (y 0).val; rw [h0]; omega
    | ⟨1, _⟩ => show (y 1).val = win0_5.index t 1 * 1024 + 1 * (y 1).val; rw [h1]; omega

/-- Result 1 after the run. -/
theorem final5 (c : Dev nD) : (dats m 0 c).arrAt 5 cfg0.N = G5 m c := by
  refine (dats m 0 c).arrAt_eq_of_cover 5 (G5 m c) (fun t _ => flushed5 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.1
  refine ⟨t, flush0_5 t, ?_⟩
  show i ∈ ((View.whole main_v4_1).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [e0]; show (i 0).val / 256 * 256 ≤ _ ∧ _ < (i 0).val / 256 * 256 + 256; omega
  | ⟨1, _⟩ =>
    show win0_5.index t 1 * 1024 ≤ (i 1).val ∧ (i 1).val < win0_5.index t 1 * 1024 + 1024
    rw [e1]; omega

/-- Result 2 of the call. -/
def G6 (c : Dev nD) : S16384x1024.Idx → EReal := fun i =>
  out6 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 2. -/
theorem flushed6 (c : Dev nD) (t : Fin cfg0.N) :
    (dats m 0 c).flushed 6 t = ((cfg0.win 6).blk t).view.read (Elt Ideal) (G6 m c) := by
  rw [Value.flushed6]
  refine funext fun (y : S256x1024.Idx) => ?_
  obtain ⟨h0, h1⟩ := (moves t).2.2.2.1
  refine ((congrArg _ (ix2_self y)).trans (out6_at _ _ _ _  (y 0) (y 1))).trans (Eq.trans ?_ (congrArg (G6 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_6.index t 0 * 256 + 1 * (y 0).val; rw [h0]; omega
    | ⟨1, _⟩ => show (y 1).val = win0_6.index t 1 * 1024 + 1 * (y 1).val; rw [h1]; omega

/-- Result 2 after the run. -/
theorem final6 (c : Dev nD) : (dats m 0 c).arrAt 6 cfg0.N = G6 m c := by
  refine (dats m 0 c).arrAt_eq_of_cover 6 (G6 m c) (fun t _ => flushed6 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.1
  refine ⟨t, flush0_6 t, ?_⟩
  show i ∈ ((View.whole main_v4_2).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [e0]; show (i 0).val / 256 * 256 ≤ _ ∧ _ < (i 0).val / 256 * 256 + 256; omega
  | ⟨1, _⟩ =>
    show win0_6.index t 1 * 1024 ≤ (i 1).val ∧ (i 1).val < win0_6.index t 1 * 1024 + 1024
    rw [e1]; omega

/-- Result 3 of the call. -/
def G7 (c : Dev nD) : S16384x1024.Idx → EReal := fun i =>
  out7 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (fun s j => (m ((c : Thread nD τ).loc main_arg3) : S2x1024.Idx → EReal) (ix2 s j)) (i 1)

/-- What grid point `t` writes back is block `t` of result 3. -/
theorem flushed7 (c : Dev nD) (t : Fin cfg0.N) :
    (dats m 0 c).flushed 7 t = ((cfg0.win 7).blk t).view.read (Elt Ideal) (G7 m c) := by
  rw [Value.flushed7]
  refine funext fun (y : S256x1024.Idx) => ?_
  obtain ⟨h0, h1⟩ := (moves t).2.2.2.2.1
  refine ((congrArg _ (ix2_self y)).trans (out7_at _ _ _ _  (y 0) (y 1))).trans (Eq.trans ?_ (congrArg (G7 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    have e3 := funext fun s => funext fun j => (blk3 m c t s j).trans (congrFun (V_main_arg3 m c) _)
    rw [e0, e1, e2, e3]
    rfl
  · match a with
    | ⟨0, _⟩ => show t.val * 256 + (y 0).val = win0_7.index t 0 * 256 + 1 * (y 0).val; rw [h0]; omega
    | ⟨1, _⟩ => show (y 1).val = win0_7.index t 1 * 1024 + 1 * (y 1).val; rw [h1]; omega

/-- Result 3 after the run. -/
theorem final7 (c : Dev nD) : (dats m 0 c).arrAt 7 cfg0.N = G7 m c := by
  refine (dats m 0 c).arrAt_eq_of_cover 7 (G7 m c) (fun t _ => flushed7 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.2.1
  refine ⟨t, flush0_7 t, ?_⟩
  show i ∈ ((View.whole main_v4_3).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [e0]; show (i 0).val / 256 * 256 ≤ _ ∧ _ < (i 0).val / 256 * 256 + 256; omega
  | ⟨1, _⟩ =>
    show win0_7.index t 1 * 1024 ≤ (i 1).val ∧ (i 1).val < win0_7.index t 1 * 1024 + 1024
    rw [e1]; omega

/-- Result 4 of the call. -/
def G8 (c : Dev nD) : S16384x1024.Idx → EReal := fun i =>
  out8 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 4. -/
theorem flushed8 (c : Dev nD) (t : Fin cfg0.N) :
    (dats m 0 c).flushed 8 t = ((cfg0.win 8).blk t).view.read (Elt Ideal) (G8 m c) := by
  rw [Value.flushed8]
  refine funext fun (y : S256x1024.Idx) => ?_
  obtain ⟨h0, h1⟩ := (moves t).2.2.2.2.2.1
  refine ((congrArg _ (ix2_self y)).trans (out8_at _ _ _ _  (y 0) (y 1))).trans (Eq.trans ?_ (congrArg (G8 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_8.index t 0 * 256 + 1 * (y 0).val; rw [h0]; omega
    | ⟨1, _⟩ => show (y 1).val = win0_8.index t 1 * 1024 + 1 * (y 1).val; rw [h1]; omega

/-- Result 4 after the run. -/
theorem final8 (c : Dev nD) : (dats m 0 c).arrAt 8 cfg0.N = G8 m c := by
  refine (dats m 0 c).arrAt_eq_of_cover 8 (G8 m c) (fun t _ => flushed8 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.2.2.1
  refine ⟨t, flush0_8 t, ?_⟩
  show i ∈ ((View.whole main_v4_4).slice (win0_8.rect t)).set
  rw [View.set_slice_whole, Rect.mem_set_unit]
  intro a
  match a with
  | ⟨0, _⟩ =>
    show win0_8.index t 0 * 256 ≤ (i 0).val ∧ (i 0).val < win0_8.index t 0 * 256 + 256
    rw [e0]; show (i 0).val / 256 * 256 ≤ _ ∧ _ < (i 0).val / 256 * 256 + 256; omega
  | ⟨1, _⟩ =>
    show win0_8.index t 1 * 1024 ≤ (i 1).val ∧ (i 1).val < win0_8.index t 1 * 1024 + 1024
    rw [e1]; omega

/-- Result 5 of the call. -/
def G9 (c : Dev nD) : S16384x512.Idx → EReal := fun i =>
  out9 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 5. -/
theorem flushed9 (c : Dev nD) (t : Fin cfg0.N) :
    (dats m 0 c).flushed 9 t = ((cfg0.win 9).blk t).view.read (Elt Ideal) (G9 m c) := by
  rw [Value.flushed9]
  refine funext fun (y : S256x512.Idx) => ?_
  obtain ⟨h0, h1⟩ := (moves t).2.2.2.2.2.2.1
  refine ((congrArg _ (ix2_self y)).trans (out9_at _ _ _ _  (y 0) (y 1))).trans (Eq.trans ?_ (congrArg (G9 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_9.index t 0 * 256 + 1 * (y 0).val; rw [h0]; omega
    | ⟨1, _⟩ => show (y 1).val = win0_9.index t 1 * 512 + 1 * (y 1).val; rw [h1]; omega

/-- Result 5 after the run. -/
theorem final9 (c : Dev nD) : (dats m 0 c).arrAt 9 cfg0.N = G9 m c := by
  refine (dats m 0 c).arrAt_eq_of_cover 9 (G9 m c) (fun t _ => flushed9 m c t) fun (i : S16384x512.Idx) => ?_
  have h0 : (i 0).val < 16384 := (i 0).isLt
  have h1 : (i 1).val < 512 := (i 1).isLt
  let t : Fin cfg0.N := ⟨(i 0).val / 256, by rw [show cfg0.N = 64 from N_0]; omega⟩
  obtain ⟨e0, e1⟩ := (moves t).2.2.2.2.2.2.1
  refine ⟨t, flush0_9 t, ?_⟩
  show i ∈ ((View.whole main_v4_5).slice (win0_9.rect t)).set
  rw [View.set_slice_whole, Rect.mem_set_unit]
  intro a
  match a with
  | ⟨0, _⟩ =>
    show win0_9.index t 0 * 256 ≤ (i 0).val ∧ (i 0).val < win0_9.index t 0 * 256 + 256
    rw [e0]; show (i 0).val / 256 * 256 ≤ _ ∧ _ < (i 0).val / 256 * 256 + 256; omega
  | ⟨1, _⟩ =>
    show win0_9.index t 1 * 512 ≤ (i 1).val ∧ (i 1).val < win0_9.index t 1 * 512 + 512
    rw [e1]; omega

/-- Result 6 of the call. -/
def G10 (c : Dev nD) : S16384x1024.Idx → EReal := fun i =>
  out10 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 6. -/
theorem flushed10 (c : Dev nD) (t : Fin cfg0.N) :
    (dats m 0 c).flushed 10 t = ((cfg0.win 10).blk t).view.read (Elt Ideal) (G10 m c) := by
  rw [Value.flushed10]
  refine funext fun (y : S256x1024.Idx) => ?_
  obtain ⟨h0, h1⟩ := (moves t).2.2.2.2.2.2.2.1
  refine ((congrArg _ (ix2_self y)).trans (out10_at _ _ _ _  (y 0) (y 1))).trans (Eq.trans ?_ (congrArg (G10 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_10.index t 0 * 256 + 1 * (y 0).val; rw [h0]; omega
    | ⟨1, _⟩ => show (y 1).val = win0_10.index t 1 * 1024 + 1 * (y 1).val; rw [h1]; omega

/-- Result 6 after the run. -/
theorem final10 (c : Dev nD) : (dats m 0 c).arrAt 10 cfg0.N = G10 m c := by
  refine (dats m 0 c).arrAt_eq_of_cover 10 (G10 m c) (fun t _ => flushed10 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.2.2.2.2.1
  refine ⟨t, flush0_10 t, ?_⟩
  show i ∈ ((View.whole main_v4_6).slice (win0_10.rect t)).set
  rw [View.set_slice_whole, Rect.mem_set_unit]
  intro a
  match a with
  | ⟨0, _⟩ =>
    show win0_10.index t 0 * 256 ≤ (i 0).val ∧ (i 0).val < win0_10.index t 0 * 256 + 256
    rw [e0]; show (i 0).val / 256 * 256 ≤ _ ∧ _ < (i 0).val / 256 * 256 + 256; omega
  | ⟨1, _⟩ =>
    show win0_10.index t 1 * 1024 ≤ (i 1).val ∧ (i 1).val < win0_10.index t 1 * 1024 + 1024
    rw [e1]; omega

/-- Result 7 of the call. -/
def G11 (c : Dev nD) : S16384x1024.Idx → EReal := fun i =>
  out11 (fun k => (m ((c : Thread nD τ).loc main_arg0) : S16384x1024.Idx → EReal) (ix2 (i 0) k)) (fun k => (m ((c : Thread nD τ).loc main_arg1) : S1x1024.Idx → EReal) (ix2 0 k))
    (fun k j => (m ((c : Thread nD τ).loc main_arg2) : S1x1024x6656.Idx → EReal) (ix3 0 k j)) (i 1)

/-- What grid point `t` writes back is block `t` of result 7. -/
theorem flushed11 (c : Dev nD) (t : Fin cfg0.N) :
    (dats m 0 c).flushed 11 t = ((cfg0.win 11).blk t).view.read (Elt Ideal) (G11 m c) := by
  rw [Value.flushed11]
  refine funext fun (y : S256x1024.Idx) => ?_
  obtain ⟨h0, h1⟩ := (moves t).2.2.2.2.2.2.2.2
  refine ((congrArg _ (ix2_self y)).trans (out11_at _ _ _ _  (y 0) (y 1))).trans (Eq.trans ?_ (congrArg (G11 m c) (funext fun a => Fin.ext ?_ : ix2 (row t (y 0)) (y 1) = _)))
  · have e0 := funext fun k => (blk0 m c t (y 0) k).trans (congrFun (V_main_arg0 m c) _)
    have e1 := funext fun k => (blk1 m c t 0 k).trans (V1 m c k)
    have e2 := funext fun k => funext fun j => (blk2 m c t k j).trans (V3 m c k j)
    rw [e0, e1, e2]
    rfl
  · match a with
    | ⟨0, _⟩ => show t.val * 256 + (y 0).val = win0_11.index t 0 * 256 + 1 * (y 0).val; rw [h0]; omega
    | ⟨1, _⟩ => show (y 1).val = win0_11.index t 1 * 1024 + 1 * (y 1).val; rw [h1]; omega

/-- Result 7 after the run. -/
theorem final11 (c : Dev nD) : (dats m 0 c).arrAt 11 cfg0.N = G11 m c := by
  refine (dats m 0 c).arrAt_eq_of_cover 11 (G11 m c) (fun t _ => flushed11 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.2.2.2.2.2
  refine ⟨t, flush0_11 t, ?_⟩
  show i ∈ ((View.whole main_v4_7).slice (win0_11.rect t)).set
  rw [View.set_slice_whole, Rect.mem_set_unit]
  intro a
  match a with
  | ⟨0, _⟩ =>
    show win0_11.index t 0 * 256 ≤ (i 0).val ∧ (i 0).val < win0_11.index t 0 * 256 + 256
    rw [e0]; show (i 0).val / 256 * 256 ≤ _ ∧ _ < (i 0).val / 256 * 256 + 256; omega
  | ⟨1, _⟩ =>
    show win0_11.index t 1 * 1024 ≤ (i 1).val ∧ (i 1).val < win0_11.index t 1 * 1024 + 1024
    rw [e1]; omega

/-- The kernel's run: its results, the arguments unchanged. -/
theorem run : θ_run defs (onTc (τ := τ) (main (F := Ideal))) ⟨m, fun _ => 0, ρ⟩ fun r => ∀ c : Dev nD,
      r.2.mem ((c : Thread nD τ).loc main_v4_0) = G4 m c
      ∧ r.2.mem ((c : Thread nD τ).loc main_v4_1) = G5 m c
      ∧ r.2.mem ((c : Thread nD τ).loc main_v4_2) = G6 m c
      ∧ r.2.mem ((c : Thread nD τ).loc main_v4_3) = G7 m c
      ∧ r.2.mem ((c : Thread nD τ).loc main_v4_4) = G8 m c
      ∧ r.2.mem ((c : Thread nD τ).loc main_v4_5) = G9 m c
      ∧ r.2.mem ((c : Thread nD τ).loc main_v4_6) = G10 m c
      ∧ r.2.mem ((c : Thread nD τ).loc main_v4_7) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (Value.run_blocks m ρ)
  obtain ⟨h4, h5, h6, h7, h8, h9, h10, h11, hk⟩ := h c
  exact ⟨h4.trans (final4 m c), h5.trans (final5 m c), h6.trans (final6 m c), h7.trans (final7 m c), h8.trans (final8 m c), h9.trans (final9 m c), h10.trans (final10 m c), h11.trans (final11 m c), hk⟩

end Cert.ProjIdeal.Arrays
end
-- ==== Proof.ProjClaim.lean ====
/- The claims of the input projection: its frames and its values against the reference. -/
module

public import proofs.«01_k».proof.Proof.ProjValue
public import proofs.«01_k».proof.Proof.Gen.ProjRefIdeal.Run
public import proofs.«01_k».proof.Proof.Gen.Proj.Frame
public import proofs.«01_k».proof.Proof.Gen.ProjRefIdeal
public import proofs.«01_k».proof.Defs
public import Idealize.ShloMosaic.Lib.Quiescent

@[expose] public section

set_option maxRecDepth 16384

noncomputable section

open Idealize.ShloMosaic Idealize.ShloMosaic.TcCoe Idealize.SL.Sem

namespace Cert.ProjProof

open Cert.Model Cert.ProjIdeal.Block Cert.ProjRefIdeal.Block

/-- The call runs without a fault and leaves its arguments and semaphores. -/
theorem frame : Cert.quiescent_Proj := fun m ρ _ => Cert.Proj.Gen.frame m ρ
/-- The idealized call likewise. -/
theorem frame_ideal : Cert.quiescent_ProjIdeal := fun m ρ _ => Cert.ProjIdeal.Gen.frame m ρ
/-- The reference likewise. -/
theorem frame_ref : Cert.quiescent_ProjRefIdeal := fun m ρ _ =>
  (θ_run Cert.ProjRefIdeal.defs _ _).mono (fun r h => ⟨fun c => (h c).2.2.2.2.2.2.2.2, sem_eq_zero_of_no_sems (by decide) r.2⟩)
    (Cert.ProjRefIdeal.Value.run (F := Ideal) m ρ)

/-- The call's eight results are the reference's, at every extended real. -/
theorem algebraic : Cert.algebraic_ProjIdeal_ProjRefIdeal := by
  intro m g m' g' hpre hagree
  refine ⟨Cert.ProjIdeal.Arrays.G4 m, Cert.ProjIdeal.Arrays.G5 m, Cert.ProjIdeal.Arrays.G6 m, Cert.ProjIdeal.Arrays.G7 m, Cert.ProjIdeal.Arrays.G8 m, Cert.ProjIdeal.Arrays.G9 m, Cert.ProjIdeal.Arrays.G10 m, Cert.ProjIdeal.Arrays.G11 m, Cert.ProjIdeal.Arrays.run m g, ?_⟩
  refine (θ_run Cert.ProjRefIdeal.defs _ _).mono (fun r h c => ?_) (Cert.ProjRefIdeal.Value.run (F := Ideal) m' g')
  obtain ⟨a0, a1, a2, a3⟩ := hagree c
  obtain ⟨h4, h5, h6, h7, h8, h9, h10, h11, hk⟩ := h c
  refine ⟨?_, ?_, ?_, ?_, ?_, ?_, ?_, ?_, hk⟩
  · rw [h4, Cert.ProjRefIdeal.Read.val_main_v50_eq, a0, a1, a2]
    exact funext fun i => (congrArg _ (ix2_self i)).trans (ref4 _ _ _ (i 0) (i 1))
  · rw [h5, Cert.ProjRefIdeal.Read.val_main_v52_eq, a0, a1, a2, a3]
    exact funext fun i => (congrArg _ (ix2_self i)).trans (ref5 _ _ _ _  (i 0) (i 1))
  · rw [h6, Cert.ProjRefIdeal.Read.val_main_v18_eq, a0, a1, a2]
    exact funext fun i => (congrArg _ (ix2_self i)).trans (ref6 _ _ _ (i 0) (i 1))
  · rw [h7, Cert.ProjRefIdeal.Read.val_main_v53_eq, a0, a1, a2, a3]
    exact funext fun i => (congrArg _ (ix2_self i)).trans (ref7 _ _ _ _  (i 0) (i 1))
  · rw [h8, Cert.ProjRefIdeal.Read.val_main_v54_eq, a0, a1, a2]
    exact funext fun i => (congrArg _ (ix2_self i)).trans (ref8 _ _ _ (i 0) (i 1))
  · rw [h9, Cert.ProjRefIdeal.Read.val_main_v20_eq, a0, a1, a2]
    exact funext fun i => (congrArg _ (ix2_self i)).trans (ref9 _ _ _ (i 0) (i 1))
  · rw [h10, Cert.ProjRefIdeal.Read.val_main_v60_eq, a0, a1, a2]
    exact funext fun i => (congrArg _ (ix2_self i)).trans (ref10 _ _ _ (i 0) (i 1))
  · rw [h11, Cert.ProjRefIdeal.Read.val_main_v66_eq, a0, a1, a2]
    exact funext fun i => (congrArg _ (ix2_self i)).trans (ref11 _ _ _ (i 0) (i 1))

end Cert.ProjProof
end
-- ==== Proof.MergeBlock.lean ====
/- The merge call, at an index: what the call's body computes of a row of its block, and the reference of a row, both as
   one function of the row and of the rows before it. -/
module

public import proofs.«01_k».proof.Proof.Model
public import proofs.«01_k».proof.Proof.Gen.MergeIdeal.Value
public import proofs.«01_k».proof.Proof.Gen.MergeRefIdeal.Read

@[expose] public section

set_option maxRecDepth 16384

noncomputable section

open Idealize.ShloMosaic

namespace Cert.Model

/-- Feature `d` of head `n`, of 128 features each. -/
abbrev hd (n : Fin 8) (d : Fin 128) : Fin 1024 := ⟨n.val * 128 + d.val, by omega⟩
/-- Feature `d` of pooling group `g`, of 128 features each. -/
abbrev gd (g : Fin 4) (d : Fin 128) : Fin 512 := ⟨g.val * 128 + d.val, by omega⟩

/-- The RMS norm of one head of a row, without its gain. -/
def headnorm (o : Fin 1024 → EReal) (n : Fin 8) (d : Fin 128) : EReal :=
  o (hd n d) * Ideal.rsqrt (Ideal.div (∑ q : Fin 128, o (hd n q) * o (hd n q)) (Ideal.ofBits .f32 0x43000000#32) + eps)

/-- The first branch: the normed and gated heads times the branch's weights. -/
def branchA (o og g : Fin 1024 → EReal) (w : Fin 1024 → Fin 1024 → EReal) (j : Fin 1024) : EReal :=
  lin (fun k => headnorm o ⟨k.val / 128, by omega⟩ ⟨k.val % 128, by omega⟩ * g k * og k) w j

/-- The sum of a value and its `n` predecessors, the nearest first. -/
def trail (u : ℕ → EReal) : ℕ → EReal
  | 0 => u 0
  | n + 1 => trail u n + u (n + 1)

/-- A trailing mean over at most `n + 1` positions, `w` their number and `p` the position counted from one, less the value. -/
def pool (u : ℕ → EReal) (p : EReal) (n : ℕ) (w : BitVec 32) : EReal :=
  Ideal.div (trail u n) (min p (Ideal.ofBits .f32 w)) - u 0

/-- The pooled value of group `g`: the groups' windows are 2, 4, 8 and 16. -/
def pooled (u : ℕ → Fin 512 → EReal) (p : EReal) (g : Fin 4) (d : Fin 128) : EReal :=
  match g with
  | 0 => pool (fun s => u s (gd 0 d)) p 1 0x40000000#32
  | 1 => pool (fun s => u s (gd 1 d)) p 3 0x40800000#32
  | 2 => pool (fun s => u s (gd 2 d)) p 7 0x41000000#32
  | 3 => pool (fun s => u s (gd 3 d)) p 15 0x41800000#32

/-- The pooled groups mixed, each by its own matrix. -/
def mixed (u : ℕ → Fin 512 → EReal) (p : EReal) (w : Fin 4 → Fin 128 → Fin 128 → EReal) (g : Fin 4) (e : Fin 128) : EReal :=
  ∑ d : Fin 128, pooled u p g d * w g d e

/-- The second branch. -/
def branchB (u : ℕ → Fin 512 → EReal) (p : EReal) (w : Fin 4 → Fin 128 → Fin 128 → EReal) (s : Fin 512 → EReal)
    (wb : Fin 512 → Fin 1024 → EReal) (j : Fin 1024) : EReal :=
  lin (fun k => mixed u p w ⟨k.val / 128, by omega⟩ ⟨k.val % 128, by omega⟩ * s k) wb j

/-- A row of the merge. -/
def merge (x o og : Fin 1024 → EReal) (u : ℕ → Fin 512 → EReal) (p : EReal) (ga gb g : Fin 1024 → EReal)
    (wa : Fin 1024 → Fin 1024 → EReal) (w : Fin 4 → Fin 128 → Fin 128 → EReal) (s : Fin 512 → EReal)
    (wb : Fin 512 → Fin 1024 → EReal) (wo : Fin 1024 → Fin 1024 → EReal) (j : Fin 1024) : EReal :=
  x j + lin (fun k => ga k * branchA o og g wa k + gb k * branchB u p w s wb k) wo j

end Cert.Model

namespace Cert.MergeIdeal.Block
open Cert.MergeIdeal Cert.MergeIdeal.Gen Cert.Model

/-- The position the body counts: the block's first row, one, and the row. -/
def posn (a : BitVec 32) (r : ℕ) : EReal := (((a * 256#32 + 1#32 + BitVec.ofNat 32 r).toInt : ℝ) : EReal)

theorem pay11 (a : BitVec 32) (r : Fin 256) (d : Fin 128) : k0_pay11 (F := Ideal) a (ix2 r d) = posn a r.val := by
  pointwise [k0_pay11]
  rfl

/-- The body's normed heads side by side. -/
theorem pay7 (v : Vec Ideal S256x1024 .f32) (r : Fin 256) (n : Fin 8) (d : Fin 128) :
    k0_pay7 (F := Ideal) v (k0_pay2 v) (k0_pay3 v) (k0_pay4 v) (k0_pay5 v) (k0_pay6 v) (ix2 r (hd n d)) = headnorm (fun k => v (ix2 r k)) n d := by
  have h2 (d : Fin 128) : k0_pay2 (F := Ideal) v (ix2 r d) = headnorm (fun k => v (ix2 r k)) 0 d := by
    pointwise [k0_pay2, headnorm]
    simp only [hd, Fin.val_zero, Nat.zero_mul, Nat.zero_add]
  have h3 (d : Fin 128) : k0_pay3 (F := Ideal) v (ix2 r d) = headnorm (fun k => v (ix2 r k)) 1 d := by
    pointwise [k0_pay3, headnorm]
    rfl
  have h4 (d : Fin 128) : k0_pay4 (F := Ideal) v (ix2 r d) = headnorm (fun k => v (ix2 r k)) 2 d := by
    pointwise [k0_pay4, headnorm]
    rfl
  have h5 (d : Fin 128) : k0_pay5 (F := Ideal) v (ix2 r d) * k0_pay6 (F := Ideal) v (ix2 r d) = headnorm (fun k => v (ix2 r k)) 3 d := by
    pointwise [k0_pay5, k0_pay6, headnorm]
    rfl
  generalize k0_pay2 (F := Ideal) v = v1 at *
  generalize k0_pay3 (F := Ideal) v = v2 at *
  generalize k0_pay4 (F := Ideal) v = v3 at *
  generalize k0_pay5 (F := Ideal) v = v4 at *
  generalize k0_pay6 (F := Ideal) v = v5 at *
  have hd128 := d.isLt
  unfold k0_pay7
  match n with
  | 0 =>
    pointwise []
    exact h2 d
  | 1 =>
    pointwise []
    exact h3 d
  | 2 =>
    pointwise []
    rw [dif_neg (by show ¬ (2 * 128 + d.val < 128); omega)]
    rw [dif_neg (by show ¬ (2 * 128 + d.val - 128 < 128); omega)]
    rw [dif_pos (by show 2 * 128 + d.val - 128 - 128 < 128; omega)]
    exact (congrArg (fun q => v3 (ix2 r q)) (Fin.ext (by show 2 * 128 + d.val - 128 - 128 = d.val; omega))).trans (h4 d)
  | 3 =>
    pointwise []
    rw [dif_neg (by show ¬ (3 * 128 + d.val < 128); omega)]
    rw [dif_neg (by show ¬ (3 * 128 + d.val - 128 < 128); omega)]
    rw [dif_neg (by show ¬ (3 * 128 + d.val - 128 - 128 < 128); omega)]
    rw [dif_pos (by show 3 * 128 + d.val - 128 - 128 - 128 < 128; omega)]
    exact (congrArg (fun q => v4 (ix2 r q) * v5 (ix2 r q)) (Fin.ext (by show 3 * 128 + d.val - 128 - 128 - 128 = d.val; omega))).trans (h5 d)
  | 4 =>
    pointwise []
    rw [dif_neg (by show ¬ (4 * 128 + d.val < 128); omega)]
    rw [dif_neg (by show ¬ (4 * 128 + d.val - 128 < 128); omega)]
    rw [dif_neg (by show ¬ (4 * 128 + d.val - 128 - 128 < 128); omega)]
    rw [dif_neg (by show ¬ (4 * 128 + d.val - 128 - 128 - 128 < 128); omega)]
    rw [dif_pos (by show 4 * 128 + d.val - 128 - 128 - 128 - 128 < 128; omega)]
    unfold headnorm
    exact congrArg (fun q => v (ix2 r q) * _) (Fin.ext (by show 512 + (4 * 128 + d.val - 128 - 128 - 128 - 128) = 4 * 128 + d.val; omega))
  | 5 =>
    pointwise []
    rw [dif_neg (by show ¬ (5 * 128 + d.val < 128); omega)]
    rw [dif_neg (by show ¬ (5 * 128 + d.val - 128 < 128); omega)]
    rw [dif_neg (by show ¬ (5 * 128 + d.val - 128 - 128 < 128); omega)]
    rw [dif_neg (by show ¬ (5 * 128 + d.val - 128 - 128 - 128 < 128); omega)]
    rw [dif_neg (by show ¬ (5 * 128 + d.val - 128 - 128 - 128 - 128 < 128); omega)]
    rw [dif_pos (by show 5 * 128 + d.val - 128 - 128 - 128 - 128 - 128 < 128; omega)]
    unfold headnorm
    exact congrArg (fun q => v (ix2 r q) * _) (Fin.ext (by show 640 + (5 * 128 + d.val - 128 - 128 - 128 - 128 - 128) = 5 * 128 + d.val; omega))
  | 6 =>
    pointwise []
    rw [dif_neg (by show ¬ (6 * 128 + d.val < 128); omega)]
    rw [dif_neg (by show ¬ (6 * 128 + d.val - 128 < 128); omega)]
    rw [dif_neg (by show ¬ (6 * 128 + d.val - 128 - 128 < 128); omega)]
    rw [dif_neg (by show ¬ (6 * 128 + d.val - 128 - 128 - 128 < 128); omega)]
    rw [dif_neg (by show ¬ (6 * 128 + d.val - 128 - 128 - 128 - 128 < 128); omega)]
    rw [dif_neg (by show ¬ (6 * 128 + d.val - 128 - 128 - 128 - 128 - 128 < 128); omega)]
    rw [dif_pos (by show 6 * 128 + d.val - 128 - 128 - 128 - 128 - 128 - 128 < 128; omega)]
    unfold headnorm
    exact congrArg (fun q => v (ix2 r q) * _) (Fin.ext (by show 768 + (6 * 128 + d.val - 128 - 128 - 128 - 128 - 128 - 128) = 6 * 128 + d.val; omega))
  | 7 =>
    pointwise []
    rw [dif_neg (by show ¬ (7 * 128 + d.val < 128); omega)]
    rw [dif_neg (by show ¬ (7 * 128 + d.val - 128 < 128); omega)]
    rw [dif_neg (by show ¬ (7 * 128 + d.val - 128 - 128 < 128); omega)]
    rw [dif_neg (by show ¬ (7 * 128 + d.val - 128 - 128 - 128 < 128); omega)]
    rw [dif_neg (by show ¬ (7 * 128 + d.val - 128 - 128 - 128 - 128 < 128); omega)]
    rw [dif_neg (by show ¬ (7 * 128 + d.val - 128 - 128 - 128 - 128 - 128 < 128); omega)]
    rw [dif_neg (by show ¬ (7 * 128 + d.val - 128 - 128 - 128 - 128 - 128 - 128 < 128); omega)]
    unfold headnorm
    exact congrArg (fun q => v (ix2 r q) * _) (Fin.ext (by show 896 + (7 * 128 + d.val - 128 - 128 - 128 - 128 - 128 - 128 - 128) = 7 * 128 + d.val; omega))

/-- Branch A. -/
theorem pay8 (v : Vec Ideal S256x1024 .f32) (g : Vec Ideal S1x1024 .f32) (og : Vec Ideal S256x1024 .f32) (w : Vec Ideal S1024x1024 .bf16) (r : Fin 256) (j : Fin 1024) :
    k0_pay8 (F := Ideal) (k0_pay7 v (k0_pay2 v) (k0_pay3 v) (k0_pay4 v) (k0_pay5 v) (k0_pay6 v)) g og w (ix2 r j)
     = branchA (fun k => v (ix2 r k)) (fun k => og (ix2 r k)) (fun k => g (ix2 0 k)) (fun k j => w (ix2 k j)) j := by
  have h7 (k : Fin 1024) := pay7 v r ⟨k.val / 128, by omega⟩ ⟨k.val % 128, by omega⟩
  generalize k0_pay7 (F := Ideal) v _ _ _ _ _ = y at *
  pointwise [k0_pay8, branchA, lin]
  refine Finset.sum_congr rfl fun k _ => ?_
  rw [← h7 k]
  exact congrArg (fun q => y (ix2 r q) * _ * _ * _) (Fin.ext (by show k.val = k.val / 128 * 128 + k.val % 128; omega))

/-- A load of 128 columns of 256 rows of the body's history. -/
def sh (C : S272x512.Idx → EReal) (a b : ℕ) (h : a + 256 ≤ 272 ∧ b + 128 ≤ 512) : Vec Ideal S256x128 .f32 := fun y =>
  C (ix2 ⟨a + (y 0).val, by have : (y 0).val < 256 := (y 0).isLt; omega⟩ ⟨b + (y 1).val, by have : (y 1).val < 128 := (y 1).isLt; omega⟩)

theorem sh_at (C : S272x512.Idx → EReal) (a b : ℕ) (h : a + 256 ≤ 272 ∧ b + 128 ≤ 512) (r : Fin 256) (d : Fin 128) :
    sh C a b h (ix2 r d) = C (ix2 ⟨a + r.val, by omega⟩ ⟨b + d.val, by omega⟩) := rfl

/-- The history of row `r`, `s` rows before it. -/
def past (C : S272x512.Idx → EReal) (r : Fin 256) (s : ℕ) (c : Fin 512) : EReal := C (ix2 ⟨16 + r.val - s, by omega⟩ c)

section
variable (C : S272x512.Idx → EReal) (a : BitVec 32) (r : Fin 256)

/-- A load of the history is the past of its rows. -/
theorem sh_past (k s b : ℕ) (g : Fin 4) (hk : k + s = 16) (hb : b = g.val * 128) (h : k + 256 ≤ 272 ∧ b + 128 ≤ 512) (d : Fin 128) :
    sh C k b h (ix2 r d) = past C r s (gd g d) := by
  subst hb
  exact congrArg (fun q => C (ix2 q _)) (Fin.ext (by show k + r.val = 16 + r.val - s; omega))

/-- The first group's mix. -/
theorem pool0 (w : Vec Ideal S1x128x128 .bf16) (e : Fin 128) :
    k0_pay13 (F := Ideal) (k0_pay12 a (sh C 16 0 (by decide)) (sh C 15 0 (by decide))) w (ix2 r e)
     = ∑ d : Fin 128, pooled (past C r) (posn a r.val) 0 d * (w (ix3 0 d e) : EReal) := by
  have h0 := sh_past C r 16 0 0 0 rfl rfl (by decide)
  have h1 := sh_past C r 15 1 0 0 rfl rfl (by decide)
  have hp := pay11 a r
  generalize sh C 16 0 _ = y0 at *
  generalize sh C 15 0 _ = y1 at *
  pointwise [k0_pay13, k0_pay12]
  simp only [h0, h1, hp]
  rfl

/-- The second group's mix. -/
theorem pool1 (w : Vec Ideal S1x128x128 .bf16) (e : Fin 128) :
    k0_pay14 (F := Ideal) (k0_pay11 a) (sh C 16 128 (by decide)) (sh C 15 128 (by decide)) (sh C 14 128 (by decide)) (sh C 13 128 (by decide)) w (ix2 r e)
     = ∑ d : Fin 128, pooled (past C r) (posn a r.val) 1 d * (w (ix3 0 d e) : EReal) := by
  have h0 := sh_past C r 16 0 128 1 rfl rfl (by decide)
  have h1 := sh_past C r 15 1 128 1 rfl rfl (by decide)
  have h2 := sh_past C r 14 2 128 1 rfl rfl (by decide)
  have h3 := sh_past C r 13 3 128 1 rfl rfl (by decide)
  have hp := pay11 a r
  generalize sh C 16 128 _ = y0 at *
  generalize sh C 15 128 _ = y1 at *
  generalize sh C 14 128 _ = y2 at *
  generalize sh C 13 128 _ = y3 at *
  generalize k0_pay11 (F := Ideal) a = yp at *
  pointwise [k0_pay14]
  simp only [h0, h1, h2, h3, hp]
  rfl

/-- The third group's mix. -/
theorem pool2 (w : Vec Ideal S1x128x128 .bf16) (e : Fin 128) :
    k0_pay16 (F := Ideal) (k0_pay11 a) (sh C 16 256 (by decide)) (k0_pay15 (sh C 16 256 (by decide)) (sh C 15 256 (by decide)) (sh C 14 256 (by decide)) (sh C 13 256 (by decide)) (sh C 12 256 (by decide)) (sh C 11 256 (by decide))) (sh C 10 256 (by decide)) (sh C 9 256 (by decide)) w (ix2 r e)
     = ∑ d : Fin 128, pooled (past C r) (posn a r.val) 2 d * (w (ix3 0 d e) : EReal) := by
  have h0 := sh_past C r 16 0 256 2 rfl rfl (by decide)
  have h1 := sh_past C r 15 1 256 2 rfl rfl (by decide)
  have h2 := sh_past C r 14 2 256 2 rfl rfl (by decide)
  have h3 := sh_past C r 13 3 256 2 rfl rfl (by decide)
  have h4 := sh_past C r 12 4 256 2 rfl rfl (by decide)
  have h5 := sh_past C r 11 5 256 2 rfl rfl (by decide)
  have h6 := sh_past C r 10 6 256 2 rfl rfl (by decide)
  have h7 := sh_past C r 9 7 256 2 rfl rfl (by decide)
  have hp := pay11 a r
  generalize sh C 16 256 _ = y0 at *
  generalize sh C 15 256 _ = y1 at *
  generalize sh C 14 256 _ = y2 at *
  generalize sh C 13 256 _ = y3 at *
  generalize sh C 12 256 _ = y4 at *
  generalize sh C 11 256 _ = y5 at *
  generalize sh C 10 256 _ = y6 at *
  generalize sh C 9 256 _ = y7 at *
  generalize k0_pay11 (F := Ideal) a = yp at *
  pointwise [k0_pay16, k0_pay15]
  simp only [h0, h1, h2, h3, h4, h5, h6, h7, hp]
  rfl

/-- Branch B and the gated sum of the branches. -/
theorem pay18 (A : FVec Ideal S256x1024 .f32) (m0 m1 m2 : FVec Ideal S256x128 .f32) (w0 w1 w2 w3 : Vec Ideal S1x128x128 .bf16)
    (h0 : ∀ e, m0 (ix2 r e) = ∑ d : Fin 128, pooled (past C r) (posn a r.val) 0 d * (w0 (ix3 0 d e) : EReal))
    (h1 : ∀ e, m1 (ix2 r e) = ∑ d : Fin 128, pooled (past C r) (posn a r.val) 1 d * (w1 (ix3 0 d e) : EReal))
    (h2 : ∀ e, m2 (ix2 r e) = ∑ d : Fin 128, pooled (past C r) (posn a r.val) 2 d * (w2 (ix3 0 d e) : EReal))
    (s : Vec Ideal S1x512 .f32) (wb : Vec Ideal S512x1024 .bf16) (ga gb : Vec Ideal S256x1024 .f32) (j : Fin 1024) :
    k0_pay18 (F := Ideal) A (k0_pay11 a) m0 m1 m2 (sh C 16 384 (by decide)) (k0_pay17 (sh C 16 384 (by decide)) (sh C 15 384 (by decide)) (sh C 14 384 (by decide)) (sh C 13 384 (by decide)) (sh C 12 384 (by decide)) (sh C 11 384 (by decide)) (sh C 10 384 (by decide)) (sh C 9 384 (by decide)) (sh C 8 384 (by decide)) (sh C 7 384 (by decide))) (sh C 6 384 (by decide)) (sh C 5 384 (by decide)) (sh C 4 384 (by decide)) (sh C 3 384 (by decide)) (sh C 2 384 (by decide)) (sh C 1 384 (by decide)) w3 s wb ga gb (ix2 r j)
     = ga (ix2 r j) * A (ix2 r j) + gb (ix2 r j) * branchB (past C r) (posn a r.val)
        (fun g d e => match g with | 0 => w0 (ix3 0 d e) | 1 => w1 (ix3 0 d e) | 2 => w2 (ix3 0 d e) | 3 => w3 (ix3 0 d e))
        (fun k => s (ix2 0 k)) (fun k j => wb (ix2 k j)) j := by
  have g0 := sh_past C r 16 0 384 3 rfl rfl (by decide)
  have g1 := sh_past C r 15 1 384 3 rfl rfl (by decide)
  have g2 := sh_past C r 14 2 384 3 rfl rfl (by decide)
  have g3 := sh_past C r 13 3 384 3 rfl rfl (by decide)
  have g4 := sh_past C r 12 4 384 3 rfl rfl (by decide)
  have g5 := sh_past C r 11 5 384 3 rfl rfl (by decide)
  have g6 := sh_past C r 10 6 384 3 rfl rfl (by decide)
  have g7 := sh_past C r 9 7 384 3 rfl rfl (by decide)
  have g8 := sh_past C r 8 8 384 3 rfl rfl (by decide)
  have g9 := sh_past C r 7 9 384 3 rfl rfl (by decide)
  have g10 := sh_past C r 6 10 384 3 rfl rfl (by decide)
  have g11 := sh_past C r 5 11 384 3 rfl rfl (by decide)
  have g12 := sh_past C r 4 12 384 3 rfl rfl (by decide)
  have g13 := sh_past C r 3 13 384 3 rfl rfl (by decide)
  have g14 := sh_past C r 2 14 384 3 rfl rfl (by decide)
  have g15 := sh_past C r 1 15 384 3 rfl rfl (by decide)
  have hp := pay11 a r
  generalize sh C 16 384 _ = y0 at *
  generalize sh C 15 384 _ = y1 at *
  generalize sh C 14 384 _ = y2 at *
  generalize sh C 13 384 _ = y3 at *
  generalize sh C 12 384 _ = y4 at *
  generalize sh C 11 384 _ = y5 at *
  generalize sh C 10 384 _ = y6 at *
  generalize sh C 9 384 _ = y7 at *
  generalize sh C 8 384 _ = y8 at *
  generalize sh C 7 384 _ = y9 at *
  generalize sh C 6 384 _ = y10 at *
  generalize sh C 5 384 _ = y11 at *
  generalize sh C 4 384 _ = y12 at *
  generalize sh C 3 384 _ = y13 at *
  generalize sh C 2 384 _ = y14 at *
  generalize sh C 1 384 _ = y15 at *
  generalize k0_pay11 (F := Ideal) a = yp at *
  pointwise [k0_pay18, k0_pay17, branchB, lin, mixed]
  simp only [g0, g1, g2, g3, g4, g5, g6, g7, g8, g9, g10, g11, g12, g13, g14, g15, hp, h0, h1, h2]
  refine congrArg (HAdd.hAdd _) (congrArg (HMul.hMul _) (Finset.sum_congr rfl fun k _ => congrArg (HMul.hMul · _) (congrArg (HMul.hMul · _) ?_)))
  obtain ⟨g, e, rfl⟩ : ∃ (g : Fin 4) (e : Fin 128), k = gd g e :=
    ⟨⟨k.val / 128, by omega⟩, ⟨k.val % 128, by omega⟩, Fin.ext (by show k.val = k.val / 128 * 128 + k.val % 128; omega)⟩
  have eg : (⟨(gd g e).val / 128, by omega⟩ : Fin 4) = g := Fin.ext (by show (g.val * 128 + e.val) / 128 = g.val; omega)
  have ee : (⟨(gd g e).val % 128, by omega⟩ : Fin 128) = e := Fin.ext (by show (g.val * 128 + e.val) % 128 = e.val; omega)
  rw [eg, ee]
  match g with
  | 0 =>
    rw [dif_pos (by show 0 * 128 + e.val < 128; omega)]
    exact Finset.sum_congr rfl fun d _ => congrArg (fun q => _ * (w0 (ix3 0 d q) : EReal)) (show (⟨0 * 128 + e.val, by omega⟩ : Fin 128) = e from Fin.ext (by show 0 * 128 + e.val = e.val; omega))
  | 1 =>
    rw [dif_neg (by show ¬ (1 * 128 + e.val < 128); omega), dif_pos (by show 1 * 128 + e.val - 128 < 128; omega)]
    exact Finset.sum_congr rfl fun d _ => congrArg (fun q => _ * (w1 (ix3 0 d q) : EReal)) (show (⟨1 * 128 + e.val - 128, by omega⟩ : Fin 128) = e from Fin.ext (by show 1 * 128 + e.val - 128 = e.val; omega))
  | 2 =>
    rw [dif_neg (by show ¬ (2 * 128 + e.val < 128); omega), dif_neg (by show ¬ (2 * 128 + e.val - 128 < 128); omega), dif_pos (by show 2 * 128 + e.val - 128 - 128 < 128; omega)]
    exact Finset.sum_congr rfl fun d _ => congrArg (fun q => _ * (w2 (ix3 0 d q) : EReal)) (show (⟨2 * 128 + e.val - 128 - 128, by omega⟩ : Fin 128) = e from Fin.ext (by show 2 * 128 + e.val - 128 - 128 = e.val; omega))
  | 3 =>
    rw [dif_neg (by show ¬ (3 * 128 + e.val < 128); omega), dif_neg (by show ¬ (3 * 128 + e.val - 128 < 128); omega), dif_neg (by show ¬ (3 * 128 + e.val - 128 - 128 < 128); omega)]
    exact Finset.sum_congr rfl fun d _ => congrArg (fun q => _ * (w3 (ix3 0 d q) : EReal)) (Fin.ext (by show 3 * 128 + e.val - 128 - 128 - 128 = e.val; omega))

end

end Cert.MergeIdeal.Block
-- ==== Proof.MergeOut.lean ====
/- The merge call's block: what the body leaves in the result's block, row by row, as the merge of that row and of the rows
   before it. -/
module

public import proofs.«01_k».proof.Proof.MergeBlock

@[expose] public section

set_option maxRecDepth 16384

noncomputable section

open Idealize.ShloMosaic

namespace Cert.Model

/-- A sum of trailing values reads the values up to its length. -/
theorem trail_congr (u v : ℕ → EReal) (n : ℕ) (h : ∀ s ≤ n, u s = v s) : trail u n = trail v n := by
  induction n with
  | zero => exact h 0 le_rfl
  | succ n ih => exact congrArg₂ (HAdd.hAdd) (ih fun s hs => h s (by omega)) (h _ le_rfl)

/-- Likewise a trailing mean. -/
theorem pool_congr (u v : ℕ → EReal) (p : EReal) (n : ℕ) (w : BitVec 32) (h : ∀ s ≤ n, u s = v s) : pool u p n w = pool v p n w := by
  unfold pool
  rw [trail_congr u v n h, h 0 (by omega)]

/-- The merge reads the sixteen last rows of the pooled branch. -/
theorem merge_congr (x o og : Fin 1024 → EReal) (u v : ℕ → Fin 512 → EReal) (p : EReal) (ga gb g : Fin 1024 → EReal)
    (wa : Fin 1024 → Fin 1024 → EReal) (w : Fin 4 → Fin 128 → Fin 128 → EReal) (s : Fin 512 → EReal)
    (wb : Fin 512 → Fin 1024 → EReal) (wo : Fin 1024 → Fin 1024 → EReal) (j : Fin 1024) (h : ∀ s ≤ 15, u s = v s) :
    merge x o og u p ga gb g wa w s wb wo j = merge x o og v p ga gb g wa w s wb wo j := by
  have hp : pooled u p = pooled v p := funext fun g => funext fun d => by
    match g with
    | 0 => exact pool_congr _ _ _ _ _ fun s hs => congrFun (h s (by omega)) _
    | 1 => exact pool_congr _ _ _ _ _ fun s hs => congrFun (h s (by omega)) _
    | 2 => exact pool_congr _ _ _ _ _ fun s hs => congrFun (h s (by omega)) _
    | 3 => exact pool_congr _ _ _ _ _ fun s hs => congrFun (h s (by omega)) _
  unfold merge branchB mixed
  rw [hp]

end Cert.Model

namespace Cert.MergeIdeal.Block
open Cert.MergeIdeal Cert.MergeIdeal.Gen Cert.Model

theorem hz : (![0, 0] : Fin 2 → Nat) = fun _ => 0 := funext fun a => by fin_cases a <;> rfl

/-- The residual and the output projection. -/
theorem pay1 (y : FVec Ideal S256x1024 .f32) (x : Vec Ideal S256x1024 .f32) (w : Vec Ideal S1024x1024 .bf16) (r : Fin 256) (j : Fin 1024) :
    k0_pay1 (F := Ideal) y x w (ix2 r j) = x (ix2 r j) + lin (fun k => y (ix2 r k)) (fun k j => w (ix2 k j)) j := by
  pointwise [k0_pay1, lin]

/-- The body's history: the block of sixteen rows before, then the block. -/
def hist (i : grid0.Coords) (x3 : Vec Ideal S256x512 .f32) (x4 : Vec Ideal S16x512 .f32) : S272x512.Idx → EReal :=
  View.canon (Val := Elt Ideal) (s := S272x512) (e := .f32) [⟨Rect.unit ![16, 0] S256x512.size inb_S272x512_S256x512_16_0, k0_pay10 x3⟩,
    ⟨Rect.unit ![0, 0] S16x512.size inb_S272x512_S16x512_0_0, k0_pay9 (BitVec.ofNat 32 ↑(i 1)) x4⟩]

/-- A covered load of a history is a load of what its pieces say. -/
theorem cov (v : View sig .tc .vmem S272x512 .f32) (L : List (View.Piece (Elt Ideal) S272x512 .f32)) (a b : ℕ)
    (inb : ∀ k, (![a, b] : Fin 2 → ℕ) k + S256x128.size k ≤ S272x512.size k) :
    v.readCov L (Rect.unit (s := S272x512) ![a, b] S256x128.size inb).toLoadRect = sh (View.canon L) a b ⟨inb 0, inb 1⟩ := by
  rw [View.readCov_eq_canon']
  refine funext fun y => congrArg (View.canon L) (funext fun k => Fin.ext ?_)
  match k with
  | ⟨0, _⟩ => show a + 1 * (y 0).val = a + (y 0).val; omega
  | ⟨1, _⟩ => show b + 1 * (y 1).val = b + (y 1).val; omega

set_option maxHeartbeats 2000000 in
/-- A row of the result's block. -/
theorem out_at (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S256x1024 .f32) (harg15 : arg15.IsWhole) (arg16 : Memref sig .tc .vmem S272x512 .f32) (harg16 : arg16.IsWhole) (x0 : Vec Ideal S256x1024 .f32) (x1 : Vec Ideal S256x1024 .f32) (x2 : Vec Ideal S256x1024 .f32) (x3 : Vec Ideal S256x512 .f32) (x4 : Vec Ideal S16x512 .f32) (x5 : Vec Ideal S256x1024 .f32) (x6 : Vec Ideal S256x1024 .f32) (x7 : Vec Ideal S1x1024 .f32) (x8 : Vec Ideal S1024x1024 .bf16) (x9 : Vec Ideal S4x128x128 .bf16) (x10 : Vec Ideal S1x512 .f32) (x11 : Vec Ideal S512x1024 .bf16) (x12 : Vec Ideal S1024x1024 .bf16) (r : Fin 256) (j : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r j)
      = merge (fun k => x0 (ix2 r k)) (fun k => x1 (ix2 r k)) (fun k => x2 (ix2 r k)) (past (hist i x3 x4) r) (posn (BitVec.ofNat 32 (i 1).val) r.val)
          (fun k => x5 (ix2 r k)) (fun k => x6 (ix2 r k)) (fun k => x7 (ix2 0 k)) (fun k j => x8 (ix2 k j)) (fun g d e => x9 (ix3 g d e)) (fun k => x10 (ix2 0 k))
          (fun k j => x11 (ix2 k j)) (fun k j => x12 (ix2 k j)) j := by
  unfold out0_A_13
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  simp only [View.ld_unit_zero (S := S256x1024) hz, View.ld_unit_zero (S := S1x1024) hz, View.ld_unit_zero (S := S1024x1024) hz, View.ld_unit_zero (S := S256x512) hz,
    View.ld_unit_zero (S := S16x512) hz, View.ld_unit_zero (S := S1x512) hz, View.ld_unit_zero (S := S512x1024) hz]
  rw [cov _ _ 16 0 inb_S272x512_S256x128_16_0, cov _ _ 15 0 inb_S272x512_S256x128_15_0, cov _ _ 16 128 inb_S272x512_S256x128_16_128, cov _ _ 15 128 inb_S272x512_S256x128_15_128, cov _ _ 14 128 inb_S272x512_S256x128_14_128, cov _ _ 13 128 inb_S272x512_S256x128_13_128, cov _ _ 16 256 inb_S272x512_S256x128_16_256, cov _ _ 15 256 inb_S272x512_S256x128_15_256, cov _ _ 14 256 inb_S272x512_S256x128_14_256, cov _ _ 13 256 inb_S272x512_S256x128_13_256, cov _ _ 12 256 inb_S272x512_S256x128_12_256, cov _ _ 11 256 inb_S272x512_S256x128_11_256, cov _ _ 10 256 inb_S272x512_S256x128_10_256, cov _ _ 9 256 inb_S272x512_S256x128_9_256, cov _ _ 16 384 inb_S272x512_S256x128_16_384, cov _ _ 15 384 inb_S272x512_S256x128_15_384, cov _ _ 14 384 inb_S272x512_S256x128_14_384, cov _ _ 13 384 inb_S272x512_S256x128_13_384, cov _ _ 12 384 inb_S272x512_S256x128_12_384, cov _ _ 11 384 inb_S272x512_S256x128_11_384, cov _ _ 10 384 inb_S272x512_S256x128_10_384, cov _ _ 9 384 inb_S272x512_S256x128_9_384, cov _ _ 8 384 inb_S272x512_S256x128_8_384, cov _ _ 7 384 inb_S272x512_S256x128_7_384, cov _ _ 6 384 inb_S272x512_S256x128_6_384, cov _ _ 5 384 inb_S272x512_S256x128_5_384, cov _ _ 4 384 inb_S272x512_S256x128_4_384, cov _ _ 3 384 inb_S272x512_S256x128_3_384, cov _ _ 2 384 inb_S272x512_S256x128_2_384, cov _ _ 1 384 inb_S272x512_S256x128_1_384]
  rw [pay1]
  unfold merge
  refine congrArg (HAdd.hAdd _) (Finset.sum_congr rfl fun k _ => congrArg (HMul.hMul · _) ?_)
  refine (pay18 (hist i x3 x4) _ r _ _ _ _ _ _ _ _ (pool0 (hist i x3 x4) _ r _) (pool1 (hist i x3 x4) _ r _) (pool2 (hist i x3 x4) _ r _) _ _ _ _ k).trans ?_
  rw [pay8]
  refine congrArg (HAdd.hAdd _) (congrArg (HMul.hMul _) (congrArg (fun w => branchB _ _ w _ _ _) (funext fun g => funext fun d => funext fun e => ?_)))
  match g with
  | 0 => exact congrArg x9 (funext fun a => Fin.ext (by match a with | ⟨0, _⟩ => rfl | ⟨1, _⟩ => (show 0 + 1 * d.val = d.val; omega) | ⟨2, _⟩ => (show 0 + 1 * e.val = e.val; omega)))
  | 1 => exact congrArg x9 (funext fun a => Fin.ext (by match a with | ⟨0, _⟩ => rfl | ⟨1, _⟩ => (show 0 + 1 * d.val = d.val; omega) | ⟨2, _⟩ => (show 0 + 1 * e.val = e.val; omega)))
  | 2 => exact congrArg x9 (funext fun a => Fin.ext (by match a with | ⟨0, _⟩ => rfl | ⟨1, _⟩ => (show 0 + 1 * d.val = d.val; omega) | ⟨2, _⟩ => (show 0 + 1 * e.val = e.val; omega)))
  | 3 => exact congrArg x9 (funext fun a => Fin.ext (by match a with | ⟨0, _⟩ => rfl | ⟨1, _⟩ => (show 0 + 1 * d.val = d.val; omega) | ⟨2, _⟩ => (show 0 + 1 * e.val = e.val; omega)))

/-- The history's row `s` rows before row `r`: the block's own, or one of the sixteen before, nothing before the first block. -/
theorem past_hist (i : grid0.Coords) (x3 : Vec Ideal S256x512 .f32) (x4 : Vec Ideal S16x512 .f32) (r : Fin 256) (s : ℕ) (hs : s ≤ 15) (c : Fin 512) :
    past (hist i x3 x4) r s c = if h : s ≤ r.val then x3 (ix2 ⟨r.val - s, by omega⟩ c)
      else if (i 1).val = 0 then 0 else x4 (ix2 ⟨16 + r.val - s, by omega⟩ c) := by
  unfold past hist
  split
  · next h =>
    have e : (ix2 ⟨16 + r.val - s, by omega⟩ c : S272x512.Idx) = (Rect.unit (s := S272x512) ![16, 0] S256x512.size inb_S272x512_S256x512_16_0).emb (ix2 ⟨r.val - s, by omega⟩ c) := funext fun a => Fin.ext (by
      match a with
      | ⟨0, _⟩ => show 16 + r.val - s = 16 + 1 * (r.val - s); omega
      | ⟨1, _⟩ => show c.val = 0 + 1 * c.val; omega)
    rw [e, View.canon_cons_emb]
    unfold k0_pay10
    rw [shapeCast_self]
  · next h =>
    rw [View.canon_cons_of_not_mem _ _ (by
      rw [Rect.mem_set_unit]
      intro hh
      have := (hh 0).1
      have : 16 ≤ 16 + r.val - s := this
      omega)]
    have e : (ix2 ⟨16 + r.val - s, by omega⟩ c : S272x512.Idx) = (Rect.unit (s := S272x512) ![0, 0] S16x512.size inb_S272x512_S16x512_0_0).emb (ix2 ⟨16 + r.val - s, by omega⟩ c) := funext fun a => Fin.ext (by
      match a with
      | ⟨0, _⟩ => show 16 + r.val - s = 0 + 1 * (16 + r.val - s); omega
      | ⟨1, _⟩ => show c.val = 0 + 1 * c.val; omega)
    rw [e, View.canon_cons_emb]
    pointwise [k0_pay9]
    have hc : ∀ a : Fin 32, Scalar.cmpi .eq (BitVec.ofNat 32 a.val) 0#32 = if a.val = 0 then 1#1 else 0#1 := by decide +kernel
    rw [hc (i 1)]
    split <;> rfl

end Cert.MergeIdeal.Block
-- ==== Proof.MergeSums.lean ====
/- The merge reference's running sums, at an index, and the difference of two of them as a sum of last positions. -/
module

public import proofs.«01_k».proof.Proof.MergeBlock
public import proofs.«01_k».proof.Proof.Lemmas

@[expose] public section

set_option maxRecDepth 16384

noncomputable section

open Idealize.ShloMosaic

namespace Cert.MergeRefIdeal.Block
open Cert.MergeRefIdeal Cert.MergeRefIdeal.Gen Cert.MergeRefIdeal.Read Cert.Model Cert.Lemmas

/-- Position `t` of sequence `b` as a row. -/
abbrev row (b : Fin 2) (t : Fin 8192) : Fin 16384 := ⟨b.val * 8192 + t.val, by omega⟩

/-- The row `s` rows before row `n` in its sequence, zero before the sequence. -/
def before (x : S16384x512.Idx → EReal) (n : Fin 16384) (s : ℕ) (c : Fin 512) : EReal :=
  if s ≤ n.val % 8192 then x (ix2 ⟨n.val - s, by omega⟩ c) else 0

/-- Position `s` of sequence `b`, zero after the sequence. -/
def step (U : Fin 16384 → Fin 512 → ℝ) (b : Fin 2) (c : Fin 512) (s : ℕ) : ℝ := if h : s < 8192 then U (row b ⟨s, h⟩) c else 0

/-- The sum of the first `n` positions of sequence `b`. -/
def sums (U : Fin 16384 → Fin 512 → ℝ) (b : Fin 2) (c : Fin 512) (n : ℕ) : ℝ := ∑ s ∈ Finset.range n, step U b c s

section
variable (x3 : S16384x512.Idx → EReal) (b : Fin 2) (t : Fin 8192)

/-- Row `s` before, of a row of the same sequence. -/
theorem before_pos (s : ℕ) (h : s ≤ t.val) (c : Fin 512) : before x3 (row b t) s c = x3 (ix2 (row b ⟨t.val - s, by omega⟩) c) := by
  unfold before
  rw [if_pos (by show s ≤ (b.val * 8192 + t.val) % 8192; omega)]
  exact congrArg (fun q => x3 (ix2 q c)) (Fin.ext (by show b.val * 8192 + t.val - s = b.val * 8192 + (t.val - s); omega))

theorem before_neg (s : ℕ) (h : ¬ s ≤ t.val) (c : Fin 512) : before x3 (row b t) s c = 0 := by
  unfold before
  rw [if_neg (by show ¬ s ≤ (b.val * 8192 + t.val) % 8192; omega)]

/-- The pooling's argument, its columns in groups. -/
theorem v24_at (g : Fin 4) (d : Fin 128) : val_main_v24 (F := Ideal) x3 (ix4 b t g d) = x3 (ix2 (row b t) (gd g d)) := by
  pointwise [val_main_v24]
  done

/-- The window of the running sum. -/
abbrev W : Shape := ⟨S2x8192x4x128.rank, ![1, 8192, 1, 1]⟩

/-- A place of the window is its place along the positions. -/
def along : W.Idx ≃ Fin 8192 where
  toFun w := w 1
  invFun r := ix4 (0 : Fin 1) r (0 : Fin 1) (0 : Fin 1)
  left_inv w := by
    funext a; apply Fin.ext
    match a with
    | ⟨0, _⟩ => have : (w 0).val < 1 := (w 0).isLt; show 0 = (w 0).val; omega
    | ⟨1, _⟩ => rfl
    | ⟨2, _⟩ => have : (w 2).val < 1 := (w 2).isLt; show 0 = (w 2).val; omega
    | ⟨3, _⟩ => have : (w 3).val < 1 := (w 3).isLt; show 0 = (w 3).val; omega
  right_inv r := rfl

/-- The running sum along a sequence's positions. -/
theorem v26_at (g : Fin 4) (d : Fin 128) :
    val_main_v26 (F := Ideal) x3 (ix4 b t g d) = ∑ r : Fin 8192, if r.val ≤ t.val then x3 (ix2 (row b r) (gd g d)) else 0 := by
  have hx := fun r => v24_at x3 b r g d
  unfold val_main_v26
  generalize val_main_v24 (F := Ideal) x3 = x at *
  simp only [← hx]
  have hv : ∀ i, val_main_call0_call0_v0 (F := Ideal) i = 0 := fun i => by
    pointwise [val_main_call0_call0_v0, val_main_call0_call0_cst]
    first | exact Ideal.ofBits_zero | skip
  have h0 : val_main_call0_call0_v0 (F := Ideal) = fun _ => (0 : EReal) := funext hv
  rw [h0]
  simp only [Host.reduceWindowAdd, Ideal.hostReduceWindowAdd_def]
  refine (window_sum (s := S2x8192x4x128) (t := S2x8192x4x128) ![1, 8192, 1, 1] ![1, 1, 1, 1] ![0, 8191, 0, 0] ![0, 0, 0, 0]
    reduceWindows_S2x8192x4x128_S2x8192x4x128_w1s1p0_0_w8192s1p8191_0_w1s1p0_0_w1s1p0_0 x (ix4 b t g d)).trans ?_
  refine Fintype.sum_equiv (along.trans (Equiv.addRight (⟨(t.val + 1) % 8192, by omega⟩ : Fin 8192))) _ _ fun w => ?_
  have w0 : (w 0).val < 1 := (w 0).isLt
  have w1 : (w 1).val < 8192 := (w 1).isLt
  have w2 : (w 2).val < 1 := (w 2).isLt
  have w3 : (w 3).val < 1 := (w 3).isLt
  have ht := t.isLt
  have er : ((along.trans (Equiv.addRight (⟨(t.val + 1) % 8192, by omega⟩ : Fin 8192))) w).val = ((w 1).val + (t.val + 1) % 8192) % 8192 := Fin.val_add _ _
  generalize (along.trans (Equiv.addRight (⟨(t.val + 1) % 8192, by omega⟩ : Fin 8192))) w = r at er ⊢
  by_cases hw : 8191 ≤ t.val + (w 1).val
  · have hr : r.val = t.val + (w 1).val - 8191 := by omega
    rw [dif_pos (fun a => by
      match a with
      | ⟨0, _⟩ => show 0 ≤ b.val * 1 + (w 0).val ∧ b.val * 1 + (w 0).val - 0 < 2; omega
      | ⟨1, _⟩ => show 8191 ≤ t.val * 1 + (w 1).val ∧ t.val * 1 + (w 1).val - 8191 < 8192; omega
      | ⟨2, _⟩ => show 0 ≤ g.val * 1 + (w 2).val ∧ g.val * 1 + (w 2).val - 0 < 4; omega
      | ⟨3, _⟩ => show 0 ≤ d.val * 1 + (w 3).val ∧ d.val * 1 + (w 3).val - 0 < 128; omega), if_pos (show r.val ≤ t.val from by omega)]
    refine congrArg x (funext fun a => Fin.ext ?_)
    match a with
    | ⟨0, _⟩ => show b.val * 1 + (w 0).val - 0 = b.val; omega
    | ⟨1, _⟩ => show t.val * 1 + (w 1).val - 8191 = r.val; omega
    | ⟨2, _⟩ => show g.val * 1 + (w 2).val - 0 = g.val; omega
    | ⟨3, _⟩ => show d.val * 1 + (w 3).val - 0 = d.val; omega
  · rw [dif_neg (fun hin => hw (by have h2 : 8191 ≤ t.val * 1 + (w 1).val := (hin 1).1; omega)), if_neg (show ¬r.val ≤ t.val from by omega)]

variable {x3} {U : Fin 16384 → Fin 512 → ℝ} (hU : ∀ n c, x3 (ix2 n c) = ((U n c : ℝ) : EReal))

include hU in
/-- The running sum of finite values. -/
theorem v26_sums (g : Fin 4) (d : Fin 128) : val_main_v26 (F := Ideal) x3 (ix4 b t g d) = ((sums U b (gd g d) (t.val + 1) : ℝ) : EReal) := by
  have ht := t.isLt
  have e : sums U b (gd g d) (t.val + 1) = ∑ r : Fin 8192, if r.val ≤ t.val then U (row b r) (gd g d) else 0 := by
    unfold sums
    have e1 : ∀ r : Fin 8192, (if r.val ≤ t.val then U (row b r) (gd g d) else 0) = (fun s => if s ≤ t.val then step U b (gd g d) s else 0) r.val := fun r => by
      dsimp only
      rw [step, dif_pos r.isLt]
    rw [Finset.sum_congr rfl fun r _ => e1 r, Fin.sum_univ_eq_sum_range (fun s => if s ≤ t.val then step U b (gd g d) s else 0) 8192, ← Finset.sum_filter]
    refine Finset.sum_congr (Finset.ext fun r => ?_) fun _ _ => rfl
    simp only [Finset.mem_filter, Finset.mem_range]
    omega
  rw [v26_at, e, coe_sum]
  refine Finset.sum_congr rfl fun r _ => ?_
  split
  · exact hU _ _
  · exact EReal.coe_zero.symm

include hU in
/-- The sums of the first positions: of none, of one, and so on. -/
theorem v27_at (n : Fin 8193) (g : Fin 4) (d : Fin 128) : val_main_v27 (F := Ideal) x3 (ix4 b n g d) = ((sums U b (gd g d) n.val : ℝ) : EReal) := by
  have h := fun t => v26_sums b t hU g d
  have hz : ∀ i, val_main_v25 (F := Ideal) i = 0 := fun i => by
    pointwise [val_main_v25, val_main_cst_2]
    first | exact Ideal.ofBits_zero | skip
  have hn := n.isLt
  unfold val_main_v27
  generalize val_main_v26 (F := Ideal) x3 = y at *
  generalize val_main_v25 (F := Ideal) = z at *
  pointwise []
  by_cases h0 : n.val < 1
  · rw [dif_pos h0, hz, show n.val = 0 from by omega, sums, Finset.sum_range_zero, EReal.coe_zero]
  · rw [dif_neg h0]
    refine Eq.trans (congrArg (fun q => y (ix4 b q g d)) (Fin.ext ?_)) ((h ⟨n.val - 1, by omega⟩).trans ?_)
    · rfl
    · dsimp only
      rw [show n.val - 1 + 1 = n.val from by omega]

include hU in
/-- The sum of a position and its `n` predecessors is the difference of two of the sums. -/
theorem trail_sums (c : Fin 512) (n : ℕ) :
    trail (fun s => before x3 (row b t) s c) n = ((sums U b c (t.val + 1) : ℝ) : EReal) - ((sums U b c (t.val - n) : ℝ) : EReal) := by
  have hs : ∀ s (hs : s < 8192), sums U b c (s + 1) = sums U b c s + U (row b ⟨s, hs⟩) c := fun s hs => by
    unfold sums
    rw [Finset.sum_range_succ, step, dif_pos hs]
  rw [← EReal.coe_sub]
  induction n with
  | zero =>
    rw [trail, before_pos x3 b t 0 (Nat.zero_le _), hU]
    refine congrArg _ ?_
    show U (row b t) c = sums U b c (t.val + 1) - sums U b c t.val
    rw [hs t.val t.isLt, add_sub_cancel_left]
  | succ n ih =>
    rw [trail, ih]
    by_cases h : n + 1 ≤ t.val
    · have e := hs (t.val - (n + 1)) (by omega)
      rw [show t.val - (n + 1) + 1 = t.val - n from by omega] at e
      rw [before_pos x3 b t (n + 1) h, hU, ← EReal.coe_add, e]
      refine congrArg _ ?_
      ring
    · rw [before_neg x3 b t (n + 1) h, add_zero, show t.val - n = t.val - (n + 1) from by omega]

end

end Cert.MergeRefIdeal.Block
end
-- ==== Proof.MergeRef.lean ====
/- The merge's reference, at an index: a row of it is the merge of that row and of the rows of its sequence before it. -/
module

public import proofs.«01_k».proof.Proof.MergeSums

@[expose] public section

set_option maxRecDepth 16384

noncomputable section

open Idealize.ShloMosaic

namespace Cert.MergeRefIdeal.Block
open Cert.MergeRefIdeal Cert.MergeRefIdeal.Gen Cert.MergeRefIdeal.Read Cert.Model

/-- A position, counted from one. -/
def place (t : Fin 8192) : EReal := 1 + (((BitVec.ofNat 32 t.val).toInt : ℝ) : EReal)

section
variable (x0 x1 x2 x4 x5 : S16384x1024.Idx → EReal) (x3 : S16384x512.Idx → EReal) (x6 : S1x1024.Idx → EReal) (x7 x11 : S1x1024x1024.Idx → EReal)
  (x8 : S1x4x128x128.Idx → EReal) (x9 : S1x512.Idx → EReal) (x10 : S1x512x1024.Idx → EReal) (b : Fin 2) (t : Fin 8192)

/-- The positions. -/
theorem places : val_main_v30 (F := Ideal) (ix1 t) = place t := by
  pointwise [val_main_v30, val_main_v29, val_main_cst_3, val_main_v28]
  rfl

/-- The pooling's last steps: the difference of two sums over the smaller of the position and the window, less the value. -/
theorem quotient_at (y0 y1 y2 : S2x8192x128.Idx → EReal) (p : S8192.Idx → EReal) (w : BitVec 32) (b : Fin 2) (t : Fin 8192) (d : Fin 128) :
    subf (F := Ideal) (φ := .f32) (Host.divf (subf y1 y2) (broadcastInDim S2x8192x128 ![0, 1, 2] bcast_S1x8192x1_S2x8192x128_0_1_2
        (broadcastInDim S1x8192x1 ![1] bcast_S8192_S1x8192x1_1 (minimumf p (broadcastInDim S8192 ![] bcast_S_S8192 (constant S_ .f32 w)))))) y0 (ix3 b t d)
      = Ideal.div (y1 (ix3 b t d) - y2 (ix3 b t d)) (min (p (ix1 t)) (Ideal.ofBits .f32 w)) - y0 (ix3 b t d) := by
  pointwise []

/-- A trailing mean less the value, its trailing sum a difference. -/
theorem pool_of {u : ℕ → EReal} {p a z c : EReal} {n : ℕ} {w : BitVec 32} (ht : trail u n = a - z) (h0 : c = u 0) :
    Ideal.div (a - z) (min p (Ideal.ofBits .f32 w)) - c = pool u p n w := by
  unfold Cert.Model.pool
  rw [ht, h0]

/-! ## The groups, of finite values -/

variable {U : Fin 16384 → Fin 512 → ℝ} (hU : ∀ n c, x3 (ix2 n c) = ((U n c : ℝ) : EReal))

/-- Group 0 of a row. -/
theorem own0 (d : Fin 128) : val_main_v44 (F := Ideal) x3 (ix3 b t d) = x3 (ix2 (row b t) (gd 0 d)) := by
  have h := v24_at x3 b t 0 d
  unfold val_main_v44 val_main_v43
  generalize val_main_v24 (F := Ideal) x3 = y at *
  pointwise []
  exact h

include hU in
/-- The sums of the first positions, group 0. -/
theorem cut0 (n : Fin 8193) (d : Fin 128) : val_main_v32 (F := Ideal) x3 (ix3 b n d) = ((sums U b (gd 0 d) n.val : ℝ) : EReal) := by
  have h := v27_at b hU n 0 d
  generalize ((sums U b (gd 0 d) n.val : ℝ) : EReal) = a at *
  unfold val_main_v32 val_main_v31
  generalize val_main_v27 (F := Ideal) x3 = y at *
  refine (shapeCast_apply _ shapeCasts_S2x8193x1x128_S2x8193x128 (ix3 b n d) (ix4 b n (0 : Fin 1) d) ?_).trans
    ((extractStridedSlice_apply ![0, 0, 0, 0] y slices_S2x8193x4x128_S2x8193x1x128_0_0_0_0 (ix4 b n (0 : Fin 1) d) (ix4 b n 0 d) (fun a => ?_)).trans h)
  · rw [Shape.rowMajor_val_four, Shape.rowMajor_val_three]
    show ((b.val * 8193 + n.val) * 1 + 0) * 128 + d.val = (b.val * 8193 + n.val) * 128 + d.val
    omega
  · match a with
    | ⟨0, _⟩ => show b.val = 0 + b.val; omega
    | ⟨1, _⟩ => show n.val = 0 + n.val; omega
    | ⟨2, _⟩ => rfl
    | ⟨3, _⟩ => show d.val = 0 + d.val; omega

include hU in
/-- The sum of a row and all before it, group 0. -/
theorem upper0 (d : Fin 128) : val_main_v33 (F := Ideal) x3 (ix3 b t d) = ((sums U b (gd 0 d) (t.val + 1) : ℝ) : EReal) := by
  have h : val_main_v32 (F := Ideal) x3 (ix3 b ⟨t.val + 1, by omega⟩ d) = ((sums U b (gd 0 d) (t.val + 1) : ℝ) : EReal) := cut0 x3 b hU ⟨t.val + 1, by omega⟩ d
  generalize ((sums U b (gd 0 d) (t.val + 1) : ℝ) : EReal) = a at *
  unfold val_main_v33
  generalize val_main_v32 (F := Ideal) x3 = y at *
  refine (extractStridedSlice_apply ![0, 1, 0] y slices_S2x8193x128_S2x8192x128_0_1_0 (ix3 b t d) (ix3 b ⟨t.val + 1, by omega⟩ d) (fun a => ?_)).trans h
  match a with
  | ⟨0, _⟩ => show b.val = 0 + b.val; omega
  | ⟨1, _⟩ => show t.val + 1 = 1 + t.val; omega
  | ⟨2, _⟩ => show d.val = 0 + d.val; omega

include hU in
/-- The sum of the rows before its window, group 0. -/
theorem lower0 (d : Fin 128) : val_main_v36 (F := Ideal) x3 (ix3 b t d) = ((sums U b (gd 0 d) (t.val - 1) : ℝ) : EReal) := by
  have h : val_main_v32 (F := Ideal) x3 (ix3 b ⟨t.val - 1, by omega⟩ d) = ((sums U b (gd 0 d) (t.val - 1) : ℝ) : EReal) := cut0 x3 b hU ⟨t.val - 1, by omega⟩ d
  have h1 : t.val < 1 → ((sums U b (gd 0 d) (t.val - 1) : ℝ) : EReal) = 0 := fun h0 => by
    rw [show t.val - 1 = 0 from by omega, sums, Finset.sum_range_zero, EReal.coe_zero]
  generalize ((sums U b (gd 0 d) (t.val - 1) : ℝ) : EReal) = a at *
  have hz : ∀ i, val_main_v34 (F := Ideal) i = 0 := fun i => by
    pointwise [val_main_v34, val_main_cst_4]
    first | exact Ideal.ofBits_zero | skip
  have hs (hn : 1 ≤ t.val) : val_main_v35 (F := Ideal) x3 (ix3 b ⟨t.val - 1, by omega⟩ d) = a := by
    unfold val_main_v35
    generalize val_main_v32 (F := Ideal) x3 = y at *
    refine (extractStridedSlice_apply ![0, 0, 0] y slices_S2x8193x128_S2x8191x128_0_0_0 (ix3 b ⟨t.val - 1, by omega⟩ d) (ix3 b ⟨t.val - 1, by omega⟩ d) (fun a => ?_)).trans h
    match a with
    | ⟨0, _⟩ => show b.val = 0 + b.val; omega
    | ⟨1, _⟩ => show t.val - 1 = 0 + (t.val - 1); omega
    | ⟨2, _⟩ => show d.val = 0 + d.val; omega
  unfold val_main_v36
  generalize val_main_v35 (F := Ideal) x3 = y at *
  generalize val_main_v34 (F := Ideal) = z at *
  clear h
  pointwise []
  by_cases h0 : t.val < 1
  · rw [dif_pos h0, hz, h1 h0]
  · rw [dif_neg h0]
    exact hs (by omega)

include hU in
/-- Group 0 pooled. -/
theorem pooled0 (d : Fin 128) : val_main_v45 (F := Ideal) x3 (ix3 b t d) = pooled (before x3 (row b t)) (place t) 0 d := by
  have ho := (own0 x3 b t d).trans (before_pos x3 b t 0 (Nat.zero_le _) _).symm
  have hu := upper0 x3 b t hU d
  have hl := lower0 x3 b t hU d
  have hp := places t
  have ht := trail_sums b t hU (gd 0 d) 1
  generalize ((sums U b (gd 0 d) (t.val + 1) : ℝ) : EReal) = a at *
  generalize ((sums U b (gd 0 d) (t.val - 1) : ℝ) : EReal) = z at *
  have key : Ideal.div (a - z) (min (place t) (Ideal.ofBits .f32 0x40000000#32)) - before x3 (row b t) 0 (gd 0 d) = pooled (before x3 (row b t)) (place t) 0 d := pool_of ht rfl
  generalize pooled (before x3 (row b t)) (place t) 0 d = r at *
  generalize before x3 (row b t) 0 (gd 0 d) = c at *
  generalize place t = q at *
  clear ht
  unfold val_main_v45 val_main_v42 val_main_v41 val_main_v40 val_main_v39 val_main_v38 val_main_v37 val_main_cst_5
  generalize val_main_v44 (F := Ideal) x3 = y0 at *
  generalize val_main_v33 (F := Ideal) x3 = y1 at *
  generalize val_main_v36 (F := Ideal) x3 = y2 at *
  generalize val_main_v30 (F := Ideal) = p at *
  refine (quotient_at y0 y1 y2 p _ b t d).trans ?_
  rw [ho, hu, hl, hp]
  exact key

/-- Group 1 of a row. -/
theorem own1 (d : Fin 128) : val_main_v59 (F := Ideal) x3 (ix3 b t d) = x3 (ix2 (row b t) (gd 1 d)) := by
  have h := v24_at x3 b t 1 d
  unfold val_main_v59 val_main_v58
  generalize val_main_v24 (F := Ideal) x3 = y at *
  pointwise []
  exact h

include hU in
/-- The sums of the first positions, group 1. -/
theorem cut1 (n : Fin 8193) (d : Fin 128) : val_main_v47 (F := Ideal) x3 (ix3 b n d) = ((sums U b (gd 1 d) n.val : ℝ) : EReal) := by
  have h := v27_at b hU n 1 d
  generalize ((sums U b (gd 1 d) n.val : ℝ) : EReal) = a at *
  unfold val_main_v47 val_main_v46
  generalize val_main_v27 (F := Ideal) x3 = y at *
  refine (shapeCast_apply _ shapeCasts_S2x8193x1x128_S2x8193x128 (ix3 b n d) (ix4 b n (0 : Fin 1) d) ?_).trans
    ((extractStridedSlice_apply ![0, 0, 1, 0] y slices_S2x8193x4x128_S2x8193x1x128_0_0_1_0 (ix4 b n (0 : Fin 1) d) (ix4 b n 1 d) (fun a => ?_)).trans h)
  · rw [Shape.rowMajor_val_four, Shape.rowMajor_val_three]
    show ((b.val * 8193 + n.val) * 1 + 0) * 128 + d.val = (b.val * 8193 + n.val) * 128 + d.val
    omega
  · match a with
    | ⟨0, _⟩ => show b.val = 0 + b.val; omega
    | ⟨1, _⟩ => show n.val = 0 + n.val; omega
    | ⟨2, _⟩ => rfl
    | ⟨3, _⟩ => show d.val = 0 + d.val; omega

include hU in
/-- The sum of a row and all before it, group 1. -/
theorem upper1 (d : Fin 128) : val_main_v48 (F := Ideal) x3 (ix3 b t d) = ((sums U b (gd 1 d) (t.val + 1) : ℝ) : EReal) := by
  have h : val_main_v47 (F := Ideal) x3 (ix3 b ⟨t.val + 1, by omega⟩ d) = ((sums U b (gd 1 d) (t.val + 1) : ℝ) : EReal) := cut1 x3 b hU ⟨t.val + 1, by omega⟩ d
  generalize ((sums U b (gd 1 d) (t.val + 1) : ℝ) : EReal) = a at *
  unfold val_main_v48
  generalize val_main_v47 (F := Ideal) x3 = y at *
  refine (extractStridedSlice_apply ![0, 1, 0] y slices_S2x8193x128_S2x8192x128_0_1_0 (ix3 b t d) (ix3 b ⟨t.val + 1, by omega⟩ d) (fun a => ?_)).trans h
  match a with
  | ⟨0, _⟩ => show b.val = 0 + b.val; omega
  | ⟨1, _⟩ => show t.val + 1 = 1 + t.val; omega
  | ⟨2, _⟩ => show d.val = 0 + d.val; omega

include hU in
/-- The sum of the rows before its window, group 1. -/
theorem lower1 (d : Fin 128) : val_main_v51 (F := Ideal) x3 (ix3 b t d) = ((sums U b (gd 1 d) (t.val - 3) : ℝ) : EReal) := by
  have h : val_main_v47 (F := Ideal) x3 (ix3 b ⟨t.val - 3, by omega⟩ d) = ((sums U b (gd 1 d) (t.val - 3) : ℝ) : EReal) := cut1 x3 b hU ⟨t.val - 3, by omega⟩ d
  have h1 : t.val < 3 → ((sums U b (gd 1 d) (t.val - 3) : ℝ) : EReal) = 0 := fun h0 => by
    rw [show t.val - 3 = 0 from by omega, sums, Finset.sum_range_zero, EReal.coe_zero]
  generalize ((sums U b (gd 1 d) (t.val - 3) : ℝ) : EReal) = a at *
  have hz : ∀ i, val_main_v49 (F := Ideal) i = 0 := fun i => by
    pointwise [val_main_v49, val_main_cst_6]
    first | exact Ideal.ofBits_zero | skip
  have hs (hn : 3 ≤ t.val) : val_main_v50 (F := Ideal) x3 (ix3 b ⟨t.val - 3, by omega⟩ d) = a := by
    unfold val_main_v50
    generalize val_main_v47 (F := Ideal) x3 = y at *
    refine (extractStridedSlice_apply ![0, 0, 0] y slices_S2x8193x128_S2x8189x128_0_0_0 (ix3 b ⟨t.val - 3, by omega⟩ d) (ix3 b ⟨t.val - 3, by omega⟩ d) (fun a => ?_)).trans h
    match a with
    | ⟨0, _⟩ => show b.val = 0 + b.val; omega
    | ⟨1, _⟩ => show t.val - 3 = 0 + (t.val - 3); omega
    | ⟨2, _⟩ => show d.val = 0 + d.val; omega
  unfold val_main_v51
  generalize val_main_v50 (F := Ideal) x3 = y at *
  generalize val_main_v49 (F := Ideal) = z at *
  clear h
  pointwise []
  by_cases h0 : t.val < 3
  · rw [dif_pos h0, hz, h1 h0]
  · rw [dif_neg h0]
    exact hs (by omega)

include hU in
/-- Group 1 pooled. -/
theorem pooled1 (d : Fin 128) : val_main_v60 (F := Ideal) x3 (ix3 b t d) = pooled (before x3 (row b t)) (place t) 1 d := by
  have ho := (own1 x3 b t d).trans (before_pos x3 b t 0 (Nat.zero_le _) _).symm
  have hu := upper1 x3 b t hU d
  have hl := lower1 x3 b t hU d
  have hp := places t
  have ht := trail_sums b t hU (gd 1 d) 3
  generalize ((sums U b (gd 1 d) (t.val + 1) : ℝ) : EReal) = a at *
  generalize ((sums U b (gd 1 d) (t.val - 3) : ℝ) : EReal) = z at *
  have key : Ideal.div (a - z) (min (place t) (Ideal.ofBits .f32 0x40800000#32)) - before x3 (row b t) 0 (gd 1 d) = pooled (before x3 (row b t)) (place t) 1 d := pool_of ht rfl
  generalize pooled (before x3 (row b t)) (place t) 1 d = r at *
  generalize before x3 (row b t) 0 (gd 1 d) = c at *
  generalize place t = q at *
  clear ht
  unfold val_main_v60 val_main_v57 val_main_v56 val_main_v55 val_main_v54 val_main_v53 val_main_v52 val_main_cst_7
  generalize val_main_v59 (F := Ideal) x3 = y0 at *
  generalize val_main_v48 (F := Ideal) x3 = y1 at *
  generalize val_main_v51 (F := Ideal) x3 = y2 at *
  generalize val_main_v30 (F := Ideal) = p at *
  refine (quotient_at y0 y1 y2 p _ b t d).trans ?_
  rw [ho, hu, hl, hp]
  exact key

/-- Group 2 of a row. -/
theorem own2 (d : Fin 128) : val_main_v74 (F := Ideal) x3 (ix3 b t d) = x3 (ix2 (row b t) (gd 2 d)) := by
  have h := v24_at x3 b t 2 d
  unfold val_main_v74 val_main_v73
  generalize val_main_v24 (F := Ideal) x3 = y at *
  pointwise []
  exact h

include hU in
/-- The sums of the first positions, group 2. -/
theorem cut2 (n : Fin 8193) (d : Fin 128) : val_main_v62 (F := Ideal) x3 (ix3 b n d) = ((sums U b (gd 2 d) n.val : ℝ) : EReal) := by
  have h := v27_at b hU n 2 d
  generalize ((sums U b (gd 2 d) n.val : ℝ) : EReal) = a at *
  unfold val_main_v62 val_main_v61
  generalize val_main_v27 (F := Ideal) x3 = y at *
  refine (shapeCast_apply _ shapeCasts_S2x8193x1x128_S2x8193x128 (ix3 b n d) (ix4 b n (0 : Fin 1) d) ?_).trans
    ((extractStridedSlice_apply ![0, 0, 2, 0] y slices_S2x8193x4x128_S2x8193x1x128_0_0_2_0 (ix4 b n (0 : Fin 1) d) (ix4 b n 2 d) (fun a => ?_)).trans h)
  · rw [Shape.rowMajor_val_four, Shape.rowMajor_val_three]
    show ((b.val * 8193 + n.val) * 1 + 0) * 128 + d.val = (b.val * 8193 + n.val) * 128 + d.val
    omega
  · match a with
    | ⟨0, _⟩ => show b.val = 0 + b.val; omega
    | ⟨1, _⟩ => show n.val = 0 + n.val; omega
    | ⟨2, _⟩ => rfl
    | ⟨3, _⟩ => show d.val = 0 + d.val; omega

include hU in
/-- The sum of a row and all before it, group 2. -/
theorem upper2 (d : Fin 128) : val_main_v63 (F := Ideal) x3 (ix3 b t d) = ((sums U b (gd 2 d) (t.val + 1) : ℝ) : EReal) := by
  have h : val_main_v62 (F := Ideal) x3 (ix3 b ⟨t.val + 1, by omega⟩ d) = ((sums U b (gd 2 d) (t.val + 1) : ℝ) : EReal) := cut2 x3 b hU ⟨t.val + 1, by omega⟩ d
  generalize ((sums U b (gd 2 d) (t.val + 1) : ℝ) : EReal) = a at *
  unfold val_main_v63
  generalize val_main_v62 (F := Ideal) x3 = y at *
  refine (extractStridedSlice_apply ![0, 1, 0] y slices_S2x8193x128_S2x8192x128_0_1_0 (ix3 b t d) (ix3 b ⟨t.val + 1, by omega⟩ d) (fun a => ?_)).trans h
  match a with
  | ⟨0, _⟩ => show b.val = 0 + b.val; omega
  | ⟨1, _⟩ => show t.val + 1 = 1 + t.val; omega
  | ⟨2, _⟩ => show d.val = 0 + d.val; omega

include hU in
/-- The sum of the rows before its window, group 2. -/
theorem lower2 (d : Fin 128) : val_main_v66 (F := Ideal) x3 (ix3 b t d) = ((sums U b (gd 2 d) (t.val - 7) : ℝ) : EReal) := by
  have h : val_main_v62 (F := Ideal) x3 (ix3 b ⟨t.val - 7, by omega⟩ d) = ((sums U b (gd 2 d) (t.val - 7) : ℝ) : EReal) := cut2 x3 b hU ⟨t.val - 7, by omega⟩ d
  have h1 : t.val < 7 → ((sums U b (gd 2 d) (t.val - 7) : ℝ) : EReal) = 0 := fun h0 => by
    rw [show t.val - 7 = 0 from by omega, sums, Finset.sum_range_zero, EReal.coe_zero]
  generalize ((sums U b (gd 2 d) (t.val - 7) : ℝ) : EReal) = a at *
  have hz : ∀ i, val_main_v64 (F := Ideal) i = 0 := fun i => by
    pointwise [val_main_v64, val_main_cst_8]
    first | exact Ideal.ofBits_zero | skip
  have hs (hn : 7 ≤ t.val) : val_main_v65 (F := Ideal) x3 (ix3 b ⟨t.val - 7, by omega⟩ d) = a := by
    unfold val_main_v65
    generalize val_main_v62 (F := Ideal) x3 = y at *
    refine (extractStridedSlice_apply ![0, 0, 0] y slices_S2x8193x128_S2x8185x128_0_0_0 (ix3 b ⟨t.val - 7, by omega⟩ d) (ix3 b ⟨t.val - 7, by omega⟩ d) (fun a => ?_)).trans h
    match a with
    | ⟨0, _⟩ => show b.val = 0 + b.val; omega
    | ⟨1, _⟩ => show t.val - 7 = 0 + (t.val - 7); omega
    | ⟨2, _⟩ => show d.val = 0 + d.val; omega
  unfold val_main_v66
  generalize val_main_v65 (F := Ideal) x3 = y at *
  generalize val_main_v64 (F := Ideal) = z at *
  clear h
  pointwise []
  by_cases h0 : t.val < 7
  · rw [dif_pos h0, hz, h1 h0]
  · rw [dif_neg h0]
    exact hs (by omega)

include hU in
/-- Group 2 pooled. -/
theorem pooled2 (d : Fin 128) : val_main_v75 (F := Ideal) x3 (ix3 b t d) = pooled (before x3 (row b t)) (place t) 2 d := by
  have ho := (own2 x3 b t d).trans (before_pos x3 b t 0 (Nat.zero_le _) _).symm
  have hu := upper2 x3 b t hU d
  have hl := lower2 x3 b t hU d
  have hp := places t
  have ht := trail_sums b t hU (gd 2 d) 7
  generalize ((sums U b (gd 2 d) (t.val + 1) : ℝ) : EReal) = a at *
  generalize ((sums U b (gd 2 d) (t.val - 7) : ℝ) : EReal) = z at *
  have key : Ideal.div (a - z) (min (place t) (Ideal.ofBits .f32 0x41000000#32)) - before x3 (row b t) 0 (gd 2 d) = pooled (before x3 (row b t)) (place t) 2 d := pool_of ht rfl
  generalize pooled (before x3 (row b t)) (place t) 2 d = r at *
  generalize before x3 (row b t) 0 (gd 2 d) = c at *
  generalize place t = q at *
  clear ht
  unfold val_main_v75 val_main_v72 val_main_v71 val_main_v70 val_main_v69 val_main_v68 val_main_v67 val_main_cst_9
  generalize val_main_v74 (F := Ideal) x3 = y0 at *
  generalize val_main_v63 (F := Ideal) x3 = y1 at *
  generalize val_main_v66 (F := Ideal) x3 = y2 at *
  generalize val_main_v30 (F := Ideal) = p at *
  refine (quotient_at y0 y1 y2 p _ b t d).trans ?_
  rw [ho, hu, hl, hp]
  exact key

/-- Group 3 of a row. -/
theorem own3 (d : Fin 128) : val_main_v89 (F := Ideal) x3 (ix3 b t d) = x3 (ix2 (row b t) (gd 3 d)) := by
  have h := v24_at x3 b t 3 d
  unfold val_main_v89 val_main_v88
  generalize val_main_v24 (F := Ideal) x3 = y at *
  pointwise []
  exact h

include hU in
/-- The sums of the first positions, group 3. -/
theorem cut3 (n : Fin 8193) (d : Fin 128) : val_main_v77 (F := Ideal) x3 (ix3 b n d) = ((sums U b (gd 3 d) n.val : ℝ) : EReal) := by
  have h := v27_at b hU n 3 d
  generalize ((sums U b (gd 3 d) n.val : ℝ) : EReal) = a at *
  unfold val_main_v77 val_main_v76
  generalize val_main_v27 (F := Ideal) x3 = y at *
  refine (shapeCast_apply _ shapeCasts_S2x8193x1x128_S2x8193x128 (ix3 b n d) (ix4 b n (0 : Fin 1) d) ?_).trans
    ((extractStridedSlice_apply ![0, 0, 3, 0] y slices_S2x8193x4x128_S2x8193x1x128_0_0_3_0 (ix4 b n (0 : Fin 1) d) (ix4 b n 3 d) (fun a => ?_)).trans h)
  · rw [Shape.rowMajor_val_four, Shape.rowMajor_val_three]
    show ((b.val * 8193 + n.val) * 1 + 0) * 128 + d.val = (b.val * 8193 + n.val) * 128 + d.val
    omega
  · match a with
    | ⟨0, _⟩ => show b.val = 0 + b.val; omega
    | ⟨1, _⟩ => show n.val = 0 + n.val; omega
    | ⟨2, _⟩ => rfl
    | ⟨3, _⟩ => show d.val = 0 + d.val; omega

include hU in
/-- The sum of a row and all before it, group 3. -/
theorem upper3 (d : Fin 128) : val_main_v78 (F := Ideal) x3 (ix3 b t d) = ((sums U b (gd 3 d) (t.val + 1) : ℝ) : EReal) := by
  have h : val_main_v77 (F := Ideal) x3 (ix3 b ⟨t.val + 1, by omega⟩ d) = ((sums U b (gd 3 d) (t.val + 1) : ℝ) : EReal) := cut3 x3 b hU ⟨t.val + 1, by omega⟩ d
  generalize ((sums U b (gd 3 d) (t.val + 1) : ℝ) : EReal) = a at *
  unfold val_main_v78
  generalize val_main_v77 (F := Ideal) x3 = y at *
  refine (extractStridedSlice_apply ![0, 1, 0] y slices_S2x8193x128_S2x8192x128_0_1_0 (ix3 b t d) (ix3 b ⟨t.val + 1, by omega⟩ d) (fun a => ?_)).trans h
  match a with
  | ⟨0, _⟩ => show b.val = 0 + b.val; omega
  | ⟨1, _⟩ => show t.val + 1 = 1 + t.val; omega
  | ⟨2, _⟩ => show d.val = 0 + d.val; omega

include hU in
/-- The sum of the rows before its window, group 3. -/
theorem lower3 (d : Fin 128) : val_main_v81 (F := Ideal) x3 (ix3 b t d) = ((sums U b (gd 3 d) (t.val - 15) : ℝ) : EReal) := by
  have h : val_main_v77 (F := Ideal) x3 (ix3 b ⟨t.val - 15, by omega⟩ d) = ((sums U b (gd 3 d) (t.val - 15) : ℝ) : EReal) := cut3 x3 b hU ⟨t.val - 15, by omega⟩ d
  have h1 : t.val < 15 → ((sums U b (gd 3 d) (t.val - 15) : ℝ) : EReal) = 0 := fun h0 => by
    rw [show t.val - 15 = 0 from by omega, sums, Finset.sum_range_zero, EReal.coe_zero]
  generalize ((sums U b (gd 3 d) (t.val - 15) : ℝ) : EReal) = a at *
  have hz : ∀ i, val_main_v79 (F := Ideal) i = 0 := fun i => by
    pointwise [val_main_v79, val_main_cst_10]
    first | exact Ideal.ofBits_zero | skip
  have hs (hn : 15 ≤ t.val) : val_main_v80 (F := Ideal) x3 (ix3 b ⟨t.val - 15, by omega⟩ d) = a := by
    unfold val_main_v80
    generalize val_main_v77 (F := Ideal) x3 = y at *
    refine (extractStridedSlice_apply ![0, 0, 0] y slices_S2x8193x128_S2x8177x128_0_0_0 (ix3 b ⟨t.val - 15, by omega⟩ d) (ix3 b ⟨t.val - 15, by omega⟩ d) (fun a => ?_)).trans h
    match a with
    | ⟨0, _⟩ => show b.val = 0 + b.val; omega
    | ⟨1, _⟩ => show t.val - 15 = 0 + (t.val - 15); omega
    | ⟨2, _⟩ => show d.val = 0 + d.val; omega
  unfold val_main_v81
  generalize val_main_v80 (F := Ideal) x3 = y at *
  generalize val_main_v79 (F := Ideal) = z at *
  clear h
  pointwise []
  by_cases h0 : t.val < 15
  · rw [dif_pos h0, hz, h1 h0]
  · rw [dif_neg h0]
    exact hs (by omega)

include hU in
/-- Group 3 pooled. -/
theorem pooled3 (d : Fin 128) : val_main_v90 (F := Ideal) x3 (ix3 b t d) = pooled (before x3 (row b t)) (place t) 3 d := by
  have ho := (own3 x3 b t d).trans (before_pos x3 b t 0 (Nat.zero_le _) _).symm
  have hu := upper3 x3 b t hU d
  have hl := lower3 x3 b t hU d
  have hp := places t
  have ht := trail_sums b t hU (gd 3 d) 15
  generalize ((sums U b (gd 3 d) (t.val + 1) : ℝ) : EReal) = a at *
  generalize ((sums U b (gd 3 d) (t.val - 15) : ℝ) : EReal) = z at *
  have key : Ideal.div (a - z) (min (place t) (Ideal.ofBits .f32 0x41800000#32)) - before x3 (row b t) 0 (gd 3 d) = pooled (before x3 (row b t)) (place t) 3 d := pool_of ht rfl
  generalize pooled (before x3 (row b t)) (place t) 3 d = r at *
  generalize before x3 (row b t) 0 (gd 3 d) = c at *
  generalize place t = q at *
  clear ht
  unfold val_main_v90 val_main_v87 val_main_v86 val_main_v85 val_main_v84 val_main_v83 val_main_v82 val_main_cst_11
  generalize val_main_v89 (F := Ideal) x3 = y0 at *
  generalize val_main_v78 (F := Ideal) x3 = y1 at *
  generalize val_main_v81 (F := Ideal) x3 = y2 at *
  generalize val_main_v30 (F := Ideal) = p at *
  refine (quotient_at y0 y1 y2 p _ b t d).trans ?_
  rw [ho, hu, hl, hp]
  exact key

include hU in
/-- The four groups side by side. -/
theorem stack (g : Fin 4) (d : Fin 128) : val_main_v95 (F := Ideal) x3 (ix4 b t g d) = pooled (before x3 (row b t)) (place t) g d := by
  have h0 := pooled0 x3 b t hU d
  have h1 := pooled1 x3 b t hU d
  have h2 := pooled2 x3 b t hU d
  have h3 := pooled3 x3 b t hU d
  unfold val_main_v95 val_main_v94 val_main_v93 val_main_v92 val_main_v91
  generalize val_main_v45 (F := Ideal) x3 = y0 at *
  generalize val_main_v60 (F := Ideal) x3 = y1 at *
  generalize val_main_v75 (F := Ideal) x3 = y2 at *
  generalize val_main_v90 (F := Ideal) x3 = y3 at *
  match g with
  | 0 =>
    pointwise []
    exact h0
  | 1 =>
    pointwise []
    exact h1
  | 2 =>
    pointwise []
    exact h2
  | 3 =>
    pointwise []
    exact h3

include hU in
/-- The groups mixed. -/
theorem mix (g : Fin 4) (e : Fin 128) : val_main_v98 (F := Ideal) x3 x8 (ix4 b t g e) = mixed (before x3 (row b t)) (place t) (fun g d e => x8 (ix4 0 g d e)) g e := by
  have h := fun d => stack x3 b t hU g d
  unfold val_main_v98 val_main_v97 val_main_v96
  generalize val_main_v95 (F := Ideal) x3 = y at *
  pointwise [mixed]
  simp only [h]
  exact Finset.sum_congr rfl fun d _ => mul_comm _ _

include hU in
/-- The second branch. -/
theorem second (j : Fin 1024) : val_main_v105 (F := Ideal) x3 x8 x9 x10 (ix3 b t j) = branchB (before x3 (row b t)) (place t) (fun g d e => x8 (ix4 0 g d e)) (fun k => x9 (ix2 0 k)) (fun k j => x10 (ix3 0 k j)) j := by
  have h := fun g e => mix x3 x8 b t hU g e
  unfold val_main_v105 val_main_v104 val_main_v103 val_main_v102 val_main_v101 val_main_v100 val_main_v99
  generalize val_main_v98 (F := Ideal) x3 x8 = y at *
  pointwise [branchB, lin]
  simp only [h]

/-- A normed head of a row. -/
theorem norm (n : Fin 8) (d : Fin 128) : val_main_v14 (F := Ideal) x1 (ix4 b t n d) = headnorm (fun k => x1 (ix2 (row b t) k)) n d := by
  pointwise [val_main_v14, val_main_v13, val_main_v12, val_main_v11, val_main_v10, val_main_cst_1, val_main_v9, val_main_v8, val_main_cst_0, val_main_v7, val_main_v6, val_main_cst, val_main_v5, val_main_v4, headnorm]
  done

/-- The first branch. -/
theorem first (j : Fin 1024) : val_main_v23 (F := Ideal) x1 x2 x6 x7 (ix3 b t j) = branchA (fun k => x1 (ix2 (row b t) k)) (fun k => x2 (ix2 (row b t) k)) (fun k => x6 (ix2 0 k)) (fun k j => x7 (ix3 0 k j)) j := by
  have h := fun n d => norm x1 b t n d
  unfold val_main_v23 val_main_v22 val_main_v21 val_main_v20 val_main_v19 val_main_v18 val_main_v17 val_main_v16 val_main_v15 val_main_v1
  generalize val_main_v14 (F := Ideal) x1 = y at *
  pointwise [branchA, lin]
  simp only [h]
  done

include hU in
/-- A row of the reference. -/
theorem ref (n : Fin 16384) (j : Fin 1024) :
    val_main_v112 (F := Ideal) x0 x1 x2 x3 x4 x5 x6 x7 x8 x9 x10 x11 (ix2 n j)
      = merge (fun k => x0 (ix2 n k)) (fun k => x1 (ix2 n k)) (fun k => x2 (ix2 n k)) (before x3 n) (place ⟨n.val % 8192, by omega⟩)
          (fun k => x4 (ix2 n k)) (fun k => x5 (ix2 n k)) (fun k => x6 (ix2 0 k)) (fun k j => x7 (ix3 0 k j)) (fun g d e => x8 (ix4 0 g d e)) (fun k => x9 (ix2 0 k))
          (fun k j => x10 (ix3 0 k j)) (fun k j => x11 (ix3 0 k j)) j := by
  obtain ⟨b, t, rfl⟩ : ∃ (b : Fin 2) (t : Fin 8192), n = row b t :=
    ⟨⟨n.val / 8192, by omega⟩, ⟨n.val % 8192, by omega⟩, Fin.ext (by show n.val = n.val / 8192 * 8192 + n.val % 8192; omega)⟩
  rw [show (⟨(row b t).val % 8192, by omega⟩ : Fin 8192) = t from Fin.ext (by show (b.val * 8192 + t.val) % 8192 = t.val; omega)]
  have hb : (⟨(row b t).val / 8192, by omega⟩ : Fin 2) = b := Fin.ext (by show (b.val * 8192 + t.val) / 8192 = b.val; omega)
  have ht : (⟨(row b t).val % 8192, by omega⟩ : Fin 8192) = t := Fin.ext (by show (b.val * 8192 + t.val) % 8192 = t.val; omega)
  have ha := fun j => first x1 x2 x6 x7 b t j
  have hs := fun j => second x3 x8 x9 x10 b t hU j
  have e : val_main_v111 (F := Ideal) x0 x1 x2 x3 x4 x5 x6 x7 x8 x9 x10 x11 (ix3 b t j) = merge (fun k => x0 (ix2 (row b t) k)) (fun k => x1 (ix2 (row b t) k)) (fun k => x2 (ix2 (row b t) k)) (before x3 (row b t)) (place t)
          (fun k => x4 (ix2 (row b t) k)) (fun k => x5 (ix2 (row b t) k)) (fun k => x6 (ix2 0 k)) (fun k j => x7 (ix3 0 k j)) (fun g d e => x8 (ix4 0 g d e)) (fun k => x9 (ix2 0 k))
          (fun k j => x10 (ix3 0 k j)) (fun k j => x11 (ix3 0 k j)) j := by
    unfold val_main_v111 val_main_v110 val_main_v109 val_main_v108 val_main_v107 val_main_v106 val_main_v3 val_main_v2 val_main_v0
    generalize val_main_v23 (F := Ideal) x1 x2 x6 x7 = y at *
    generalize val_main_v105 (F := Ideal) x3 x8 x9 x10 = z at *
    pointwise [merge, lin]
    simp only [ha, hs]
  unfold val_main_v112
  generalize val_main_v111 (F := Ideal) x0 x1 x2 x3 x4 x5 x6 x7 x8 x9 x10 x11 = y at *
  pointwise []
  rw [← e]
  exact congrArg₂ (fun p q => y (ix3 p q j)) hb ht

end

end Cert.MergeRefIdeal.Block
-- ==== Proof.MergeValue.lean ====
/- The merge call's result array: what the call's run leaves there is, row by row, the merge of MergeBlock.lean. -/
module

public import proofs.«01_k».proof.Proof.MergeOut
public import proofs.«01_k».proof.Proof.MergeRef
public import Idealize.ShloMosaic.Lib.StableHlo.ReadAt

@[expose] public section

set_option maxRecDepth 16384

noncomputable section

namespace Cert.MergeIdeal.Arrays

open Cert.MergeIdeal Cert.MergeIdeal.Gen Cert.MergeIdeal.Block Cert.Model
open Cert.MergeRefIdeal.Block (before place)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The host's reshapes, at an index -/

/-- The heads' gain as a row. -/
theorem V1 (c : Dev nD) (k : Fin 1024) :
    (V m c main_v1 : S1x1024.Idx → EReal) (ix2 0 k) = (m ((c : Thread nD τ).loc main_arg6) : S1x1024.Idx → EReal) (ix2 0 k) := by
  unfold V
  after_reads_at

/-- The first branch's weights. -/
theorem V3 (c : Dev nD) (k j : Fin 1024) :
    (V m c main_v3 : S1024x1024.Idx → EReal) (ix2 k j) = (m ((c : Thread nD τ).loc main_arg7) : S1x1024x1024.Idx → EReal) (ix3 0 k j) := by
  unfold V
  after_reads_at

/-- The groups' matrices. -/
theorem V5 (c : Dev nD) (g : Fin 4) (d e : Fin 128) :
    (V m c main_v5 : S4x128x128.Idx → EReal) (ix3 g d e) = (m ((c : Thread nD τ).loc main_arg8) : S1x4x128x128.Idx → EReal) (ix4 0 g d e) := by
  unfold V
  after_reads_at

/-- The groups' scales. -/
theorem V7 (c : Dev nD) (k : Fin 512) :
    (V m c main_v7 : S1x512.Idx → EReal) (ix2 0 k) = (m ((c : Thread nD τ).loc main_arg9) : S1x512.Idx → EReal) (ix2 0 k) := by
  unfold V
  after_reads_at

/-- The second branch's weights. -/
theorem V9 (c : Dev nD) (k : Fin 512) (j : Fin 1024) :
    (V m c main_v9 : S512x1024.Idx → EReal) (ix2 k j) = (m ((c : Thread nD τ).loc main_arg10) : S1x512x1024.Idx → EReal) (ix3 0 k j) := by
  unfold V
  after_reads_at

/-- The output projection's weights. -/
theorem V11 (c : Dev nD) (k j : Fin 1024) :
    (V m c main_v11 : S1024x1024.Idx → EReal) (ix2 k j) = (m ((c : Thread nD τ).loc main_arg11) : S1x1024x1024.Idx → EReal) (ix3 0 k j) := by
  unfold V
  after_reads_at

/-! ## The windows' blocks, at an index -/

/-- The windows of the rows and of the result are at block `t` at grid point `t`. -/
theorem moves : ∀ t : Fin grid0.N,
    (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_5.index t 0 = t.val ∧ win0_5.index t 1 = 0) ∧ (win0_6.index t 0 = t.val ∧ win0_6.index t 1 = 0)
    ∧ (win0_13.index t 0 = t.val ∧ win0_13.index t 1 = 0) := by
  decide +kernel

/-- The window of the sixteen rows before is at the block that ends where block `t` starts. -/
theorem behind : ∀ t : Fin grid0.N, (t.val % 32 ≠ 0 → win0_4.index t 0 = t.val * 16 - 1) ∧ win0_4.index t 1 = 0 := by
  decide +kernel

/-- A grid point's second coordinate. -/
theorem second_coord : ∀ t : Fin grid0.N, ((grid0.coords t) 1).val = t.val % 32 := by
  decide +kernel

/-- The windows of the gain, scales and weights stay. -/
theorem stays : ∀ t : Fin grid0.N, (∀ a, win0_7.index t a = 0) ∧ (∀ a, win0_8.index t a = 0) ∧ (∀ a, win0_9.index t a = 0) ∧ (∀ a, win0_10.index t a = 0)
    ∧ (∀ a, win0_11.index t a = 0) ∧ (∀ a, win0_12.index t a = 0) := by
  decide +kernel

/-- Row `r` of block `t`, of 256 rows each. -/
abbrev row (t : Fin 64) (r : Fin 256) : Fin 16384 := ⟨t.val * 256 + r.val, by omega⟩

/-- A moving window's block. -/
theorem blk0 (c : Dev nD) (t : Fin cfg0.N) (r : Fin 256) (k : Fin 1024) :
    (iblk m c 0 t : S256x1024.Idx → EReal) (ix2 r k) = (V m c main_arg0 : S16384x1024.Idx → EReal) (ix2 (row t r) k) := by
  obtain ⟨h0, h1⟩ := (moves t).1
  refine congrArg (V m c main_arg0 : S16384x1024.Idx → EReal) (funext fun a => Fin.ext ?_)
  match a with
  | ⟨0, _⟩ => show win0_0.index t 0 * 256 + 1 * r.val = t.val * 256 + r.val; rw [h0]; omega
  | ⟨1, _⟩ => show win0_0.index t 1 * 1024 + 1 * k.val = k.val; rw [h1]; omega

/-- A moving window's block. -/
theorem blk1 (c : Dev nD) (t : Fin cfg0.N) (r : Fin 256) (k : Fin 1024) :
    (iblk m c 1 t : S256x1024.Idx → EReal) (ix2 r k) = (V m c main_arg1 : S16384x1024.Idx → EReal) (ix2 (row t r) k) := by
  obtain ⟨h0, h1⟩ := (moves t).2.1
  refine congrArg (V m c main_arg1 : S16384x1024.Idx → EReal) (funext fun a => Fin.ext ?_)
  match a with
  | ⟨0, _⟩ => show win0_1.index t 0 * 256 + 1 * r.val = t.val * 256 + r.val; rw [h0]; omega
  | ⟨1, _⟩ => show win0_1.index t 1 * 1024 + 1 * k.val = k.val; rw [h1]; omega

/-- A moving window's block. -/
theorem blk2 (c : Dev nD) (t : Fin cfg0.N) (r : Fin 256) (k : Fin 1024) :
    (iblk m c 2 t : S256x1024.Idx → EReal) (ix2 r k) = (V m c main_arg2 : S16384x1024.Idx → EReal) (ix2 (row t r) k) := by
  obtain ⟨h0, h1⟩ := (moves t).2.2.1
  refine congrArg (V m c main_arg2 : S16384x1024.Idx → EReal) (funext fun a => Fin.ext ?_)
  match a with
  | ⟨0, _⟩ => show win0_2.index t 0 * 256 + 1 * r.val = t.val * 256 + r.val; rw [h0]; omega
  | ⟨1, _⟩ => show win0_2.index t 1 * 1024 + 1 * k.val = k.val; rw [h1]; omega

/-- A moving window's block. -/
theorem blk3 (c : Dev nD) (t : Fin cfg0.N) (r : Fin 256) (k : Fin 512) :
    (iblk m c 3 t : S256x512.Idx → EReal) (ix2 r k) = (V m c main_arg3 : S16384x512.Idx → EReal) (ix2 (row t r) k) := by
  obtain ⟨h0, h1⟩ := (moves t).2.2.2.1
  refine congrArg (V m c main_arg3 : S16384x512.Idx → EReal) (funext fun a => Fin.ext ?_)
  match a with
  | ⟨0, _⟩ => show win0_3.index t 0 * 256 + 1 * r.val = t.val * 256 + r.val; rw [h0]; omega
  | ⟨1, _⟩ => show win0_3.index t 1 * 512 + 1 * k.val = k.val; rw [h1]; omega

/-- A moving window's block. -/
theorem blk5 (c : Dev nD) (t : Fin cfg0.N) (r : Fin 256) (k : Fin 1024) :
    (iblk m c 5 t : S256x1024.Idx → EReal) (ix2 r k) = (V m c main_arg4 : S16384x1024.Idx → EReal) (ix2 (row t r) k) := by
  obtain ⟨h0, h1⟩ := (moves t).2.2.2.2.1
  refine congrArg (V m c main_arg4 : S16384x1024.Idx → EReal) (funext fun a => Fin.ext ?_)
  match a with
  | ⟨0, _⟩ => show win0_5.index t 0 * 256 + 1 * r.val = t.val * 256 + r.val; rw [h0]; omega
  | ⟨1, _⟩ => show win0_5.index t 1 * 1024 + 1 * k.val = k.val; rw [h1]; omega

/-- A moving window's block. -/
theorem blk6 (c : Dev nD) (t : Fin cfg0.N) (r : Fin 256) (k : Fin 1024) :
    (iblk m c 6 t : S256x1024.Idx → EReal) (ix2 r k) = (V m c main_arg5 : S16384x1024.Idx → EReal) (ix2 (row t r) k) := by
  obtain ⟨h0, h1⟩ := (moves t).2.2.2.2.2.1
  refine congrArg (V m c main_arg5 : S16384x1024.Idx → EReal) (funext fun a => Fin.ext ?_)
  match a with
  | ⟨0, _⟩ => show win0_6.index t 0 * 256 + 1 * r.val = t.val * 256 + r.val; rw [h0]; omega
  | ⟨1, _⟩ => show win0_6.index t 1 * 1024 + 1 * k.val = k.val; rw [h1]; omega

/-- The block of the sixteen rows before. -/
theorem blk4 (c : Dev nD) (t : Fin cfg0.N) (h : t.val % 32 ≠ 0) (r : Fin 16) (k : Fin 512) :
    (iblk m c 4 t : S16x512.Idx → EReal) (ix2 r k) = (V m c main_arg3 : S16384x512.Idx → EReal) (ix2 ⟨t.val * 256 + r.val - 16, by have : t.val < 64 := t.isLt; omega⟩ k) := by
  have h0 := (behind t).1 h
  have h1 := (behind t).2
  refine congrArg (V m c main_arg3 : S16384x512.Idx → EReal) (funext fun a => Fin.ext ?_)
  match a with
  | ⟨0, _⟩ => show win0_4.index t 0 * 16 + 1 * r.val = t.val * 256 + r.val - 16; rw [h0]; omega
  | ⟨1, _⟩ => show win0_4.index t 1 * 512 + 1 * k.val = k.val; rw [h1]; omega

/-- A staying window's block. -/
theorem blk7 (c : Dev nD) (t : Fin cfg0.N) (r : Fin 1) (k : Fin 1024) :
    (iblk m c 7 t : S1x1024.Idx → EReal) (ix2 r k) = (V m c main_v1 : S1x1024.Idx → EReal) (ix2 r k) := by
  have h := (stays t).1
  refine congrArg (V m c main_v1 : S1x1024.Idx → EReal) (funext fun a => Fin.ext ?_)
  match a with
  | ⟨0, _⟩ => show win0_7.index t 0 * 1 + 1 * r.val = r.val; rw [h 0]; omega
  | ⟨1, _⟩ => show win0_7.index t 1 * 1024 + 1 * k.val = k.val; rw [h 1]; omega

/-- A staying window's block. -/
theorem blk8 (c : Dev nD) (t : Fin cfg0.N) (r : Fin 1024) (k : Fin 1024) :
    (iblk m c 8 t : S1024x1024.Idx → EReal) (ix2 r k) = (V m c main_v3 : S1024x1024.Idx → EReal) (ix2 r k) := by
  have h := (stays t).2.1
  refine congrArg (V m c main_v3 : S1024x1024.Idx → EReal) (funext fun a => Fin.ext ?_)
  match a with
  | ⟨0, _⟩ => show win0_8.index t 0 * 1024 + 1 * r.val = r.val; rw [h 0]; omega
  | ⟨1, _⟩ => show win0_8.index t 1 * 1024 + 1 * k.val = k.val; rw [h 1]; omega

/-- A staying window's block. -/
theorem blk9 (c : Dev nD) (t : Fin cfg0.N) (r : Fin 4) (k : Fin 128) (l : Fin 128) :
    (iblk m c 9 t : S4x128x128.Idx → EReal) (ix3 r k l) = (V m c main_v5 : S4x128x128.Idx → EReal) (ix3 r k l) := by
  have h := (stays t).2.2.1
  refine congrArg (V m c main_v5 : S4x128x128.Idx → EReal) (funext fun a => Fin.ext ?_)
  match a with
  | ⟨0, _⟩ => show win0_9.index t 0 * 4 + 1 * r.val = r.val; rw [h 0]; omega
  | ⟨1, _⟩ => show win0_9.index t 1 * 128 + 1 * k.val = k.val; rw [h 1]; omega
  | ⟨2, _⟩ => show win0_9.index t 2 * 128 + 1 * l.val = l.val; rw [h 2]; omega

/-- A staying window's block. -/
theorem blk10 (c : Dev nD) (t : Fin cfg0.N) (r : Fin 1) (k : Fin 512) :
    (iblk m c 10 t : S1x512.Idx → EReal) (ix2 r k) = (V m c main_v7 : S1x512.Idx → EReal) (ix2 r k) := by
  have h := (stays t).2.2.2.1
  refine congrArg (V m c main_v7 : S1x512.Idx → EReal) (funext fun a => Fin.ext ?_)
  match a with
  | ⟨0, _⟩ => show win0_10.index t 0 * 1 + 1 * r.val = r.val; rw [h 0]; omega
  | ⟨1, _⟩ => show win0_10.index t 1 * 512 + 1 * k.val = k.val; rw [h 1]; omega

/-- A staying window's block. -/
theorem blk11 (c : Dev nD) (t : Fin cfg0.N) (r : Fin 512) (k : Fin 1024) :
    (iblk m c 11 t : S512x1024.Idx → EReal) (ix2 r k) = (V m c main_v9 : S512x1024.Idx → EReal) (ix2 r k) := by
  have h := (stays t).2.2.2.2.1
  refine congrArg (V m c main_v9 : S512x1024.Idx → EReal) (funext fun a => Fin.ext ?_)
  match a with
  | ⟨0, _⟩ => show win0_11.index t 0 * 512 + 1 * r.val = r.val; rw [h 0]; omega
  | ⟨1, _⟩ => show win0_11.index t 1 * 1024 + 1 * k.val = k.val; rw [h 1]; omega

/-- A staying window's block. -/
theorem blk12 (c : Dev nD) (t : Fin cfg0.N) (r : Fin 1024) (k : Fin 1024) :
    (iblk m c 12 t : S1024x1024.Idx → EReal) (ix2 r k) = (V m c main_v11 : S1024x1024.Idx → EReal) (ix2 r k) := by
  have h := (stays t).2.2.2.2.2
  refine congrArg (V m c main_v11 : S1024x1024.Idx → EReal) (funext fun a => Fin.ext ?_)
  match a with
  | ⟨0, _⟩ => show win0_12.index t 0 * 1024 + 1 * r.val = r.val; rw [h 0]; omega
  | ⟨1, _⟩ => show win0_12.index t 1 * 1024 + 1 * k.val = k.val; rw [h 1]; omega

/-! ## The result -/

/-- An index of a matrix is its two coordinates. -/
theorem ix2_self {a b : ℕ} (y : (⟨2, ![a, b]⟩ : Shape).Idx) : y = ix2 (y 0) (y 1) :=
  funext fun i => by fin_cases i <;> rfl

/-- The body's count of a row is the row's position in its sequence. -/
theorem count (t : Fin 64) (r : Fin 256) (h : (row t r).val % 8192 < 8192) : posn (BitVec.ofNat 32 (t.val % 32)) r.val = place ⟨(row t r).val % 8192, h⟩ := by
  have e : ∀ a : Fin 32, ∀ r : Fin 256, (BitVec.ofNat 32 a.val * 256#32 + 1#32 + BitVec.ofNat 32 r.val).toInt = 1 + (BitVec.ofNat 32 (a.val * 256 + r.val)).toInt := by
    decide +kernel
  unfold posn place
  have e' : (row t r).val % 8192 = t.val % 32 * 256 + r.val := by show (t.val * 256 + r.val) % 8192 = _; omega
  rw [show (⟨(row t r).val % 8192, h⟩ : Fin 8192).val = t.val % 32 * 256 + r.val from e', e ⟨t.val % 32, by omega⟩ r]
  push_cast
  rfl

/-- The call's result. -/
def G (c : Dev nD) : S16384x1024.Idx → EReal := fun i =>
  merge (fun k => (m ((c : Thread nD τ).loc main_arg0) : S16384x1024.Idx → EReal) (ix2 (show Fin 16384 from i 0) k)) (fun k => (m ((c : Thread nD τ).loc main_arg1) : S16384x1024.Idx → EReal) (ix2 (show Fin 16384 from i 0) k)) (fun k => (m ((c : Thread nD τ).loc main_arg2) : S16384x1024.Idx → EReal) (ix2 (show Fin 16384 from i 0) k)) (before (m ((c : Thread nD τ).loc main_arg3) : S16384x512.Idx → EReal) (show Fin 16384 from i 0)) (place ⟨((show Fin 16384 from i 0)).val % 8192, by omega⟩)
    (fun k => (m ((c : Thread nD τ).loc main_arg4) : S16384x1024.Idx → EReal) (ix2 (show Fin 16384 from i 0) k)) (fun k => (m ((c : Thread nD τ).loc main_arg5) : S16384x1024.Idx → EReal) (ix2 (show Fin 16384 from i 0) k)) (fun k => (m ((c : Thread nD τ).loc main_arg6) : S1x1024.Idx → EReal) (ix2 0 k)) (fun k j => (m ((c : Thread nD τ).loc main_arg7) : S1x1024x1024.Idx → EReal) (ix3 0 k j)) (fun g d e => (m ((c : Thread nD τ).loc main_arg8) : S1x4x128x128.Idx → EReal) (ix4 0 g d e))
    (fun k => (m ((c : Thread nD τ).loc main_arg9) : S1x512.Idx → EReal) (ix2 0 k)) (fun k j => (m ((c : Thread nD τ).loc main_arg10) : S1x512x1024.Idx → EReal) (ix3 0 k j)) (fun k j => (m ((c : Thread nD τ).loc main_arg11) : S1x1024x1024.Idx → EReal) (ix3 0 k j)) (i 1)

/-- What grid point `t` leaves in row `r` of its block. -/
theorem at_row (c : Dev nD) (t : Fin cfg0.N) (r : Fin 256) (j : Fin 1024) :
    outsAt0 (F := Ideal) m c t (ix2 r j) = G m c (ix2 (row t r) j) := by
  unfold outsAt0
  refine (out_at _ _ _ _ _ _ _ _ _ _ _ _ _ _ _ _ _ _ _ _ _ _ _ _ _ _ _ _ _ _ _ _ _ _ _ _ _ _ _ _ _ _ _ _ _ r j).trans ?_
  have e0 := funext fun k => (blk0 m c t r k).trans (congrFun (V_main_arg0 m c) _)
  have e1 := funext fun k => (blk1 m c t r k).trans (congrFun (V_main_arg1 m c) _)
  have e2 := funext fun k => (blk2 m c t r k).trans (congrFun (V_main_arg2 m c) _)
  have e5 := funext fun k => (blk5 m c t r k).trans (congrFun (V_main_arg4 m c) _)
  have e6 := funext fun k => (blk6 m c t r k).trans (congrFun (V_main_arg5 m c) _)
  have e7 := funext fun k => (blk7 m c t 0 k).trans (V1 m c k)
  have e8 := funext fun k => funext fun j => (blk8 m c t k j).trans (V3 m c k j)
  have e9 := funext fun g => funext fun d => funext fun e => (blk9 m c t g d e).trans (V5 m c g d e)
  have e10 := funext fun k => (blk10 m c t 0 k).trans (V7 m c k)
  have e11 := funext fun k => funext fun j => (blk11 m c t k j).trans (V9 m c k j)
  have e12 := funext fun k => funext fun j => (blk12 m c t k j).trans (V11 m c k j)
  rw [e0, e1, e2, e5, e6, e7, e8, e9, e10, e11, e12, second_coord t, count t r (Nat.mod_lt _ (by omega))]
  refine merge_congr _ _ _ _ _ _ _ _ _ _ _ _ _ _ _ fun s hs => funext fun k => ?_
  rw [past_hist _ _ _ r s hs k]
  have hr := r.isLt
  have ht : t.val < 64 := t.isLt
  unfold before
  by_cases h : s ≤ r.val
  · rw [dif_pos h, if_pos (by show s ≤ (t.val * 256 + r.val) % 8192; omega)]
    refine (blk3 m c t _ k).trans ((congrFun (V_main_arg3 m c) _).trans ?_)
    exact congrArg (fun q => (m ((c : Thread nD τ).loc main_arg3) : S16384x512.Idx → EReal) (ix2 q k)) (Fin.ext (by show t.val * 256 + (r.val - s) = t.val * 256 + r.val - s; omega))
  · rw [dif_neg h, second_coord t]
    by_cases h0 : t.val % 32 = 0
    · rw [if_pos h0, if_neg (by show ¬ s ≤ (t.val * 256 + r.val) % 8192; omega)]
    · rw [if_neg h0, if_pos (by show s ≤ (t.val * 256 + r.val) % 8192; omega)]
      refine (blk4 m c t h0 _ k).trans ((congrFun (V_main_arg3 m c) _).trans ?_)
      exact congrArg (fun q => (m ((c : Thread nD τ).loc main_arg3) : S16384x512.Idx → EReal) (ix2 q k)) (Fin.ext (by show t.val * 256 + (16 + r.val - s) - 16 = t.val * 256 + r.val - s; omega))

/-- What grid point `t` writes back is block `t` of the result. -/
theorem flushed13 (c : Dev nD) (t : Fin cfg0.N) :
    (dats m 0 c).flushed 13 t = ((cfg0.win 13).blk t).view.read (Elt Ideal) (G m c) := by
  rw [Value.flushed13]
  refine funext fun (y : S256x1024.Idx) => ?_
  obtain ⟨h0, h1⟩ := (moves t).2.2.2.2.2.2
  refine ((congrArg _ (ix2_self y)).trans (at_row m c t (y 0) (y 1))).trans (congrArg (G m c) (funext fun a => Fin.ext ?_ : ix2 (row t (y 0)) (y 1) = _))
  match a with
  | ⟨0, _⟩ => show t.val * 256 + (y 0).val = win0_13.index t 0 * 256 + 1 * (y 0).val; rw [h0]; omega
  | ⟨1, _⟩ => show (y 1).val = win0_13.index t 1 * 1024 + 1 * (y 1).val; rw [h1]; omega

/-- The result after the run. -/
theorem final13 (c : Dev nD) : (dats m 0 c).arrAt 13 cfg0.N = G m c := by
  refine (dats m 0 c).arrAt_eq_of_cover 13 (G m c) (fun t _ => flushed13 m c t) fun (i : S16384x1024.Idx) => ?_
  have h0 : (i 0).val < 16384 := (i 0).isLt
  have h1 : (i 1).val < 1024 := (i 1).isLt
  let t : Fin cfg0.N := ⟨(i 0).val / 256, by rw [show cfg0.N = 64 from N_0]; omega⟩
  obtain ⟨e0, e1⟩ := (moves t).2.2.2.2.2.2
  refine ⟨t, flush0_13 t, ?_⟩
  show i ∈ ((View.whole main_v12).slice (win0_13.rect t)).set
  rw [View.set_slice_whole, Rect.mem_set_unit]
  intro a
  match a with
  | ⟨0, _⟩ =>
    show win0_13.index t 0 * 256 ≤ (i 0).val ∧ (i 0).val < win0_13.index t 0 * 256 + 256
    rw [e0]; show (i 0).val / 256 * 256 ≤ _ ∧ _ < (i 0).val / 256 * 256 + 256; omega
  | ⟨1, _⟩ =>
    show win0_13.index t 1 * 1024 ≤ (i 1).val ∧ (i 1).val < win0_13.index t 1 * 1024 + 1024
    rw [e1]; omega

/-- The call's run: its result, the arguments unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final13 m c), (h c).2⟩) (Value.run_blocks m ρ)

end Cert.MergeIdeal.Arrays
end
-- ==== Proof.MergeClaim.lean ====
/- The claims of the merge call: its frames and its value against the reference. -/
module

public import proofs.«01_k».proof.Proof.MergeValue
public import proofs.«01_k».proof.Proof.Lemmas
public import proofs.«01_k».proof.Proof.Gen.MergeRefIdeal.Run
public import proofs.«01_k».proof.Proof.Gen.Merge.Frame
public import proofs.«01_k».proof.Proof.Gen.MergeRefIdeal
public import proofs.«01_k».proof.Proof.Gen.Pre_merge_finite
public import proofs.«01_k».proof.Defs
public import Idealize.ShloMosaic.Lib.Quiescent

@[expose] public section

set_option maxRecDepth 16384

noncomputable section

open Idealize.ShloMosaic Idealize.ShloMosaic.TcCoe Idealize.SL.Sem

namespace Cert.MergeProof

open Cert.Model Cert.MergeRefIdeal.Block

/-- The call runs without a fault and leaves its arguments and semaphores. -/
theorem frame : Cert.quiescent_Merge := fun m ρ _ => Cert.Merge.Gen.frame m ρ
/-- The idealized call likewise. -/
theorem frame_ideal : Cert.quiescent_MergeIdeal := fun m ρ _ => Cert.MergeIdeal.Gen.frame m ρ
/-- The reference likewise. -/
theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The idealized call likewise, of finite pooled values. -/
theorem frame_ideal_pre : Cert.quiescent_MergeIdeal_pre_merge_finite := fun m ρ _ => Cert.MergeIdeal.Gen.frame m ρ
/-- The reference likewise, of finite pooled values. -/
theorem frame_ref_pre : Cert.quiescent_MergeRefIdeal_pre_merge_finite := fun m ρ _ => frame_ref m ρ trivial

/-- The call's result is the reference's, of finite pooled values. -/
theorem algebraic : Cert.algebraic_MergeIdeal_MergeRefIdeal_pre_merge_finite := by
  intro m g m' g' hpre hagree
  refine ⟨Cert.MergeIdeal.Arrays.G m, Cert.MergeIdeal.Arrays.run m g, ?_⟩
  refine (θ_run Cert.MergeRefIdeal.defs _ _).mono (fun r h c => ?_) (Cert.MergeRefIdeal.Value.run (F := Ideal) m' g')
  obtain ⟨a0, a1, a2, a3, a4, a5, a6, a7, a8, a9, a10, a11⟩ := hagree c
  have p3 := hpre c
  obtain ⟨h0, hk⟩ := h c
  refine ⟨?_, hk⟩
  choose U hU using fun (n : Fin 16384) (k : Fin 512) => Cert.Lemmas.real_of_test p3 (ix2 n k)
  rw [h0, Cert.MergeRefIdeal.Read.val_main_v112_eq, a0, a1, a2, a3, a4, a5, a6, a7, a8, a9, a10, a11]
  exact funext fun i => (congrArg _ (Cert.MergeIdeal.Arrays.ix2_self i)).trans (ref _ _ _ _ _ _ _ _ _ _ _ _ hU (i 0) (i 1))

end Cert.MergeProof
end
-- ==== Proof.lean ====
/- The certificate: the frames of the calls, of their idealized forms and of their references, and the value of each call
   against its reference. -/
module

public import proofs.«01_k».proof.Proof.FfnClaim
public import proofs.«01_k».proof.Proof.PleClaim
public import proofs.«01_k».proof.Proof.HgrnClaim
public import proofs.«01_k».proof.Proof.ProjClaim
public import proofs.«01_k».proof.Proof.MergeClaim
public import Idealize.ShloMosaic.Adequacy
public import Idealize.ShloMosaic.Init

@[expose] public section

noncomputable section

namespace Cert.Proof

/-- Everything the certificate claims. -/
theorem claim : Cert.Claim :=
  ⟨Cert.Ffn.Gen.facts, Cert.FfnIdeal.Gen.facts, Cert.FfnRefIdeal.Gen.facts, Cert.Ple.Gen.facts, Cert.PleIdeal.Gen.facts, Cert.PleRefIdeal.Gen.facts, Cert.Hgrn.Gen.facts, Cert.HgrnIdeal.Gen.facts, Cert.HgrnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Pre_hgrn_finite.Gen.facts, Cert.Pre_merge_finite.Gen.facts,
    FfnProof.frame, FfnProof.frame_ideal, FfnProof.frame_ref,
    PleProof.frame, PleProof.frame_ideal, PleProof.frame_ref,
    HgrnProof.frame, HgrnProof.frame_ideal, HgrnProof.frame_ideal_pre, HgrnProof.frame_ref, HgrnProof.frame_ref_pre,
    ProjProof.frame, ProjProof.frame_ideal, ProjProof.frame_ref,
    MergeProof.frame, MergeProof.frame_ideal, MergeProof.frame_ideal_pre, MergeProof.frame_ref, MergeProof.frame_ref_pre,
    trivial, FfnProof.algebraic, trivial, PleProof.algebraic, trivial, HgrnProof.algebraic, trivial, ProjProof.algebraic, trivial, MergeProof.algebraic⟩

end Cert.Proof
end
